-- ==== Defs.lean ====
def Pre_Sc (m : (ℓ : Loc Cert.Sc.nD Cert.Sc.τ Cert.Sc.sig) → Buf (Elt Bits) ℓ) : Prop :=
  True

def Pre_ScIdeal (m : (ℓ : Loc Cert.ScIdeal.nD Cert.ScIdeal.τ Cert.ScIdeal.sig) → Buf (Elt Ideal) ℓ) : Prop :=
  True

def Pre_ScRefIdeal (m : (ℓ : Loc Cert.ScRefIdeal.nD Cert.ScRefIdeal.τ Cert.ScRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (onTc (τ := Cert.Sc.τ) (Cert.Sc.main (F := Bits))) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0)
      ∧ r.2.mem ((c.tc : Thread Cert.Sc.nD Cert.Sc.τ).loc Cert.Sc.main_arg1) = m ((c.tc : Thread Cert.Sc.nD Cert.Sc.τ).loc Cert.Sc.main_arg1)
      ∧ r.2.mem ((c.tc : Thread Cert.Sc.nD Cert.Sc.τ).loc Cert.Sc.main_arg2) = m ((c.tc : Thread Cert.Sc.nD Cert.Sc.τ).loc Cert.Sc.main_arg2)
      ∧ r.2.mem ((c.tc : Thread Cert.Sc.nD Cert.Sc.τ).loc Cert.Sc.main_arg3) = m ((c.tc : Thread Cert.Sc.nD Cert.Sc.τ).loc Cert.Sc.main_arg3)
      ∧ r.2.mem ((c.tc : Thread Cert.Sc.nD Cert.Sc.τ).loc Cert.Sc.main_arg4) = m ((c.tc : Thread Cert.Sc.nD Cert.Sc.τ).loc Cert.Sc.main_arg4))
      ∧ r.2.sem = fun _ => 0)

def quiescent_ScIdeal [hScIdeal : Cert.ScIdeal.Facts] : Prop :=
  ∀ (m : (ℓ : Loc Cert.ScIdeal.nD Cert.ScIdeal.τ Cert.ScIdeal.sig) → Buf (Elt Ideal) ℓ) (g : Dev Cert.ScIdeal.nD → PrngReg), Pre_ScIdeal m →
    θ_run (Cert.ScIdeal.defs (F := Ideal)) (onTc (τ := Cert.ScIdeal.τ) (Cert.ScIdeal.main (F := Ideal))) ⟨m, fun _ => 0, g⟩ (fun r => (∀ c : Dev Cert.ScIdeal.nD,
      r.2.mem ((c.tc : Thread Cert.ScIdeal.nD Cert.ScIdeal.τ).loc Cert.ScIdeal.main_arg0) = m ((c.tc : Thread Cert.ScIdeal.nD Cert.ScIdeal.τ).loc Cert.ScIdeal.main_arg0)
      ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
      ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
      ∧ r.2.mem ((c.tc : Thread Cert.ScIdeal.nD Cert.ScIdeal.τ).loc Cert.ScIdeal.main_arg3) = m ((c.tc : Thread Cert.ScIdeal.nD Cert.ScIdeal.τ).loc Cert.ScIdeal.main_arg3)
      ∧ r.2.mem ((c.tc : Thread Cert.ScIdeal.nD Cert.ScIdeal.τ).loc Cert.ScIdeal.main_arg4) = m ((c.tc : Thread Cert.ScIdeal.nD Cert.ScIdeal.τ).loc Cert.ScIdeal.main_arg4))
      ∧ r.2.sem = fun _ => 0)

def quiescent_ScRefIdeal [hScRefIdeal : Cert.ScRefIdeal.Facts] : Prop :=
  ∀ (m : (ℓ : Loc Cert.ScRefIdeal.nD Cert.ScRefIdeal.τ Cert.ScRefIdeal.sig) → Buf (Elt Ideal) ℓ) (g : Dev Cert.ScRefIdeal.nD → PrngReg), Pre_ScRefIdeal m →
    θ_run (Cert.ScRefIdeal.defs (F := Ideal)) (onTc (τ := Cert.ScRefIdeal.τ) (Cert.ScRefIdeal.main (F := Ideal))) ⟨m, fun _ => 0, g⟩ (fun r => (∀ c : Dev Cert.ScRefIdeal.nD,
      r.2.mem ((c.tc : Thread Cert.ScRefIdeal.nD Cert.ScRefIdeal.τ).loc Cert.ScRefIdeal.main_arg0) = m ((c.tc : Thread Cert.ScRefIdeal.nD Cert.ScRefIdeal.τ).loc Cert.ScRefIdeal.main_arg0)
      ∧ r.2.mem ((c.tc : Thread Cert.ScRefIdeal.nD Cert.ScRefIdeal.τ).loc Cert.ScRefIdeal.main_arg1) = m ((c.tc : Thread Cert.ScRefIdeal.nD Cert.ScRefIdeal.τ).loc Cert.ScRefIdeal.main_arg1)
      ∧ r.2.mem ((c.tc : Thread Cert.ScRefIdeal.nD Cert.ScRefIdeal.τ).loc Cert.ScRefIdeal.main_arg2) = m ((c.tc : Thread Cert.ScRefIdeal.nD Cert.ScRefIdeal.τ).loc Cert.ScRefIdeal.main_arg2)
      ∧ r.2.mem ((c.tc : Thread Cert.ScRefIdeal.nD Cert.ScRefIdeal.τ).loc Cert.ScRefIdeal.main_arg3) = m ((c.tc : Thread Cert.ScRefIdeal.nD Cert.ScRefIdeal.τ).loc Cert.ScRefIdeal.main_arg3)
      ∧ r.2.mem ((c.tc : Thread Cert.ScRefIdeal.nD Cert.ScRefIdeal.τ).loc Cert.ScRefIdeal.main_arg4) = m ((c.tc : Thread Cert.ScRefIdeal.nD Cert.ScRefIdeal.τ).loc Cert.ScRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def preserves_Sc_ScIdeal : Prop :=
  True

def algebraic_ScIdeal_ScRefIdeal [hScIdeal : Cert.ScIdeal.Facts] [hScRefIdeal : Cert.ScRefIdeal.Facts] : Prop :=
  ∀ (m : (ℓ : Loc Cert.ScIdeal.nD Cert.ScIdeal.τ Cert.ScIdeal.sig) → Buf (Elt Ideal) ℓ) (g : Dev Cert.ScIdeal.nD → PrngReg)
    (m' : (ℓ : Loc Cert.ScRefIdeal.nD Cert.ScRefIdeal.τ Cert.ScRefIdeal.sig) → Buf (Elt Ideal) ℓ) (g' : Dev Cert.ScRefIdeal.nD → PrngReg), Pre_ScIdeal m →
    (∀ c : Dev Cert.ScIdeal.nD,
      m' ((c.tc : Thread Cert.ScRefIdeal.nD Cert.ScRefIdeal.τ).loc Cert.ScRefIdeal.main_arg0) = m ((c.tc : Thread Cert.ScIdeal.nD Cert.ScIdeal.τ).loc Cert.ScIdeal.main_arg0)
      ∧ m' ((c.tc : Thread Cert.ScRefIdeal.nD Cert.ScRefIdeal.τ).loc Cert.ScRefIdeal.main_arg1) = m ((c.tc : Thread Cert.ScIdeal.nD Cert.ScIdeal.τ).loc Cert.ScIdeal.main_arg1)
      ∧ m' ((c.tc : Thread Cert.ScRefIdeal.nD Cert.ScRefIdeal.τ).loc Cert.ScRefIdeal.main_arg2) = m ((c.tc : Thread Cert.ScIdeal.nD Cert.ScIdeal.τ).loc Cert.ScIdeal.main_arg2)
      ∧ m' ((c.tc : Thread Cert.ScRefIdeal.nD Cert.ScRefIdeal.τ).loc Cert.ScRefIdeal.main_arg3) = m ((c.tc : Thread Cert.ScIdeal.nD Cert.ScIdeal.τ).loc Cert.ScIdeal.main_arg3)
      ∧ m' ((c.tc : Thread Cert.ScRefIdeal.nD Cert.ScRefIdeal.τ).loc Cert.ScRefIdeal.main_arg4) = m ((c.tc : Thread Cert.ScIdeal.nD Cert.ScIdeal.τ).loc Cert.ScIdeal.main_arg4)) →
    ∃ (v0 : (c : Dev Cert.ScIdeal.nD) → Buf (Elt Ideal) ((c.tc : Thread Cert.ScIdeal.nD Cert.ScIdeal.τ).loc Cert.ScIdeal.main_v5)),
      θ_run (Cert.ScIdeal.defs (F := Ideal)) (onTc (τ := Cert.ScIdeal.τ) (Cert.ScIdeal.main (F := Ideal))) ⟨m, fun _ => 0, g⟩ (fun r => ∀ c : Dev Cert.ScIdeal.nD,
          r.2.mem ((c.tc : Thread Cert.ScIdeal.nD Cert.ScIdeal.τ).loc Cert.ScIdeal.main_v5) = v0 c
          ∧ r.2.mem ((c.tc : Thread Cert.ScIdeal.nD Cert.ScIdeal.τ).loc Cert.ScIdeal.main_arg0) = m ((c.tc : Thread Cert.ScIdeal.nD Cert.ScIdeal.τ).loc Cert.ScIdeal.main_arg0)
          ∧ r.2.mem ((c.tc : Thread Cert.ScIdeal.nD Cert.ScIdeal.τ).loc Cert.ScIdeal.main_arg1) = m ((c.tc : Thread Cert.ScIdeal.nD Cert.ScIdeal.τ).loc Cert.ScIdeal.main_arg1)
          ∧ r.2.mem ((c.tc : Thread Cert.ScIdeal.nD Cert.ScIdeal.τ).loc Cert.ScIdeal.main_arg2) = m ((c.tc : Thread Cert.ScIdeal.nD Cert.ScIdeal.τ).loc Cert.ScIdeal.main_arg2)
          ∧ r.2.mem ((c.tc : Thread Cert.ScIdeal.nD Cert.ScIdeal.τ).loc Cert.ScIdeal.main_arg3) = m ((c.tc : Thread Cert.ScIdeal.nD Cert.ScIdeal.τ).loc Cert.ScIdeal.main_arg3)
          ∧ r.2.mem ((c.tc : Thread Cert.ScIdeal.nD Cert.ScIdeal.τ).loc Cert.ScIdeal.main_arg4) = m ((c.tc : Thread Cert.ScIdeal.nD Cert.ScIdeal.τ).loc Cert.ScIdeal.main_arg4))
      ∧ θ_run (Cert.ScRefIdeal.defs (F := Ideal)) (onTc (τ := Cert.ScRefIdeal.τ) (Cert.ScRefIdeal.main (F := Ideal))) ⟨m', fun _ => 0, g'⟩ (fun r => ∀ c : Dev Cert.ScRefIdeal.nD,
          r.2.mem ((c.tc : Thread Cert.ScRefIdeal.nD Cert.ScRefIdeal.τ).loc Cert.ScRefIdeal.main_v51) = v0 c
          ∧ r.2.mem ((c.tc : Thread Cert.ScRefIdeal.nD Cert.ScRefIdeal.τ).loc Cert.ScRefIdeal.main_arg0) = m' ((c.tc : Thread Cert.ScRefIdeal.nD Cert.ScRefIdeal.τ).loc Cert.ScRefIdeal.main_arg0)
          ∧ r.2.mem ((c.tc : Thread Cert.ScRefIdeal.nD Cert.ScRefIdeal.τ).loc Cert.ScRefIdeal.main_arg1) = m' ((c.tc : Thread Cert.ScRefIdeal.nD Cert.ScRefIdeal.τ).loc Cert.ScRefIdeal.main_arg1)
          ∧ r.2.mem ((c.tc : Thread Cert.ScRefIdeal.nD Cert.ScRefIdeal.τ).loc Cert.ScRefIdeal.main_arg2) = m' ((c.tc : Thread Cert.ScRefIdeal.nD Cert.ScRefIdeal.τ).loc Cert.ScRefIdeal.main_arg2)
          ∧ r.2.mem ((c.tc : Thread Cert.ScRefIdeal.nD Cert.ScRefIdeal.τ).loc Cert.ScRefIdeal.main_arg3) = m' ((c.tc : Thread Cert.ScRefIdeal.nD Cert.ScRefIdeal.τ).loc Cert.ScRefIdeal.main_arg3)
          ∧ r.2.mem ((c.tc : Thread Cert.ScRefIdeal.nD Cert.ScRefIdeal.τ).loc Cert.ScRefIdeal.main_arg4) = m' ((c.tc : Thread Cert.ScRefIdeal.nD Cert.ScRefIdeal.τ).loc Cert.ScRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v41) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def Claim : Prop :=
  ∃ (hSc : Cert.Sc.Facts) (hScIdeal : Cert.ScIdeal.Facts) (hScRefIdeal : Cert.ScRefIdeal.Facts) (hFfn : Cert.Ffn.Facts) (hFfnIdeal : Cert.FfnIdeal.Facts) (hFfnRefIdeal : Cert.FfnRefIdeal.Facts) (hLast : Cert.Last.Facts) (hLastIdeal : Cert.LastIdeal.Facts) (hLastRefIdeal : Cert.LastRefIdeal.Facts),
    quiescent_Sc (hSc := hSc)
    ∧ quiescent_ScIdeal (hScIdeal := hScIdeal)
    ∧ quiescent_ScRefIdeal (hScRefIdeal := hScRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Last (hLast := hLast)
    ∧ quiescent_LastIdeal (hLastIdeal := hLastIdeal)
    ∧ quiescent_LastRefIdeal (hLastRefIdeal := hLastRefIdeal)
    ∧ preserves_Sc_ScIdeal
    ∧ algebraic_ScIdeal_ScRefIdeal (hScIdeal := hScIdeal) (hScRefIdeal := hScRefIdeal)
    ∧ preserves_Ffn_FfnIdeal
    ∧ algebraic_FfnIdeal_FfnRefIdeal (hFfnIdeal := hFfnIdeal) (hFfnRefIdeal := hFfnRefIdeal)
    ∧ preserves_Last_LastIdeal
    ∧ algebraic_LastIdeal_LastRefIdeal (hLastIdeal := hLastIdeal) (hLastRefIdeal := hLastRefIdeal)
-- ==== Sc.lean ====
abbrev S2x8192x1024 : Shape := ⟨3, ![2, 8192, 1024]⟩
abbrev S4x3x1024 : Shape := ⟨3, ![4, 3, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1x1024 : Shape := ⟨3, ![1, 1, 1024]⟩
abbrev S1024 : Shape := ⟨1, ![1024]⟩
abbrev S1x3x1024 : Shape := ⟨3, ![1, 3, 1024]⟩
abbrev S3x1024 : Shape := ⟨2, ![3, 1024]⟩
abbrev S1x1024 : Shape := ⟨2, ![1, 1024]⟩
abbrev S1x8x1024 : Shape := ⟨3, ![1, 8, 1024]⟩
abbrev S1x1024x1024 : Shape := ⟨3, ![1, 1024, 1024]⟩
abbrev S1x1024x3072 : Shape := ⟨3, ![1, 1024, 3072]⟩
abbrev S1040x1024 : Shape := ⟨2, ![1040, 1024]⟩
abbrev S1024x1024 : Shape := ⟨2, ![1024, 1024]⟩
abbrev S1024x1 : Shape := ⟨2, ![1024, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S4x3x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1x1024, .f32⟩
  | .hbm, ⟨6, _⟩ => ⟨S1024, .f32⟩
  | .hbm, ⟨7, _⟩ => ⟨S1x3x1024, .f32⟩
  | .hbm, ⟨8, _⟩ => ⟨S3x1024, .f32⟩
  | .hbm, ⟨9, _⟩ => ⟨S1x1024, .f32⟩
  | .hbm, ⟨10, _⟩ => ⟨S2x8192x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1024x3072, .f32⟩
  | .local _ .vmem, ⟨8, _⟩ => ⟨S3x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1040x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ScRefIdeal.lean ====
abbrev S2x8192x1024 : Shape := ⟨3, ![2, 8192, 1024]⟩
abbrev S4x3x1024 : Shape := ⟨3, ![4, 3, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S2x8192x3072 : Shape := ⟨3, ![2, 8192, 3072]⟩
abbrev S2x8194x1024 : Shape := ⟨3, ![2, 8194, 1024]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x3x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x1024x3072, .f32⟩
  | .hbm, ⟨24, _⟩ => ⟨S1024x3072, .f32⟩
  | .hbm, ⟨25, _⟩ => ⟨S1x3x1024, .f32⟩
  | .hbm, ⟨26, _⟩ => ⟨S3x1024, .f32⟩
  | .hbm, ⟨27, _⟩ => ⟨S1x1024x1024, .f32⟩
  | .hbm, ⟨28, _⟩ => ⟨S1024x1024, .f32⟩
  | .hbm, ⟨29, _⟩ => ⟨S2x8192x3072, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S_, .i32⟩
  | .hbm, ⟨35, _⟩ => ⟨S_, .f32⟩
  | .hbm, ⟨36, _⟩ => ⟨S2x8194x1024, .f32⟩
  | .hbm, ⟨37, _⟩ => ⟨S2x8192x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S1x1024, .f32⟩
  | .hbm, ⟨48, _⟩ => ⟨S1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S1x1024, .f32⟩
  | .hbm, ⟨55, _⟩ => ⟨S1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Ffn.lean ====
abbrev S2x8192x1024 : Shape := ⟨3, ![2, 8192, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S16384x1024 : Shape := ⟨2, ![16384, 1024]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S2x1024x256 : Shape := ⟨3, ![2, 1024, 256]⟩
abbrev S2x256x1024 : Shape := ⟨3, ![2, 256, 1024]⟩
abbrev S1024x2816 : Shape := ⟨2, ![1024, 2816]⟩
abbrev S3x2 : Shape := ⟨2, ![3, 2]⟩
abbrev S1024x1 : Shape := ⟨2, ![1024, 1]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x1x1024x256 : Shape := ⟨4, ![1, 1, 1024, 256]⟩
abbrev S1x256x1024 : Shape := ⟨3, ![1, 256, 1024]⟩
abbrev S256x1024 : Shape := ⟨2, ![256, 1024]⟩
abbrev S1x1x256x1024 : Shape := ⟨4, ![1, 1, 256, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S4x3x1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x5632, .bf16⟩
  | .local _ .vmem, ⟨6, _⟩ => ⟨S2816x1024, .bf16⟩
  | .local _ .vmem, ⟨7, _⟩ => ⟨S2x1024x256, .f32⟩
  | .local _ .vmem, ⟨8, _⟩ => ⟨S2x1024x256, .f32⟩
  | .local _ .vmem, ⟨9, _⟩ => ⟨S2x256x1024, .f32⟩
  | .local _ .vmem, ⟨10, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnRefIdeal.lean ====
abbrev S2x8192x1024 : Shape := ⟨3, ![2, 8192, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S16384x1024 : Shape := ⟨2, ![16384, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x3x1024, .f32⟩
  | .hbm, ⟨2, _⟩ => ⟨S4x2x1024x5632, .f32⟩
  | .hbm, ⟨3, _⟩ => ⟨S4x2x2816x1024, .f32⟩
  | .hbm, ⟨4, _⟩ => ⟨S16384x1024, .f32⟩
  | .hbm, ⟨5, _⟩ => ⟨S1x1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1x1024x5632, .f32⟩
  | .hbm, ⟨24, _⟩ => ⟨S1024x5632, .f32⟩
  | .hbm, ⟨25, _⟩ => ⟨S1x1x2816x1024, .f32⟩
  | .hbm, ⟨26, _⟩ => ⟨S2816x1024, .f32⟩
  | .hbm, ⟨27, _⟩ => ⟨S16384x5632, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Last.lean ====
abbrev S2x8192x1024 : Shape := ⟨3, ![2, 8192, 1024]⟩
abbrev S4x3x1024 : Shape := ⟨3, ![4, 3, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x1024 : Shape := ⟨2, ![16384, 1024]⟩
abbrev S1x1x1024 : Shape := ⟨3, ![1, 1, 1024]⟩
abbrev S1x1024 : Shape := ⟨2, ![1, 1024]⟩
abbrev S1024x1024 : Shape := ⟨2, ![1024, 1024]⟩
abbrev S1024x5632 : Shape := ⟨2, ![1024, 5632]⟩
abbrev S2816x1024 : Shape := ⟨2, ![2816, 1024]⟩
abbrev S2x1024x256 : Shape := ⟨3, ![2, 1024, 256]⟩
abbrev S2x256x1024 : Shape := ⟨3, ![2, 256, 1024]⟩
abbrev S1024x2816 : Shape := ⟨2, ![1024, 2816]⟩
abbrev S3x2 : Shape := ⟨2, ![3, 2]⟩
abbrev S1024x1 : Shape := ⟨2, ![1024, 1]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x1x1024x256 : Shape := ⟨4, ![1, 1, 1024, 256]⟩
abbrev S1x256x1024 : Shape := ⟨3, ![1, 256, 1024]⟩
abbrev S256x1024 : Shape := ⟨2, ![256, 1024]⟩
abbrev S1x1x256x1024 : Shape := ⟨4, ![1, 1, 256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S4x3x1024, .f32⟩
  | .hbm, ⟨2, _⟩ => ⟨S1024, .f32⟩
  | .hbm, ⟨3, _⟩ => ⟨S4x2x1024x5632, .f32⟩
  | .hbm, ⟨4, _⟩ => ⟨S4x2x2816x1024, .f32⟩
  | .hbm, ⟨5, _⟩ => ⟨S16384x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x5632, .bf16⟩
  | .local _ .vmem, ⟨7, _⟩ => ⟨S2816x1024, .bf16⟩
  | .local _ .vmem, ⟨8, _⟩ => ⟨S2x1024x256, .f32⟩
  | .local _ .vmem, ⟨9, _⟩ => ⟨S2x1024x256, .f32⟩
  | .local _ .vmem, ⟨10, _⟩ => ⟨S2x256x1024, .f32⟩
  | .local _ .vmem, ⟨11, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastRefIdeal.lean ====
abbrev S2x8192x1024 : Shape := ⟨3, ![2, 8192, 1024]⟩
abbrev S4x3x1024 : Shape := ⟨3, ![4, 3, 1024]⟩
abbrev S1024 : Shape := ⟨1, ![1024]⟩
abbrev S4x2x1024x5632 : Shape := ⟨4, ![4, 2, 1024, 5632]⟩
abbrev S4x2x2816x1024 : Shape := ⟨4, ![4, 2, 2816, 1024]⟩
abbrev S16384x1024 : Shape := ⟨2, ![16384, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x3x1024, .f32⟩
  | .hbm, ⟨2, _⟩ => ⟨S1024, .f32⟩
  | .hbm, ⟨3, _⟩ => ⟨S4x2x1024x5632, .f32⟩
  | .hbm, ⟨4, _⟩ => ⟨S4x2x2816x1024, .f32⟩
  | .hbm, ⟨5, _⟩ => ⟨S16384x1024, .f32⟩
  | .hbm, ⟨6, _⟩ => ⟨S1x1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1x1024x5632, .f32⟩
  | .hbm, ⟨25, _⟩ => ⟨S1024x5632, .f32⟩
  | .hbm, ⟨26, _⟩ => ⟨S1x1x2816x1024, .f32⟩
  | .hbm, ⟨27, _⟩ => ⟨S2816x1024, .f32⟩
  | .hbm, ⟨28, _⟩ => ⟨S16384x5632, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Rows.lean ====
module

public import Idealize.ShloMosaic.Lib.Pointwise

@[expose] public section

noncomputable section

open Idealize.ShloMosaic

/-! # The row formulas of the model over the extended reals -/

namespace Cert.Rows

/-- The RMS norm of one row `x` of the model width with gain `g`: `x · rsqrt(mean(x²) + 1e-6) · g`; the mean's divisor
    and the epsilon are the f32 words the programs hold. -/
def rowNorm (x g : Fin 1024 → EReal) (j : Fin 1024) : EReal :=
  x j * Ideal.rsqrt (Ideal.div (∑ k, x k * x k) (Ideal.ofBits .f32 0x44800000#32) + Ideal.ofBits .f32 0x358637BD#32) * g j

end Cert.Rows

end
-- ==== Proof.ScRow.lean ====
module

public import proofs.«01_k».proof.Proof.Rows

@[expose] public section

noncomputable section

open Idealize.ShloMosaic Cert.Rows

/-! # One row of the short convolution mixer -/

namespace Cert.ScRow

/-- Column `j` of the input projection of one normed row. -/
def proj (x g : Fin 1024 → EReal) (w : Fin 1024 → Fin 3072 → EReal) (j : Fin 3072) : EReal :=
  ∑ k : Fin 1024, rowNorm x g k * w k j

/-- Channel `j` of the gated input of the convolution at one row: the second third of the projection times the last. -/
def gate (x g : Fin 1024 → EReal) (w : Fin 1024 → Fin 3072 → EReal) (j : Fin 1024) : EReal :=
  proj x g w ⟨1024 + j.val, by omega⟩ * proj x g w ⟨2048 + j.val, by omega⟩

/-- One row of the mixer's result: the row plus the output projection of the first third of the projection times the
    width-3 convolution of the gated inputs `p` (the row before), the row's own and `n` (the row after). -/
def row (x g : Fin 1024 → EReal) (w : Fin 1024 → Fin 3072 → EReal) (v : Fin 3 → Fin 1024 → EReal)
    (o : Fin 1024 → Fin 1024 → EReal) (p n : Fin 1024 → EReal) (j : Fin 1024) : EReal :=
  x j + ∑ k : Fin 1024, proj x g w ⟨k.val, by omega⟩ * (v 0 k * p k + v 1 k * gate x g w k + v 2 k * n k) * o k j

/-- The gated inputs at row `l` of a sequence, and zero outside the sequence. -/
def gateAt (X : Fin 8192 → Fin 1024 → EReal) (g : Fin 1024 → EReal) (w : Fin 1024 → Fin 3072 → EReal) (l : ℤ) (k : Fin 1024) : EReal :=
  if h : 0 ≤ l ∧ l < 8192 then gate (X ⟨l.toNat, by omega⟩) g w k else 0

theorem gateAt_of_mem (X : Fin 8192 → Fin 1024 → EReal) (g : Fin 1024 → EReal) (w : Fin 1024 → Fin 3072 → EReal) (l : ℤ) (n : Fin 8192)
    (h : l = n.val) (k : Fin 1024) : gateAt X g w l k = gate (X n) g w k := by
  subst h
  unfold gateAt
  rw [dif_pos ⟨by omega, by omega⟩]
  congr 2

theorem gateAt_of_not_mem (X : Fin 8192 → Fin 1024 → EReal) (g : Fin 1024 → EReal) (w : Fin 1024 → Fin 3072 → EReal) (l : ℤ)
    (h : l < 0 ∨ 8192 ≤ l) (k : Fin 1024) : gateAt X g w l k = 0 := by
  unfold gateAt
  rw [dif_neg (by omega)]

/-- Row `l` of the mixer's result over a sequence `X`. -/
def seq (X : Fin 8192 → Fin 1024 → EReal) (g : Fin 1024 → EReal) (w : Fin 1024 → Fin 3072 → EReal) (v : Fin 3 → Fin 1024 → EReal)
    (o : Fin 1024 → Fin 1024 → EReal) (l : Fin 8192) (j : Fin 1024) : EReal :=
  row (X l) g w v o (gateAt X g w (l.val - 1)) (gateAt X g w (l.val + 1)) j

end Cert.ScRow

end
-- ==== Proof.ScKernel.lean ====
module

public import proofs.«01_k».proof.Proof.Gen.ScIdeal.Frame
public import proofs.«01_k».proof.Proof.ScRow
public import Idealize.ShloMosaic.Lib.Pipeline.Value

@[expose] public section

set_option maxRecDepth 16384

noncomputable section

open Idealize.ShloMosaic Idealize.ShloMosaic.TcCoe Idealize.SL.Sem Cert.Rows
open Cert.ScIdeal Cert.ScIdeal.Gen

/-! # What the kernel's body leaves in its output block -/

namespace Cert.ScKernel

/-- The kernel's normed rows are `rowNorm` of the block's rows. -/
theorem pay4_apply (v0 : Vec Ideal S1x1024 .f32) (v2 : Vec Ideal S1x1024x1024 .f32) (r j : Fin 1024) :
    k0_pay4 (F := Ideal) v0 v2 (ix2 r j) = rowNorm (fun k => v2 (ix3 0 r k)) (fun k => v0 (ix2 0 k)) j := by
  unfold k0_pay4 k0_pay3 k0_pay2
  pointwise []
  rfl

/-- The gated inputs of the tile's own rows, before the scratch store. -/
theorem pay14_apply (v0 : Vec Ideal S1x1024 .f32) (v2 v17 v20 : Vec Ideal S1x1024x1024 .f32) (r j : Fin 1024) :
    k0_pay14 (F := Ideal) (k0_pay7 v0 v2 v17) (k0_pay8 v0 v2 v20) (ix2 r j)
      = (∑ k : Fin 1024, rowNorm (fun k => v2 (ix3 0 r k)) (fun k => v0 (ix2 0 k)) k * v17 (ix3 0 k j))
        * ∑ k : Fin 1024, rowNorm (fun k => v2 (ix3 0 r k)) (fun k => v0 (ix2 0 k)) k * v20 (ix3 0 k j) := by
  unfold k0_pay14 k0_pay7 k0_pay8 k0_pay5 k0_pay6
  pointwise []
  simp only [pay4_apply]

/-- The gated inputs of the sixteen halo rows `x` (eight before the tile, eight after it). -/
theorem pay12_apply (v0 : Vec Ideal S1x1024 .f32) (v17 v20 : Vec Ideal S1x1024x1024 .f32) (v25 v27 : Vec Ideal S1x8x1024 .f32)
    (r : Fin 16) (j : Fin 1024) (x : Fin 1024 → EReal) (hx : ∀ k, k0_pay9 (F := Ideal) v25 v27 (ix2 r k) = x k) :
    k0_pay12 (F := Ideal) (k0_pay2 v0) (k0_pay5 v17) (k0_pay6 v20) (k0_pay9 v25 v27) (k0_pay10 v25 v27) k0_pay11 (ix2 r j)
      = (∑ k : Fin 1024, rowNorm x (fun k => v0 (ix2 0 k)) k * v17 (ix3 0 k j))
        * ∑ k : Fin 1024, rowNorm x (fun k => v0 (ix2 0 k)) k * v20 (ix3 0 k j) := by
  unfold k0_pay12 k0_pay10 k0_pay11 k0_pay2 k0_pay5 k0_pay6
  pointwise []
  simp only [hx]
  rfl

/-- The stored halo before the tile: its gated inputs, or zero at the first tile. -/
theorem pay13_apply (a : BitVec 32) (v0 : Vec Ideal S1x1024 .f32) (v17 v20 : Vec Ideal S1x1024x1024 .f32)
    (v25 v27 : Vec Ideal S1x8x1024 .f32) (r : Fin 8) (j : Fin 1024) :
    k0_pay13 (F := Ideal) a (k0_pay2 v0) (k0_pay5 v17) (k0_pay6 v20) (k0_pay9 v25 v27) (k0_pay10 v25 v27) k0_pay11 (ix2 r j)
      = Scalar.select (Scalar.cmpi .sgt a 0#32)
        ((∑ k : Fin 1024, rowNorm (fun k => v25 (ix3 0 r k)) (fun k => v0 (ix2 0 k)) k * v17 (ix3 0 k j))
        * ∑ k : Fin 1024, rowNorm (fun k => v25 (ix3 0 r k)) (fun k => v0 (ix2 0 k)) k * v20 (ix3 0 k j)) 0 := by
  unfold k0_pay13
  pointwise []
  rw [pay12_apply v0 v17 v20 v25 v27 _ j (fun k => v25 (ix3 0 r k))]
  intro k
  unfold k0_pay9
  pointwise []

/-- The stored halo after the tile: its gated inputs, or zero at the last tile. -/
theorem pay15_apply (a : BitVec 32) (v0 : Vec Ideal S1x1024 .f32) (v17 v20 : Vec Ideal S1x1024x1024 .f32)
    (v25 v27 : Vec Ideal S1x8x1024 .f32) (r : Fin 8) (j : Fin 1024) :
    k0_pay15 (F := Ideal) a (k0_pay2 v0) (k0_pay5 v17) (k0_pay6 v20) (k0_pay9 v25 v27) (k0_pay10 v25 v27) k0_pay11 (ix2 r j)
      = Scalar.select (Scalar.cmpi .slt a 7#32)
        ((∑ k : Fin 1024, rowNorm (fun k => v27 (ix3 0 r k)) (fun k => v0 (ix2 0 k)) k * v17 (ix3 0 k j))
        * ∑ k : Fin 1024, rowNorm (fun k => v27 (ix3 0 r k)) (fun k => v0 (ix2 0 k)) k * v20 (ix3 0 k j)) 0 := by
  unfold k0_pay15
  pointwise []
  rw [pay12_apply v0 v17 v20 v25 v27 _ j (fun k => v27 (ix3 0 r k))]
  intro k
  unfold k0_pay9
  pointwise []

/-- The input block `x4` of the projection weights, as columns of rows. -/
abbrev wOf (x4 : Vec Ideal S1x1024x3072 .f32) : Fin 1024 → Fin 3072 → EReal := fun k j => x4 (ix3 0 k j)

/-- The scratch contents after the three stores: gated inputs at 1040 rows, the tile's own from row 8. -/
def scratch (i : grid0.Coords) (x0 : Vec Ideal S1x8x1024 .f32) (x1 : Vec Ideal S1x1024x1024 .f32) (x2 : Vec Ideal S1x8x1024 .f32)
    (x3 : Vec Ideal S1x1024 .f32) (x4 : Vec Ideal S1x1024x3072 .f32) : S1040x1024.Idx → EReal := fun y =>
  let g : Fin 1024 → EReal := fun k => x3 (ix2 0 k)
  if h : (y 0).val < 8 then
    Scalar.select (Scalar.cmpi .sgt (BitVec.ofNat 32 (i 1).val) 0#32) (ScRow.gate (fun k => x0 (ix3 0 ⟨(y 0).val, h⟩ k)) g (wOf x4) (y 1)) 0
  else if h' : (y 0).val < 1032 then
    ScRow.gate (fun k => x1 (ix3 0 ⟨(y 0).val - 8, by omega⟩ k)) g (wOf x4) (y 1)
  else
    Scalar.select (Scalar.cmpi .slt (BitVec.ofNat 32 (i 1).val) 7#32) (ScRow.gate (fun k => x2 (ix3 0 ⟨(y 0).val - 1032, by have : (y 0).val < 1040 := (y 0).isLt; omega⟩ k)) g (wOf x4) (y 1)) 0

theorem hz2 : (![0, 0] : Fin 2 → Nat) = fun _ => 0 := funext fun a => by fin_cases a <;> rfl
theorem hz3 : (![0, 0, 0] : Fin 3 → Nat) = fun _ => 0 := funext fun a => by fin_cases a <;> rfl

/-- The three stores tile the scratch, and what they leave is `scratch` at every index. -/
theorem scratch_eq (i : grid0.Coords) (x0 : Vec Ideal S1x8x1024 .f32) (x1 : Vec Ideal S1x1024x1024 .f32) (x2 : Vec Ideal S1x8x1024 .f32)
    (x3 : Vec Ideal S1x1024 .f32) (x4 : Vec Ideal S1x1024x3072 .f32) (v17 v20 : Vec Ideal S1x1024x1024 .f32)
    (h17 : ∀ k j : Fin 1024, v17 (ix3 0 k j) = x4 (ix3 0 k ⟨1024 + j.val, by omega⟩))
    (h20 : ∀ k j : Fin 1024, v20 (ix3 0 k j) = x4 (ix3 0 k ⟨2048 + j.val, by omega⟩)) (y : S1040x1024.Idx) :
    View.canon (Val := Elt Ideal) (s := S1040x1024) (e := .f32)
      [⟨Rect.unit ![1032, 0] S8x1024.size inb_S1040x1024_S8x1024_1032_0,
        k0_pay15 (F := Ideal) (BitVec.ofNat 32 (i 1).val) (k0_pay2 x3) (k0_pay5 v17) (k0_pay6 v20) (k0_pay9 x0 x2) (k0_pay10 x0 x2) k0_pay11⟩,
       ⟨Rect.unit ![8, 0] S1024x1024.size inb_S1040x1024_S1024x1024_8_0, k0_pay14 (F := Ideal) (k0_pay7 x3 x1 v17) (k0_pay8 x3 x1 v20)⟩,
       ⟨Rect.unit ![0, 0] S8x1024.size inb_S1040x1024_S8x1024_0_0,
        k0_pay13 (F := Ideal) (BitVec.ofNat 32 (i 1).val) (k0_pay2 x3) (k0_pay5 v17) (k0_pay6 v20) (k0_pay9 x0 x2) (k0_pay10 x0 x2) k0_pay11⟩] y
      = scratch i x0 x1 x2 x3 x4 y := by
  refine View.canon_apply_of_pieces (Val := Elt Ideal) (e := .f32) (scratch i x0 x1 x2 x3 x4) _ ?_ y ?_
  · intro p hp x
    simp only [List.mem_cons, List.not_mem_nil, or_false] at hp
    rcases hp with rfl | rfl | rfl
    · obtain ⟨r, k, rfl⟩ : ∃ (r : Fin 8) (k : Fin 1024), x = ix2 r k := ⟨x 0, x 1, eq_ix2 (n0 := 8) (n1 := 1024) x⟩
      refine (pay15_apply _ x3 v17 v20 x0 x2 r k).trans ?_
      simp only [h17, h20]
      unfold scratch
      dsimp only
      rw [dif_neg (by show ¬ 1032 + 1 * r.val < 8; omega), dif_neg (by show ¬ 1032 + 1 * r.val < 1032; omega)]
      unfold ScRow.gate ScRow.proj wOf
      have e0 : (⟨((Rect.unit (s := S1040x1024) ![1032, 0] S8x1024.size inb_S1040x1024_S8x1024_1032_0).emb (ix2 r k) 0).val - 1032, by show 1032 + 1 * r.val - 1032 < 8; omega⟩ : Fin 8) = r := Fin.ext (by show 1032 + 1 * r.val - 1032 = r.val; omega)
      have e1 : (Rect.unit (s := S1040x1024) ![1032, 0] S8x1024.size inb_S1040x1024_S8x1024_1032_0).emb (ix2 r k) 1 = k := Fin.ext (by show 0 + 1 * k.val = k.val; omega)
      rw [e0, e1]
    · obtain ⟨r, k, rfl⟩ : ∃ (r : Fin 1024) (k : Fin 1024), x = ix2 r k := ⟨x 0, x 1, eq_ix2 (n0 := 1024) (n1 := 1024) x⟩
      refine (pay14_apply x3 x1 v17 v20 r k).trans ?_
      simp only [h17, h20]
      unfold scratch
      dsimp only
      rw [dif_neg (by show ¬ 8 + 1 * r.val < 8; omega), dif_pos (by show 8 + 1 * r.val < 1032; omega)]
      unfold ScRow.gate ScRow.proj wOf
      have e0 : (⟨((Rect.unit (s := S1040x1024) ![8, 0] S1024x1024.size inb_S1040x1024_S1024x1024_8_0).emb (ix2 r k) 0).val - 8, by show 8 + 1 * r.val - 8 < 1024; omega⟩ : Fin 1024) = r := Fin.ext (by show 8 + 1 * r.val - 8 = r.val; omega)
      have e1 : (Rect.unit (s := S1040x1024) ![8, 0] S1024x1024.size inb_S1040x1024_S1024x1024_8_0).emb (ix2 r k) 1 = k := Fin.ext (by show 0 + 1 * k.val = k.val; omega)
      rw [e0, e1]
    · obtain ⟨r, k, rfl⟩ : ∃ (r : Fin 8) (k : Fin 1024), x = ix2 r k := ⟨x 0, x 1, eq_ix2 (n0 := 8) (n1 := 1024) x⟩
      refine (pay13_apply _ x3 v17 v20 x0 x2 r k).trans ?_
      simp only [h17, h20]
      unfold scratch
      dsimp only
      rw [dif_pos (by show 0 + 1 * r.val < 8; omega)]
      unfold ScRow.gate ScRow.proj wOf
      have e0 : (⟨((Rect.unit (s := S1040x1024) ![0, 0] S8x1024.size inb_S1040x1024_S8x1024_0_0).emb (ix2 r k) 0).val, by show 0 + 1 * r.val < 8; omega⟩ : Fin 8) = r := Fin.ext (by show 0 + 1 * r.val = r.val; omega)
      have e1 : (Rect.unit (s := S1040x1024) ![0, 0] S8x1024.size inb_S1040x1024_S8x1024_0_0).emb (ix2 r k) 1 = k := Fin.ext (by show 0 + 1 * k.val = k.val; omega)
      rw [e0, e1]
  · have h0 : (y 0).val < 1040 := (y 0).isLt
    have h1 : (y 1).val < 1024 := (y 1).isLt
    by_cases ha : (y 0).val < 8
    · refine ⟨_, List.mem_cons_of_mem _ (List.mem_cons_of_mem _ List.mem_cons_self), ?_⟩
      show y ∈ (Rect.unit (s := S1040x1024) ![0, 0] S8x1024.size inb_S1040x1024_S8x1024_0_0).set; rw [Rect.mem_set_unit]; intro a
      match a with
      | ⟨0, _⟩ => show 0 ≤ (y 0).val ∧ (y 0).val < 0 + 8; omega
      | ⟨1, _⟩ => show 0 ≤ (y 1).val ∧ (y 1).val < 0 + 1024; omega
    · by_cases hb : (y 0).val < 1032
      · refine ⟨_, List.mem_cons_of_mem _ List.mem_cons_self, ?_⟩
        show y ∈ (Rect.unit (s := S1040x1024) ![8, 0] S1024x1024.size inb_S1040x1024_S1024x1024_8_0).set; rw [Rect.mem_set_unit]; intro a
        match a with
        | ⟨0, _⟩ => show 8 ≤ (y 0).val ∧ (y 0).val < 8 + 1024; omega
        | ⟨1, _⟩ => show 0 ≤ (y 1).val ∧ (y 1).val < 0 + 1024; omega
      · refine ⟨_, List.mem_cons_self, ?_⟩
        show y ∈ (Rect.unit (s := S1040x1024) ![1032, 0] S8x1024.size inb_S1040x1024_S8x1024_1032_0).set; rw [Rect.mem_set_unit]; intro a
        match a with
        | ⟨0, _⟩ => show 1032 ≤ (y 0).val ∧ (y 0).val < 1032 + 8; omega
        | ⟨1, _⟩ => show 0 ≤ (y 1).val ∧ (y 1).val < 0 + 1024; omega

/-- One row of the body's last store: the mixer's row over the scratch rows around it. -/
theorem pay1_apply (x1 : Vec Ideal S1x1024x1024 .f32) (x3 : Vec Ideal S1x1024 .f32) (x5 : Vec Ideal S3x1024 .f32)
    (x4 : Vec Ideal S1x1024x3072 .f32) (v67 v71 v76 : Vec Ideal S1024x1024 .f32) (v80 x6 : Vec Ideal S1x1024x1024 .f32) (r j : Fin 1024)
    (h80 : ∀ k j : Fin 1024, v80 (ix3 0 k j) = x4 (ix3 0 k ⟨j.val, by omega⟩))
    (h71 : ∀ k : Fin 1024, v71 (ix2 r k) = ScRow.gate (fun k => x1 (ix3 0 r k)) (fun k => x3 (ix2 0 k)) (wOf x4) k) :
    k0_pay1 (F := Ideal) (k0_pay3 x1) (k0_pay4 x3 x1) (k0_pay16 x5) (k0_pay17 x5 v67) (k0_pay18 x5) v71 v76 v80 x6 (ix3 0 r j)
      = ScRow.row (fun k => x1 (ix3 0 r k)) (fun k => x3 (ix2 0 k)) (wOf x4) (fun a k => x5 (ix2 a k)) (fun k j => x6 (ix3 0 k j))
          (fun k => v67 (ix2 r k)) (fun k => v76 (ix2 r k)) j := by
  unfold k0_pay1 k0_pay3 k0_pay17 k0_pay18 k0_pay16
  pointwise []
  simp only [pay4_apply, h80, h71]
  rfl

/-- The body's output block, row by row: each is the mixer's row over the scratch rows before and after it. -/
theorem out_apply (c : Dev nD) (i : grid0.Coords) (arg2 : Memref sig .tc .vmem S1x8x1024 .f32) (harg2 : arg2.IsWhole) (arg3 : Memref sig .tc .vmem S1x1024x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1x1024x3072 .f32) (harg6 : arg6.IsWhole) (arg7 : Memref sig .tc .vmem S3x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1040x1024 .f32) (harg10 : arg10.IsWhole)
    (x0 : Vec Ideal S1x8x1024 .f32) (x1 : Vec Ideal S1x1024x1024 .f32) (x2 : Vec Ideal S1x8x1024 .f32) (x3 : Vec Ideal S1x1024 .f32) (x4 : Vec Ideal S1x1024x3072 .f32) (x5 : Vec Ideal S3x1024 .f32) (x6 : Vec Ideal S1x1024x1024 .f32) (r j : Fin 1024) :
    out0_A_7 c i arg2 harg2 arg3 harg3 arg4 harg4 arg5 harg5 arg6 harg6 arg7 harg7 arg8 harg8 arg9 harg9 arg10 harg10 x0 x1 x2 x3 x4 x5 x6 (ix3 0 r j)
      = ScRow.row (fun k => x1 (ix3 0 r k)) (fun k => x3 (ix2 0 k)) (wOf x4) (fun a k => x5 (ix2 a k)) (fun k j => x6 (ix3 0 k j))
          (fun k => scratch i x0 x1 x2 x3 x4 (ix2 ⟨r.val + 7, by omega⟩ k)) (fun k => scratch i x0 x1 x2 x3 x4 (ix2 ⟨r.val + 9, by omega⟩ k)) j := by
  unfold out0_A_7
  rw [View.read_writes_junk_eq_canon]
  unfold kernelRun0_A
  dsimp only
  sl_unfold_words
  rw [View.canon_unit_zero (S := S1x1024x1024) hz3]
  simp only [View.readAt_eq_ld, harg2.read_unread, harg3.read_unread, harg4.read_unread, harg5.read_unread, harg6.read_unread, harg7.read_unread, harg8.read_unread,
    View.ld_unit_zero (S := S1x1024x1024) hz3, View.ld_unit_zero (S := S1x8x1024) hz3, View.ld_unit_zero (S := S1x1024) hz2, View.ld_unit_zero (S := S3x1024) hz2,
    View.readCov_eq_canon']
  refine (pay1_apply x1 x3 x5 x4 _ _ _ _ x6 r j ?_ ?_).trans ?_
  · intro k j
    pointwise []
  · intro k
    refine (scratch_eq i x0 x1 x2 x3 x4 _ _ ?_ ?_ _).trans ?_
    · intro k j; pointwise []
    · intro k j; pointwise []
    · unfold scratch
      dsimp only
      rw [dif_neg (by show ¬ 8 + 1 * r.val < 8; omega), dif_pos (by show 8 + 1 * r.val < 1032; omega)]
      congr 1
      · funext k
        congr 2
        exact Fin.ext (by show 8 + 1 * r.val - 8 = r.val; omega)
      · exact Fin.ext (by show 0 + 1 * k.val = k.val; omega)
  · refine congrArg₂ (fun p n => ScRow.row (fun k => x1 (ix3 0 r k)) (fun k => x3 (ix2 0 k)) (wOf x4) (fun a k => x5 (ix2 a k)) (fun k j => x6 (ix3 0 k j)) p n j) ?_ ?_
    · funext k
      refine (scratch_eq i x0 x1 x2 x3 x4 _ _ ?_ ?_ _).trans (congrArg _ (funext fun a => Fin.ext ?_))
      · intro k j; pointwise []
      · intro k j; pointwise []
      · match a with
        | ⟨0, _⟩ => show 7 + 1 * r.val = r.val + 7; omega
        | ⟨1, _⟩ => show 0 + 1 * k.val = k.val; omega
    · funext k
      refine (scratch_eq i x0 x1 x2 x3 x4 _ _ ?_ ?_ _).trans (congrArg _ (funext fun a => Fin.ext ?_))
      · intro k j; pointwise []
      · intro k j; pointwise []
      · match a with
        | ⟨0, _⟩ => show 9 + 1 * r.val = r.val + 9; omega
        | ⟨1, _⟩ => show 0 + 1 * k.val = k.val; omega

end Cert.ScKernel

end
-- ==== Proof.ScValue.lean ====
module

public import proofs.«01_k».proof.Proof.Gen.ScIdeal.Value
public import proofs.«01_k».proof.Proof.ScKernel
public import Idealize.ShloMosaic.Lib.StableHlo.Run
public import Idealize.ShloMosaic.Lib.StableHlo.ReadAt

@[expose] public section

set_option maxRecDepth 16384

noncomputable section

open Idealize.ShloMosaic Idealize.ShloMosaic.TcCoe Idealize.SL.Sem Cert.Rows
open Cert.ScIdeal Cert.ScIdeal.Gen
open Idealize.ShloMosaic.Pipeline (Dat)

/-! # The kernel's result array -/

namespace Cert.ScValue

variable (m : (ℓ : Loc nD τ sig) → Buf (Elt Ideal) ℓ)

/-- The gain the kernel's window stages is row 1 of member 0 of the norms. -/
theorem gain_apply (c : Dev nD) (k : Fin 1024) :
    (V m c main_v4 : S1x1024.Idx → EReal) (ix2 0 k) = (m ((c : Thread nD τ).loc main_arg1) : S4x3x1024.Idx → EReal) (ix3 0 1 k) := by
  unfold V hostOps0
  after_reads_at

/-- The convolution weights the kernel's window stages are member 0 of the stack. -/
theorem conv_apply (c : Dev nD) (a : Fin 3) (k : Fin 1024) :
    (V m c main_v3 : S3x1024.Idx → EReal) (ix2 a k) = (m ((c : Thread nD τ).loc main_arg3) : S2x3x1024.Idx → EReal) (ix3 0 a k) := by
  unfold V hostOps0
  after_reads_at

/-- The sequence of batch member `b`. -/
abbrev X (c : Dev nD) (b : Fin 2) : Fin 8192 → Fin 1024 → EReal := fun l k => (m ((c : Thread nD τ).loc main_arg0) : S2x8192x1024.Idx → EReal) (ix3 b l k)
/-- The gain of the mixer's norm. -/
abbrev g (c : Dev nD) : Fin 1024 → EReal := fun k => (m ((c : Thread nD τ).loc main_arg1) : S4x3x1024.Idx → EReal) (ix3 0 1 k)
/-- The input projection's weights. -/
abbrev w (c : Dev nD) : Fin 1024 → Fin 3072 → EReal := fun k j => (m ((c : Thread nD τ).loc main_arg2) : S2x1024x3072.Idx → EReal) (ix3 0 k j)
/-- The convolution's weights. -/
abbrev v (c : Dev nD) : Fin 3 → Fin 1024 → EReal := fun a k => (m ((c : Thread nD τ).loc main_arg3) : S2x3x1024.Idx → EReal) (ix3 0 a k)
/-- The output projection's weights. -/
abbrev o (c : Dev nD) : Fin 1024 → Fin 1024 → EReal := fun k j => (m ((c : Thread nD τ).loc main_arg4) : S2x1024x1024.Idx → EReal) (ix3 0 k j)

/-- The batch member and the tile of grid point `t`. -/
abbrev bt (t : Fin cfg0.N) : Fin 2 := grid0.coords t 0
abbrev it (t : Fin cfg0.N) : Fin 8 := grid0.coords t 1

theorem index0 : ∀ t : Fin cfg0.N, win0_0.index t 0 = (bt t).val ∧ win0_0.index t 1 = (it t).val * 128 - 1 ∧ win0_0.index t 2 = 0 :=
  (by decide +kernel : ∀ t : Fin grid0.N, win0_0.index t 0 = (grid0.coords t 0).val ∧ win0_0.index t 1 = (grid0.coords t 1).val * 128 - 1 ∧ win0_0.index t 2 = 0)
theorem index1 : ∀ t : Fin cfg0.N, win0_1.index t 0 = (bt t).val ∧ win0_1.index t 1 = (it t).val ∧ win0_1.index t 2 = 0 :=
  (by decide +kernel : ∀ t : Fin grid0.N, win0_1.index t 0 = (grid0.coords t 0).val ∧ win0_1.index t 1 = (grid0.coords t 1).val ∧ win0_1.index t 2 = 0)
theorem index2 : ∀ t : Fin cfg0.N, win0_2.index t 0 = (bt t).val ∧ win0_2.index t 1 = min (((it t).val + 1) * 128) 1023 ∧ win0_2.index t 2 = 0 :=
  (by decide +kernel : ∀ t : Fin grid0.N, win0_2.index t 0 = (grid0.coords t 0).val ∧ win0_2.index t 1 = min (((grid0.coords t 1).val + 1) * 128) 1023 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem index7 : ∀ t : Fin cfg0.N, win0_7.index t 0 = (bt t).val ∧ win0_7.index t 1 = (it t).val ∧ win0_7.index t 2 = 0 :=
  (by decide +kernel : ∀ t : Fin grid0.N, win0_7.index t 0 = (grid0.coords t 0).val ∧ win0_7.index t 1 = (grid0.coords t 1).val ∧ win0_7.index t 2 = 0)

/-- The tile's own rows. -/
theorem blk1 (c : Dev nD) (t : Fin cfg0.N) (r k : Fin 1024) (l : Fin 8192) (hl : l.val = 1024 * (it t).val + r.val) :
    (iblk m c 1 t : Vec Ideal S1x1024x1024 .f32) (ix3 0 r k) = X m c (bt t) l k := by
  obtain ⟨h0, h1, h2⟩ := index1 t
  unfold iblk
  rw [View.read_apply]
  show V m c main_arg0 _ = _
  rw [V_main_arg0]
  refine congrArg (m (c.tc.loc main_arg0)) (funext fun a => Fin.ext ?_)
  match a with
  | ⟨0, _⟩ => show win0_1.index t 0 * 1 + 1 * 0 = (bt t).val; omega
  | ⟨1, _⟩ => show win0_1.index t 1 * 1024 + 1 * r.val = l.val; omega
  | ⟨2, _⟩ => show win0_1.index t 2 * 1024 + 1 * k.val = k.val; omega

/-- The last halo row before the tile, where there is one. -/
theorem blk0 (c : Dev nD) (t : Fin cfg0.N) (k : Fin 1024) (l : Fin 8192) (hl : l.val + 1 = 1024 * (it t).val) :
    (iblk m c 0 t : Vec Ideal S1x8x1024 .f32) (ix3 0 7 k) = X m c (bt t) l k := by
  obtain ⟨h0, h1, h2⟩ := index0 t
  unfold iblk
  rw [View.read_apply]
  show V m c main_arg0 _ = _
  rw [V_main_arg0]
  refine congrArg (m (c.tc.loc main_arg0)) (funext fun a => Fin.ext ?_)
  match a with
  | ⟨0, _⟩ => show win0_0.index t 0 * 1 + 1 * 0 = (bt t).val; omega
  | ⟨1, _⟩ => show win0_0.index t 1 * 8 + 1 * 7 = l.val; omega
  | ⟨2, _⟩ => show win0_0.index t 2 * 1024 + 1 * k.val = k.val; omega

/-- The first halo row after the tile, where there is one. -/
theorem blk2 (c : Dev nD) (t : Fin cfg0.N) (k : Fin 1024) (l : Fin 8192) (hl : l.val = 1024 * ((it t).val + 1)) :
    (iblk m c 2 t : Vec Ideal S1x8x1024 .f32) (ix3 0 0 k) = X m c (bt t) l k := by
  obtain ⟨h0, h1, h2⟩ := index2 t
  unfold iblk
  rw [View.read_apply]
  show V m c main_arg0 _ = _
  rw [V_main_arg0]
  refine congrArg (m (c.tc.loc main_arg0)) (funext fun a => Fin.ext ?_)
  have := l.isLt
  match a with
  | ⟨0, _⟩ => show win0_2.index t 0 * 1 + 1 * 0 = (bt t).val; omega
  | ⟨1, _⟩ => show win0_2.index t 1 * 8 + 1 * 0 = l.val; omega
  | ⟨2, _⟩ => show win0_2.index t 2 * 1024 + 1 * k.val = k.val; omega

theorem blk3 (c : Dev nD) (t : Fin cfg0.N) (k : Fin 1024) : (iblk m c 3 t : Vec Ideal S1x1024 .f32) (ix2 0 k) = g m c k := by
  obtain ⟨h0, h1⟩ := index3 t
  unfold iblk
  rw [View.read_apply]
  refine Eq.trans ?_ (gain_apply m c k)
  refine congrArg (V m c main_v4) (funext fun a => Fin.ext ?_)
  match a with
  | ⟨0, _⟩ => show win0_3.index t 0 * 1 + 1 * 0 = 0; omega
  | ⟨1, _⟩ => show win0_3.index t 1 * 1024 + 1 * k.val = k.val; omega

theorem blk4 (c : Dev nD) (t : Fin cfg0.N) (k : Fin 1024) (j : Fin 3072) : (iblk m c 4 t : Vec Ideal S1x1024x3072 .f32) (ix3 0 k j) = w m c k j := by
  obtain ⟨h0, h1, h2⟩ := index4 t
  unfold iblk
  rw [View.read_apply]
  show V m c main_arg2 _ = _
  rw [V_main_arg2]
  refine congrArg (m (c.tc.loc main_arg2)) (funext fun a => Fin.ext ?_)
  match a with
  | ⟨0, _⟩ => show win0_4.index t 0 * 1 + 1 * 0 = 0; omega
  | ⟨1, _⟩ => show win0_4.index t 1 * 1024 + 1 * k.val = k.val; omega
  | ⟨2, _⟩ => show win0_4.index t 2 * 3072 + 1 * j.val = j.val; omega

theorem blk5 (c : Dev nD) (t : Fin cfg0.N) (b : Fin 3) (k : Fin 1024) : (iblk m c 5 t : Vec Ideal S3x1024 .f32) (ix2 b k) = v m c b k := by
  obtain ⟨h0, h1⟩ := index5 t
  unfold iblk
  rw [View.read_apply]
  refine Eq.trans ?_ (conv_apply m c b k)
  refine congrArg (V m c main_v3) (funext fun a => Fin.ext ?_)
  match a with
  | ⟨0, _⟩ => show win0_5.index t 0 * 3 + 1 * b.val = b.val; omega
  | ⟨1, _⟩ => show win0_5.index t 1 * 1024 + 1 * k.val = k.val; omega

theorem blk6 (c : Dev nD) (t : Fin cfg0.N) (k j : Fin 1024) : (iblk m c 6 t : Vec Ideal S1x1024x1024 .f32) (ix3 0 k j) = o m c k j := by
  obtain ⟨h0, h1, h2⟩ := index6 t
  unfold iblk
  rw [View.read_apply]
  show V m c main_arg4 _ = _
  rw [V_main_arg4]
  refine congrArg (m (c.tc.loc main_arg4)) (funext fun a => Fin.ext ?_)
  match a with
  | ⟨0, _⟩ => show win0_6.index t 0 * 1 + 1 * 0 = 0; omega
  | ⟨1, _⟩ => show win0_6.index t 1 * 1024 + 1 * k.val = k.val; omega
  | ⟨2, _⟩ => show win0_6.index t 2 * 1024 + 1 * j.val = j.val; omega

theorem sgt_zero (i : Fin 8) : Scalar.cmpi .sgt (BitVec.ofNat 32 i.val) 0#32 = if 0 < i.val then 1#1 else 0#1 := by
  revert i; decide
theorem slt_seven (i : Fin 8) : Scalar.cmpi .slt (BitVec.ofNat 32 i.val) 7#32 = if i.val < 7 then 1#1 else 0#1 := by
  revert i; decide

/-- The scratch's row above the tile's row `r` holds the gated inputs of the row before it in the sequence. -/
theorem before (c : Dev nD) (t : Fin cfg0.N) (r k : Fin 1024) :
    ScKernel.scratch (grid0.coords t) (iblk m c 0 t) (iblk m c 1 t) (iblk m c 2 t) (iblk m c 3 t) (iblk m c 4 t) (ix2 ⟨r.val + 7, by omega⟩ k)
      = ScRow.gateAt (X m c (bt t)) (g m c) (w m c) ((1024 * (it t).val + r.val : ℕ) - 1) k := by
  have hi := (it t).isLt
  unfold ScKernel.scratch ScKernel.wOf
  simp only [blk3, blk4]
  by_cases h : r.val = 0
  · rw [dif_pos (by show r.val + 7 < 8; omega)]
    have e : (⟨((ix2 (⟨r.val + 7, by omega⟩ : Fin 1040) k : S1040x1024.Idx) 0).val, by show r.val + 7 < 8; omega⟩ : Fin 8) = 7 := Fin.ext (by show r.val + 7 = 7; omega)
    rw [e, sgt_zero (it t)]
    by_cases h' : 0 < (it t).val
    · rw [if_pos h', ScRow.gateAt_of_mem _ _ _ _ ⟨1024 * (it t).val - 1, by omega⟩ (by show _ = ((1024 * (it t).val - 1 : ℕ) : ℤ); omega)]
      simp only [blk0 m c t _ ⟨1024 * (it t).val - 1, by omega⟩ (by show 1024 * (it t).val - 1 + 1 = _; omega)]
      rfl
    · rw [if_neg h', ScRow.gateAt_of_not_mem _ _ _ _ (by omega)]
      rfl
  · rw [dif_neg (by show ¬ r.val + 7 < 8; omega), dif_pos (by show r.val + 7 < 1032; omega)]
    rw [ScRow.gateAt_of_mem _ _ _ _ ⟨1024 * (it t).val + r.val - 1, by omega⟩ (by show _ = ((1024 * (it t).val + r.val - 1 : ℕ) : ℤ); omega)]
    simp only [blk1 m c t ⟨((ix2 (⟨r.val + 7, by omega⟩ : Fin 1040) k : S1040x1024.Idx) 0).val - 8, by show r.val + 7 - 8 < 1024; omega⟩ _ ⟨1024 * (it t).val + r.val - 1, by omega⟩ (by show 1024 * (it t).val + r.val - 1 = 1024 * (it t).val + (r.val + 7 - 8); omega)]
    rfl

/-- The scratch's row below the tile's row `r` holds the gated inputs of the row after it in the sequence. -/
theorem behind (c : Dev nD) (t : Fin cfg0.N) (r k : Fin 1024) :
    ScKernel.scratch (grid0.coords t) (iblk m c 0 t) (iblk m c 1 t) (iblk m c 2 t) (iblk m c 3 t) (iblk m c 4 t) (ix2 ⟨r.val + 9, by omega⟩ k)
      = ScRow.gateAt (X m c (bt t)) (g m c) (w m c) ((1024 * (it t).val + r.val : ℕ) + 1) k := by
  have hi := (it t).isLt
  unfold ScKernel.scratch ScKernel.wOf
  simp only [blk3, blk4]
  rw [dif_neg (by show ¬ r.val + 9 < 8; omega)]
  by_cases h : r.val = 1023
  · rw [dif_neg (by show ¬ r.val + 9 < 1032; omega)]
    have e : (⟨((ix2 (⟨r.val + 9, by omega⟩ : Fin 1040) k : S1040x1024.Idx) 0).val - 1032, by show r.val + 9 - 1032 < 8; omega⟩ : Fin 8) = 0 := Fin.ext (by show r.val + 9 - 1032 = 0; omega)
    rw [e, slt_seven (it t)]
    by_cases h' : (it t).val < 7
    · rw [if_pos h', ScRow.gateAt_of_mem _ _ _ _ ⟨1024 * ((it t).val + 1), by omega⟩ (by show _ = ((1024 * ((it t).val + 1) : ℕ) : ℤ); omega)]
      simp only [blk2 m c t _ ⟨1024 * ((it t).val + 1), by omega⟩ rfl]
      rfl
    · rw [if_neg h', ScRow.gateAt_of_not_mem _ _ _ _ (by omega)]
      rfl
  · rw [dif_pos (by show r.val + 9 < 1032; omega)]
    rw [ScRow.gateAt_of_mem _ _ _ _ ⟨1024 * (it t).val + r.val + 1, by omega⟩ (by show _ = ((1024 * (it t).val + r.val + 1 : ℕ) : ℤ); omega)]
    simp only [blk1 m c t ⟨((ix2 (⟨r.val + 9, by omega⟩ : Fin 1040) k : S1040x1024.Idx) 0).val - 8, by show r.val + 9 - 8 < 1024; omega⟩ _ ⟨1024 * (it t).val + r.val + 1, by omega⟩ (by show 1024 * (it t).val + r.val + 1 = 1024 * (it t).val + (r.val + 9 - 8); omega)]
    rfl

/-- The result: every row of every sequence is the mixer's. -/
def result (c : Dev nD) : Buf (Elt Ideal) ((c : Thread nD τ).loc main_v5) := fun (y : S2x8192x1024.Idx) =>
  ScRow.seq (X m c (y 0)) (g m c) (w m c) (v m c) (o m c) (y 1) (y 2)

/-- What point `t` writes back is its block of the result. -/
theorem flushed_eq (c : Dev nD) (t : Fin cfg0.N) :
    (dats m 0 c).flushed 7 t = ((cfg0.win 7).blk t).view.read (Elt Ideal) (result m c) := by
  rw [Value.flushed7_A]
  obtain ⟨h0, h1, h2⟩ := index7 t
  have hi := (it t).isLt
  funext y
  obtain ⟨r, j, rfl⟩ : ∃ (r j : Fin 1024), y = (ix3 0 r j : S1x1024x1024.Idx) := ⟨y 1, y 2, by
    refine (eq_ix3 (n0 := 1) (n1 := 1024) (n2 := 1024) y).trans ?_
    have : ∀ q : Fin 1, q = 0 := fun q => Subsingleton.elim _ _
    exact congrArg (fun q => (ix3 q (y 1) (y 2) : S1x1024x1024.Idx)) (this (y 0))⟩
  rw [View.read_apply]
  refine (ScKernel.out_apply c _ _ _ _ _ _ _ _ _ _ _ _ _ _ _ _ _ _ _ _ _ _ _ _ _ _ r j).trans ?_
  have e : ((cfg0.win 7).blk t).view.emb (ix3 0 r j : S1x1024x1024.Idx) = (ix3 (bt t) ⟨1024 * (it t).val + r.val, by omega⟩ j : S2x8192x1024.Idx) := by
    refine funext fun a => Fin.ext ?_
    match a with
    | ⟨0, _⟩ => show win0_7.index t 0 * 1 + 1 * 0 = (bt t).val; omega
    | ⟨1, _⟩ => show win0_7.index t 1 * 1024 + 1 * r.val = 1024 * (it t).val + r.val; omega
    | ⟨2, _⟩ => show win0_7.index t 2 * 1024 + 1 * j.val = j.val; omega
  rw [e]
  show _ = ScRow.row (X m c (bt t) ⟨1024 * (it t).val + r.val, by omega⟩) (g m c) (w m c) (v m c) (o m c)
    (ScRow.gateAt (X m c (bt t)) (g m c) (w m c) ((1024 * (it t).val + r.val : ℕ) - 1))
    (ScRow.gateAt (X m c (bt t)) (g m c) (w m c) ((1024 * (it t).val + r.val : ℕ) + 1)) j
  have hw : ScKernel.wOf (iblk m c 4 t) = w m c := by
    funext k j
    exact blk4 m c t k j
  rw [hw, show (fun k => (iblk m c 3 t : Vec Ideal S1x1024 .f32) (ix2 0 k)) = g m c from funext (blk3 m c t),
    show (fun a k => (iblk m c 5 t : Vec Ideal S3x1024 .f32) (ix2 a k)) = v m c from funext fun a => funext (blk5 m c t a),
    show (fun k j => (iblk m c 6 t : Vec Ideal S1x1024x1024 .f32) (ix3 0 k j)) = o m c from funext fun a => funext (blk6 m c t a),
    show (fun k => (iblk m c 1 t : Vec Ideal S1x1024x1024 .f32) (ix3 0 r k)) = X m c (bt t) ⟨1024 * (it t).val + r.val, by omega⟩
      from funext fun k => blk1 m c t r k _ rfl]
  exact congrArg₂ (fun p n => ScRow.row (X m c (bt t) ⟨1024 * (it t).val + r.val, by omega⟩) (g m c) (w m c) (v m c) (o m c) p n j)
    (funext (before m c t r)) (funext (behind m c t r))

/-- The kernel's result array is the mixer's. -/
theorem arr (c : Dev nD) : (dats m 0 c).arrAt 7 cfg0.N = result m c := by
  refine (dats m 0 c).arrAt_eq_of_cover 7 (result m c) (fun t _ => flushed_eq m c t) fun (y : S2x8192x1024.Idx) => ?_
  have h : ∀ (b : Fin 2) (i : Fin 8), ∃ t : Fin grid0.N, win0_7.flush t = true ∧ (grid0.coords t 0).val = b.val ∧ (grid0.coords t 1).val = i.val := by decide +kernel
  have hy : (y 1).val < 8192 := (y 1).isLt
  obtain ⟨t, hf, hb, hi⟩ := h (y 0) ⟨(y 1).val / 1024, by omega⟩
  obtain ⟨h0, h1, h2⟩ := index7 t
  refine ⟨t, hf, ?_⟩
  show y ∈ ((View.whole main_v5).slice (win0_7.rect t)).set
  rw [View.set_slice_whole, Rect.mem_set_unit]
  have hb' : (bt t).val = (y 0).val := hb
  have hi' : (it t).val = (y 1).val / 1024 := hi
  intro a
  match a with
  | ⟨0, _⟩ => show win0_7.index t 0 * 1 ≤ (y 0).val ∧ (y 0).val < win0_7.index t 0 * 1 + 1; omega
  | ⟨1, _⟩ => show win0_7.index t 1 * 1024 ≤ (y 1).val ∧ (y 1).val < win0_7.index t 1 * 1024 + 1024; omega
  | ⟨2, _⟩ =>
    have : (y 2).val < 1024 := (y 2).isLt
    show win0_7.index t 2 * 1024 ≤ (y 2).val ∧ (y 2).val < win0_7.index t 2 * 1024 + 1024; omega

end Cert.ScValue

end
-- ==== Proof.ScRef.lean ====
module

public import proofs.«01_k».proof.Proof.Gen.ScRefIdeal.Read
public import proofs.«01_k».proof.Proof.ScRow

@[expose] public section

set_option maxRecDepth 16384

noncomputable section

open Idealize.ShloMosaic Idealize.ShloMosaic.TcCoe Idealize.SL.Sem Cert.Rows
open Cert.ScRefIdeal Cert.ScRefIdeal.Gen Cert.ScRefIdeal.Read

/-! # What the reference's result holds, element by element -/

namespace Cert.ScRef

/-- The reference's normed rows. -/
theorem normed (x0 : (⟨S2x8192x1024, .f32⟩ : BufTy).Contents (Elt Ideal)) (x1 : (⟨S4x3x1024, .f32⟩ : BufTy).Contents (Elt Ideal))
    (b : Fin 2) (l : Fin 8192) (j : Fin 1024) :
    val_main_v14 (F := Ideal) x0 x1 (ix3 b l j) = rowNorm (fun k => x0 (ix3 b l k)) (fun k => x1 (ix3 0 1 k)) j := by
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []
  rfl

/-- The reference's input projection. -/
theorem projected (x0 : (⟨S2x8192x1024, .f32⟩ : BufTy).Contents (Elt Ideal)) (x1 : (⟨S4x3x1024, .f32⟩ : BufTy).Contents (Elt Ideal))
    (x2 : (⟨S2x1024x3072, .f32⟩ : BufTy).Contents (Elt Ideal)) (b : Fin 2) (l : Fin 8192) (j : Fin 3072) :
    val_main_v21 (F := Ideal) x0 x1 x2 (ix3 b l j)
      = ScRow.proj (fun k => x0 (ix3 b l k)) (fun k => x1 (ix3 0 1 k)) (fun k j => x2 (ix3 0 k j)) j := by
  unfold val_main_v21 val_main_v16 val_main_v15
  pointwise []
  simp only [normed]
  rfl

/-- Each element of the reference's result is the mixer's row between the gated inputs of the neighbouring rows. -/
theorem result_apply (x0 : (⟨S2x8192x1024, .f32⟩ : BufTy).Contents (Elt Ideal)) (x1 : (⟨S4x3x1024, .f32⟩ : BufTy).Contents (Elt Ideal))
    (x2 : (⟨S2x1024x3072, .f32⟩ : BufTy).Contents (Elt Ideal)) (x3 : (⟨S2x3x1024, .f32⟩ : BufTy).Contents (Elt Ideal))
    (x4 : (⟨S2x1024x1024, .f32⟩ : BufTy).Contents (Elt Ideal)) (b : Fin 2) (l : Fin 8192) (j : Fin 1024) :
    val_main_v51 (F := Ideal) x0 x1 x2 x3 x4 (ix3 b l j)
      = ScRow.seq (fun l k => x0 (ix3 b l k)) (fun k => x1 (ix3 0 1 k)) (fun k j => x2 (ix3 0 k j)) (fun a k => x3 (ix3 0 a k))
          (fun k j => x4 (ix3 0 k j)) l j := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v20, val_main_v19, val_main_v18, val_main_v17, val_main_cst_2, val_main_call0_v0, val_main_c]
  simp only [projected]
  unfold ScRow.seq ScRow.row
  refine congrArg (_ + ·) (Finset.sum_congr rfl fun k _ => ?_)
  have h0 : (FloatOps.sitofp .f32 0#32 : Ideal .f32) = 0 := by
    show (((0#32 : BitVec 32).toInt : ℝ) : EReal) = 0
    simp
  rw [h0]
  refine congrArg (· * _) (congrArg (_ * ·) (congrArg₂ (· + ·) (congrArg₂ (· + ·) ?_ ?_) ?_))
  · rw [mul_comm]
    refine congrArg (_ * ·) ?_
    by_cases h : 1 ≤ l.val
    · rw [dif_pos ⟨h, by omega⟩, ScRow.gateAt_of_mem _ _ _ _ ⟨l.val - 1, by omega⟩ (by show (l.val : ℤ) - 1 = ((l.val - 1 : ℕ) : ℤ); omega)]
      rfl
    · rw [dif_neg (by omega), ScRow.gateAt_of_not_mem _ _ _ _ (by omega)]
  · rw [mul_comm]
    rfl
  · rw [mul_comm]
    refine congrArg (_ * ·) ?_
    by_cases h : 2 + l.val - 1 < 8192
    · rw [dif_pos ⟨by omega, h⟩, ScRow.gateAt_of_mem _ _ _ _ ⟨2 + l.val - 1, h⟩ (by show (l.val : ℤ) + 1 = ((2 + l.val - 1 : ℕ) : ℤ); omega)]
      rfl
    · rw [dif_neg (by omega), ScRow.gateAt_of_not_mem _ _ _ _ (by omega)]

end Cert.ScRef

end
-- ==== Proof.ScAlgebra.lean ====
/- The short-convolution mixer and its reference leave the same result. -/
module

public import proofs.«01_k».proof.Defs
public import proofs.«01_k».proof.Proof.Gen.ScIdeal.Value
public import proofs.«01_k».proof.Proof.Gen.ScRefIdeal.Run
public import proofs.«01_k».proof.Proof.ScValue
public import proofs.«01_k».proof.Proof.ScRef

@[expose] public section

noncomputable section

namespace Cert.ScAlgebra

open Idealize.ShloMosaic Idealize.SL.Sem

/-- The kernel's result is the reference's function of the arguments. -/
theorem result_eq (m : (ℓ : Loc Cert.ScIdeal.nD Cert.ScIdeal.τ Cert.ScIdeal.sig) → Buf (Elt Ideal) ℓ) (c : Dev Cert.ScIdeal.nD) :
    ScValue.result m c = Cert.ScRefIdeal.Read.val_main_v51 (F := Ideal)
      (m ((c.tc : Thread Cert.ScIdeal.nD Cert.ScIdeal.τ).loc Cert.ScIdeal.main_arg0)) (m ((c.tc : Thread Cert.ScIdeal.nD Cert.ScIdeal.τ).loc Cert.ScIdeal.main_arg1))
      (m ((c.tc : Thread Cert.ScIdeal.nD Cert.ScIdeal.τ).loc Cert.ScIdeal.main_arg2)) (m ((c.tc : Thread Cert.ScIdeal.nD Cert.ScIdeal.τ).loc Cert.ScIdeal.main_arg3))
      (m ((c.tc : Thread Cert.ScIdeal.nD Cert.ScIdeal.τ).loc Cert.ScIdeal.main_arg4)) := by
  funext (y : Cert.ScIdeal.S2x8192x1024.Idx)
  rw [eq_ix3 (n0 := 2) (n1 := 8192) (n2 := 1024) y]
  exact (ScRef.result_apply _ _ _ _ _ (y 0) (y 1) (y 2)).symm

/-- The reference keeps its arguments and touches no semaphore. -/
theorem frame_ref : Cert.quiescent_ScRefIdeal (hScRefIdeal := Cert.ScRefIdeal.Gen.facts) := fun m ρ _ =>
  (θ_run Cert.ScRefIdeal.defs _ _).mono (fun r h => ⟨fun c => (h c).2, sem_eq_zero_of_no_sems (by decide) r.2⟩)
    (Cert.ScRefIdeal.Value.run (F := Ideal) m ρ)

/-- From memories that agree on the arguments, kernel and reference both end with the mixer's result. -/
theorem algebraic : Cert.algebraic_ScIdeal_ScRefIdeal (hScIdeal := Cert.ScIdeal.Gen.facts) (hScRefIdeal := Cert.ScRefIdeal.Gen.facts) := by
  intro m ρ m' ρ' _ hm
  refine ⟨fun c => ScValue.result m c, ?_, ?_⟩
  · refine (θ_run _ _ _).mono (fun _ hr c => ⟨(hr c).1.trans (ScValue.arr m c), (hr c).2⟩) (Cert.ScIdeal.Value.run_blocks (F := Ideal) m ρ)
  · refine (θ_run _ _ _).mono (fun _ hr c => ⟨(hr c).1.trans ?_, (hr c).2⟩) (Cert.ScRefIdeal.Value.run (F := Ideal) m' ρ')
    obtain ⟨h0, h1, h2, h3, h4⟩ := hm c
    refine (Cert.ScRefIdeal.Read.val_main_v51_eq m' c).trans (Eq.trans ?_ (result_eq m c).symm)
    exact congr (congr (congr (congr (congrArg _ h0) h1) h2) h3) h4

end Cert.ScAlgebra

end
-- ==== Proof.FfnBFrame.lean ====
/- The frame of the feed-forward program at any scalars: every execution ends with the argument arrays unchanged and every semaphore
   counter at zero. Nothing the kernel computes is named here. -/
module

public import proofs.«01_k».proof.Proof.FfnBRunB
public import Idealize.ShloMosaic.Lib.Claim

@[expose] public section

-- membership in a rectangle of production extents (`View.cover_of_tiled`): the elaborator's structural look
-- recurses once per coordinate of the long axes
set_option maxRecDepth 16384

noncomputable section

namespace Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window, of whose contents nothing is said. -/
def forgets0 : Fin 3 → Bool := fun w => w.val == 2

/-- The proof data on core `c`: the inputs' buffers at their blocks, the output's unnamed, the scratch at anything. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦD osem0 spec0 H0 (V m) c
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (∃ d, owns (c : Thread nD τ) (ms0_2 t) fullShare d))

set_option maxHeartbeats 6400000 in
/-- The body at any point: the first point's run or a later one's, by the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.castSucc = Pipeline.ΦD osem0 spec0 H0 (V m) c from rfl, show (dats m 0 c).Φ t.succ = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases hz : t.val = 0
  · unfold owns
    iintro ⟨⟨⟨HS0, HS1, ⟨%d8, %e8, -, HS2⟩, ⟨%d9, %e9, -, HS3⟩, ⟨%d10, %e10, -, HS4⟩, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩⟩
    iapply ((runA c (grid0.coords t) _ _ _ _ _ _ _ _ _ _ _ _ _ _ _ _ _ _ ((hcond0_0 t).mpr (by omega)) (fun h => absurd ((hcond0_1 t).mp h) (by omega)) (iblk m c 0 t) (iblk m c 1 t) (V m c main_arg2) (V m c main_arg3) e8 e9 e10).2 W _)
    isplitl [H0]; · unfold owns; iexact H0
    isplitl [H1]; · unfold owns; iexact H1
    isplitl [H2]; · unfold owns; iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, ⟨%e2, H2⟩, ⟨%es0, HS0⟩, ⟨%es1, HS1⟩, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]
        · iexists _; iexists _; isplitr; swap; · iexact HS0
          ipureintro; rfl
        isplitl [HS1]
        · iexists _; iexists _; isplitr; swap; · iexact HS1
          ipureintro; rfl
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · unfold owns; iexact H0
    isplitl [H1]; · unfold owns; iexact H1
    iexists _; iexists _; isplitr; swap; · iexact H2
    ipureintro; rfl
  · iintro ⟨⟨⟨⟨%xs0, HS0⟩, ⟨%xs1, HS1⟩, HS2, HS3, HS4, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩⟩
    iapply ((runB c (grid0.coords t) _ _ _ _ _ _ _ _ _ _ _ _ _ _ _ _ _ _ (fun h => absurd ((hcond0_0 t).mp h) (by omega)) ((hcond0_1 t).mpr (by omega)) (iblk m c 0 t) (iblk m c 1 t) xs0 xs1 (V m c main_arg2) (V m c main_arg3)).2 W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, ⟨%e2, H2⟩, HS0, HS1, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]; · iexists _; iexact HS0
        isplitl [HS1]; · iexists _; iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    iexists _; unfold owns; iexists _; isplitr; swap; · iexact H2
    ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- (implicit arguments are found by unifying the conclusion with this one)
set_option backward.isDefEq.respectTransparency.types false in
/-- The launch: the pipeline's arrays that are inputs are unchanged, and every counter is zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame claim, at any scalars. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (fun c => (dats m 0 c).toRForget forgets0) (A_eq m) ((θ_run defs _ _).mono (fun _ h => h.1) (run_main_quiescent m ρ)))
    ((θ_run defs _ _).mono (fun _ h => h.2) (run_main_quiescent m ρ))

end Cert.Ffn.Gen

end
-- ==== Proof.FfnIRuns.lean ====
/- The launch set-up that the runs of the feed-forward program's kernel share: the host operations before the region, the windows' blocks,
   the body's two branch conditions over the grid points, the names of the buffers it is given, and the region's invariant. -/
module

public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_FfnIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S2x1024x256 .f32 := Memref.whole cc0_scratch2
abbrev scM0_3 : Memref sig .tc .vmem S2x1024x256 .f32 := Memref.whole cc0_scratch3
abbrev scM0_4 : Memref sig .tc .vmem S2x256x1024 .f32 := Memref.whole cc0_scratch4
abbrev scM0_5 : Memref sig .tc .vmem S1024x2816 .bf16 := Memref.whole cc0_scratch5
/-- The scratch `arg6` the kernel carries between points, as a view: what it holds is stated through it. -/
abbrev VS0_0 : View sig .tc .vmem S1024x5632 .bf16 := scM0_0.view
/-- The operands left in HBM that the body copies into scratch itself, whole. -/
abbrev hbM0_0 : Memref sig .tc .hbm S4x2x1024x5632 .f32 := Memref.whole main_arg2
abbrev hbM0_1 : Memref sig .tc .hbm S4x2x2816x1024 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 5, SemLoc.dma 6, SemLoc.dma 7, SemLoc.dma 8, SemLoc.dma 9, SemLoc.dma 10] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg2, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3))) := by
  rw [Pipeline.ΦD_eq, scopedRest0_eq, ownSems00_eq, hbmPts0_eq]; simp only [scM0_0, scM0_1, scM0_2, scM0_3, scM0_4, scM0_5, owns_whole]; try rfl

end Cert.FfnIdeal.Gen

end
-- ==== Proof.FfnIRunA.lean ====
module

public import proofs.«01_k».proof.Proof.FfnIRuns

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 8000000 in set_option sl_exec.dmaWindow true in set_option sl_exec.dmaWindowSet true in
/-- The first point's run: what the stores leave in the output's staging buffer and in the two kept weight buffers, as pieces,
    with the proof that the body, started on whole buffers, ends with those pieces written, the other scratch at some contents,
    the operands and the semaphore cells as they were. -/
noncomputable def runA (c : Dev nD) (i : grid0.Coords) (arg1 : Memref sig .tc .vmem S1024x1024 .f32) (harg1 : arg1.IsWhole) (arg2 : Memref sig .tc .vmem S1x1024 .f32) (harg2 : arg2.IsWhole) (arg5 : Memref sig .tc .vmem S1024x1024 .f32) (harg5 : arg5.IsWhole) (arg6 : Memref sig .tc .vmem S1024x5632 .bf16) (harg6 : arg6.IsWhole) (arg7 : Memref sig .tc .vmem S2816x1024 .bf16) (harg7 : arg7.IsWhole)
    (arg8 : Memref sig .tc .vmem S2x1024x256 .f32) (harg8 : arg8.IsWhole) (arg9 : Memref sig .tc .vmem S2x1024x256 .f32) (harg9 : arg9.IsWhole) (arg10 : Memref sig .tc .vmem S2x256x1024 .f32) (harg10 : arg10.IsWhole) (arg11 : Memref sig .tc .vmem S1024x2816 .bf16) (harg11 : arg11.IsWhole) (hc0 : cond0_0 i) (hc1 : ¬cond0_1 i)
    (x0 : Vec F S1024x1024 .f32) (x1 : Vec F S1x1024 .f32) (fh0 : HbBuf0 (F := F) c hbM0_0) (fh1 : HbBuf0 (F := F) c hbM0_1)
    (fs2 : HbBuf0 (F := F) c arg8) (fs3 : HbBuf0 (F := F) c arg9) (fs4 : HbBuf0 (F := F) c arg10) :
    { L : List (View.Piece (Elt F) S1024x1024 .f32) × List (View.Piece (Elt F) S1024x5632 .bf16) × List (View.Piece (Elt F) S2816x1024 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d) ∗ (∃ d, owns (c : Thread nD τ) arg7 fullShare d) ∗ (arg8.view.loc (c : Thread nD τ) ↦[arg8.view.set]{fullShare} fs2) ∗ (arg9.view.loc (c : Thread nD τ) ↦[arg9.view.set]{fullShare} fs3) ∗ (arg10.view.loc (c : Thread nD τ) ↦[arg10.view.set]{fullShare} fs4) ∗ (∃ d, owns (c : Thread nD τ) arg11 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_block i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 cc0_scratch6) K } := by
  refine ⟨⟨?_, ?_, ?_⟩, fun W K => ?run⟩
  case run =>
    simp only [cc0_ffn_block_eq_skeleton]; unfold cc0_ffn_block_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, HS2, HS3, HS4, ⟨%ds5, %fs5, -, HS5⟩, Hq0, Hq1, Hq2, Hq3, Hq4, Hq5, Hh0, Hh1, HW, Hk⟩
    obtain rfl := harg1.eq_unread hf0; obtain rfl := harg2.eq_unread hf1
    set_option sl_exec.squeezeSlice true in sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.FfnIdeal.Gen

end
-- ==== Proof.FfnIRunB.lean ====
module

public import proofs.«01_k».proof.Proof.FfnIRunA

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A later point's run: the two kept weight buffers are read and stay as they are; what the store leaves in the output's staging
    buffer, as pieces. -/
noncomputable def runB (c : Dev nD) (i : grid0.Coords) (arg1 : Memref sig .tc .vmem S1024x1024 .f32) (harg1 : arg1.IsWhole) (arg2 : Memref sig .tc .vmem S1x1024 .f32) (harg2 : arg2.IsWhole) (arg5 : Memref sig .tc .vmem S1024x1024 .f32) (harg5 : arg5.IsWhole) (arg6 : Memref sig .tc .vmem S1024x5632 .bf16) (harg6 : arg6.IsWhole) (arg7 : Memref sig .tc .vmem S2816x1024 .bf16) (harg7 : arg7.IsWhole)
    (arg8 : Memref sig .tc .vmem S2x1024x256 .f32) (harg8 : arg8.IsWhole) (arg9 : Memref sig .tc .vmem S2x1024x256 .f32) (harg9 : arg9.IsWhole) (arg10 : Memref sig .tc .vmem S2x256x1024 .f32) (harg10 : arg10.IsWhole) (arg11 : Memref sig .tc .vmem S1024x2816 .bf16) (harg11 : arg11.IsWhole) (hc0 : ¬cond0_0 i) (hc1 : cond0_1 i)
    (x0 : Vec F S1024x1024 .f32) (x1 : Vec F S1x1024 .f32) (xs0 : Vec F S1024x5632 .bf16) (xs1 : Vec F S2816x1024 .bf16) (fh0 : HbBuf0 (F := F) c hbM0_0) (fh1 : HbBuf0 (F := F) c hbM0_1) :
    { L : List (View.Piece (Elt F) S1024x1024 .f32) //
      ∀ (W : Waits sig Unit) (K : PUnit → sProp 𝕄),
        iprop(owns (c : Thread nD τ) arg1 fullShare x0 ∗ owns (c : Thread nD τ) arg2 fullShare x1 ∗ (∃ d, owns (c : Thread nD τ) arg5 fullShare d) ∗ owns (c : Thread nD τ) arg6 fullShare xs0 ∗ owns (c : Thread nD τ) arg7 fullShare xs1 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f L) ∗ owns (c : Thread nD τ) arg6 fullShare xs0 ∗ owns (c : Thread nD τ) arg7 fullShare xs1 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_block i arg1 harg1 arg2 harg2 (Memref.whole main_arg2) (Memref.isWhole_whole _) (Memref.whole main_arg3) (Memref.isWhole_whole _) arg5 harg5 arg6 harg6 arg7 harg7 arg8 harg8 arg9 harg9 arg10 harg10 arg11 harg11 cc0_scratch6) K } := by
  refine ⟨?_, fun W K => ?run⟩
  case run =>
    simp only [cc0_ffn_block_eq_skeleton]; unfold cc0_ffn_block_skel
    simp only [k0_part30_eq_skeleton, k0_part31_eq_skeleton, k0_part32_eq_skeleton, k0_part33_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hh0, Hh1, HW, Hk⟩
    obtain rfl := harg1.eq_unread hf0; obtain rfl := harg2.eq_unread hf1
    obtain rfl := harg6.eq_unread hfs0; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]
    · iexists _; isplitr; · ipureintro; exact harg6.read_unread _
      iexact HS0
    isplitl [HS1]
    · iexists _; isplitr; · ipureintro; exact harg7.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.FfnIdeal.Gen

end
-- ==== Proof.FfnSlots.lean ====
module

public import Idealize.ShloMosaic.Lib.ValueLayout
public import Idealize.ShloMosaic.Lib.Writes
public import Idealize.ShloMosaic.Lib.ViewIndex
public import Idealize.ShloMosaic.Lib.Pointwise

@[expose] public section

noncomputable section

open Idealize.ShloMosaic

/-! # Staging slots: what a copy into one leaves to be read -/

namespace Cert.FfnSlots

variable {sig : RefSig} {κ : Kind} {sp : Space} {e : EltTy} {Val : EltTy → Type} {S A B : ℕ}

/-- A slot of a stack of slots. -/
abbrev slot (s : ℕ) (h : ∀ a, (![s, 0, 0] : Fin 3 → ℕ) a + (⟨3, ![1, A, B]⟩ : Shape).size a ≤ (⟨3, ![S, A, B]⟩ : Shape).size a) :
    Rect ⟨3, ![S, A, B]⟩ := Rect.unit (![s, 0, 0] : Fin 3 → ℕ) (⟨3, ![1, A, B]⟩ : Shape).size h

/-- Reading the slot just copied into gives the copy. -/
theorem read_hit (v : View sig κ sp ⟨3, ![S, A, B]⟩ e) (s : ℕ) (h) (hn : (⟨2, ![A, B]⟩ : Shape).numel = (slot (S := S) (A := A) (B := B) s h).shape.numel)
    (f : v.ty.Contents Val) (p : (⟨2, ![A, B]⟩ : Shape).Idx → Val e) (k : Fin A) (j : Fin B) :
    v.readAt Val (slot s h).toLoadRect (((v.slice (slot s h)).reshape ⟨2, ![A, B]⟩ hn).write Val f p Finset.univ) (ix3 (0 : Fin 1) k j)
      = p (ix2 k j) := by
  have e := View.read_write_reshape (v.slice (slot s h)) hn f p (ix2 k j)
  rw [show Shape.reshapeEquiv hn (ix2 k j) = ix3 (0 : Fin 1) k j from ValueIdx.reshapeEquiv_ix2_1ab hn k j] at e
  exact e

/-- Different slots have no element in common. -/
theorem disjoint {s s' : ℕ} (hs : s ≠ s') (h h') : Disjoint (slot (S := S) (A := A) (B := B) s h).set (slot (S := S) (A := A) (B := B) s' h').set := by
  rw [Finset.disjoint_left]
  intro i hi hi'
  have a := Rect.mem_set_unit.mp hi 0
  have b := Rect.mem_set_unit.mp hi' 0
  have a1 : s ≤ (i 0).val ∧ (i 0).val < s + 1 := a
  have b1 : s' ≤ (i 0).val ∧ (i 0).val < s' + 1 := b
  omega

/-- A copy into another slot is not seen. -/
theorem read_miss (v : View sig κ sp ⟨3, ![S, A, B]⟩ e) {s s' : ℕ} (hs : s ≠ s') (h h')
    (hn : (⟨2, ![A, B]⟩ : Shape).numel = (slot (S := S) (A := A) (B := B) s' h').shape.numel)
    (f : v.ty.Contents Val) (p : (⟨2, ![A, B]⟩ : Shape).Idx → Val e) :
    v.readAt Val (slot s h).toLoadRect (((v.slice (slot s' h')).reshape ⟨2, ![A, B]⟩ hn).write Val f p Finset.univ)
      = v.readAt Val (slot s h).toLoadRect f := by
  refine View.read_congr (v := v.slice (slot s h)) fun i hi => View.write_of_not_mem _ _ _ ?_
  intro hm
  rw [show ((v.slice (slot s' h')).reshape ⟨2, ![A, B]⟩ hn).setOn Finset.univ = (v.slice (slot s' h')).set from View.set_reshape _ hn, View.set_slice] at hm
  rw [View.set_slice] at hi
  exact Finset.disjoint_left.mp ((Finset.disjoint_map v.emb).mpr (disjoint hs h h')) hi hm

/-- A slot copied into before the other slot was. -/
theorem read_under (v : View sig κ sp ⟨3, ![S, A, B]⟩ e) {s s' : ℕ} (hs : s ≠ s') (h h')
    (hn : (⟨2, ![A, B]⟩ : Shape).numel = (slot (S := S) (A := A) (B := B) s h).shape.numel)
    (hn' : (⟨2, ![A, B]⟩ : Shape).numel = (slot (S := S) (A := A) (B := B) s' h').shape.numel)
    (f : v.ty.Contents Val) (p q : (⟨2, ![A, B]⟩ : Shape).Idx → Val e) (k : Fin A) (j : Fin B) :
    v.readAt Val (slot s h).toLoadRect (((v.slice (slot s' h')).reshape ⟨2, ![A, B]⟩ hn').write Val
        (((v.slice (slot s h)).reshape ⟨2, ![A, B]⟩ hn).write Val f p Finset.univ) q Finset.univ) (ix3 (0 : Fin 1) k j)
      = p (ix2 k j) :=
  (congrFun (read_miss v hs h h' hn' _ q) _).trans (read_hit v s h hn f p k j)

/-- A block of a stack of stacks of matrices, its two unit axes dropped. -/
theorem read_block {C D E G p q : ℕ} (v : View sig κ sp ⟨4, ![C, D, E, G]⟩ e) (o₁ o₂ : ℕ)
    (h : ∀ a, (![p, q, o₁, o₂] : Fin 4 → ℕ) a + (⟨4, ![1, 1, A, B]⟩ : Shape).size a ≤ (⟨4, ![C, D, E, G]⟩ : Shape).size a)
    (hn : (⟨2, ![A, B]⟩ : Shape).numel = (Rect.unit (s := ⟨4, ![C, D, E, G]⟩) (![p, q, o₁, o₂] : Fin 4 → ℕ) (⟨4, ![1, 1, A, B]⟩ : Shape).size h).shape.numel)
    (f : v.ty.Contents Val) (k : Fin A) (j : Fin B) :
    ((v.slice (Rect.unit (s := ⟨4, ![C, D, E, G]⟩) (![p, q, o₁, o₂] : Fin 4 → ℕ) (⟨4, ![1, 1, A, B]⟩ : Shape).size h)).reshape ⟨2, ![A, B]⟩ hn).read Val f (ix2 k j)
      = v.read Val f ((Rect.unit (s := ⟨4, ![C, D, E, G]⟩) (![p, q, o₁, o₂] : Fin 4 → ℕ) (⟨4, ![1, 1, A, B]⟩ : Shape).size h).emb
          (ix4 (0 : Fin 1) (0 : Fin 1) k j)) := by
  have e : Shape.reshapeEquiv hn (ix2 k j) = ix4 (0 : Fin 1) (0 : Fin 1) k j := ValueIdx.reshapeEquiv_ix2_11ab hn k j
  show v.read Val f (Rect.emb _ (Shape.reshapeEquiv hn (ix2 k j))) = _
  rw [e]

end Cert.FfnSlots

end
-- ==== Proof.FfnRow.lean ====
module

public import proofs.«01_k».proof.Proof.Rows

@[expose] public section

noncomputable section

open Idealize.ShloMosaic Cert.Rows

/-! # One row of the gated feed-forward block -/

namespace Cert.FfnRow

/-- Column `j` of the first projection of one normed row. -/
def proj (x g : Fin 1024 → EReal) (w : Fin 1024 → Fin 5632 → EReal) (j : Fin 5632) : EReal :=
  ∑ k : Fin 1024, rowNorm x g k * w k j

/-- Hidden channel `f` of one row: the gate half of the projection times its logistic times the other half. -/
def hidden (x g : Fin 1024 → EReal) (w : Fin 1024 → Fin 5632 → EReal) (f : Fin 2816) : EReal :=
  proj x g w ⟨f.val, by omega⟩ * Ideal.logistic (proj x g w ⟨f.val, by omega⟩) * proj x g w ⟨2816 + f.val, by omega⟩

/-- One row of the block's result: the row plus half the second projection of its hidden channels. -/
def row (x g : Fin 1024 → EReal) (w : Fin 1024 → Fin 5632 → EReal) (o : Fin 2816 → Fin 1024 → EReal) (j : Fin 1024) : EReal :=
  x j + Ideal.ofBits .f32 0x3F000000#32 * ∑ f : Fin 2816, hidden x g w f * o f j

end Cert.FfnRow

end
-- ==== Proof.FfnWeights.lean ====
module

public import proofs.«01_k».proof.Proof.FfnIRunA
public import proofs.«01_k».proof.Proof.FfnIRunB
public import proofs.«01_k».proof.Proof.FfnSlots
public import proofs.«01_k».proof.Proof.FfnRow

@[expose] public section

set_option maxRecDepth 16384

noncomputable section

open Idealize.ShloMosaic Idealize.ShloMosaic.TcCoe Cert.Rows
open Cert.FfnIdeal Cert.FfnIdeal.Gen

/-! # What the weights and the hidden channels are when they are read -/

namespace Cert.FfnKernel

/-- The first weight matrix: layer 0's first one, out of the stack. -/
def wIn (fh0 : (⟨S4x2x1024x5632, .f32⟩ : BufTy).Contents (Elt Ideal)) : S1024x5632.Idx → EReal := fun i => fh0 (ix4 0 0 (i 0) (i 1))

/-- The second weight matrix. -/
def wOut (fh1 : (⟨S4x2x2816x1024, .f32⟩ : BufTy).Contents (Elt Ideal)) : S2816x1024.Idx → EReal := fun i => fh1 (ix4 0 0 (i 0) (i 1))

/-- The hidden channels of a block of rows `x0` under the gains `x1` and the first weight matrix `w`. -/
def hid (x0 : Vec Ideal S1024x1024 .f32) (x1 : Vec Ideal S1x1024 .f32) (w : S1024x5632.Idx → EReal) : S1024x2816.Idx → EReal := fun i =>
  FfnRow.hidden (fun k => x0 (ix2 (i 0) k)) (fun k => x1 (ix2 0 k)) (fun k j => w (ix2 k j)) (i 1)

/-- The result of a block of rows. -/
def out (x0 : Vec Ideal S1024x1024 .f32) (x1 : Vec Ideal S1x1024 .f32) (w : S1024x5632.Idx → EReal) (v : S2816x1024.Idx → EReal) : S1024x1024.Idx → EReal := fun i =>
  FfnRow.row (fun k => x0 (ix2 (i 0) k)) (fun k => x1 (ix2 0 k)) (fun k j => w (ix2 k j)) (fun f j => v (ix2 f j)) (i 1)

/-! ## The payloads -/

theorem pay5_apply (v : Vec Ideal S1x1024x256 .f32) (k : Fin 1024) (j : Fin 256) : k0_pay5 (F := Ideal) v (ix2 k j) = v (ix3 0 k j) := by
  unfold k0_pay5
  pointwise []

theorem pay7_apply (v : Vec Ideal S1x256x1024 .f32) (k : Fin 256) (j : Fin 1024) : k0_pay7 (F := Ideal) v (ix2 k j) = v (ix3 0 k j) := by
  unfold k0_pay7
  pointwise []

theorem pay4_apply (x : Vec Ideal S1024x1024 .f32) (g : Vec Ideal S1x1024 .f32) (k j : Fin 1024) :
    k0_pay4 (F := Ideal) x g (ix2 k j) = rowNorm (fun l => x (ix2 k l)) (fun l => g (ix2 0 l)) j := by
  unfold k0_pay4
  pointwise [k0_pay3]
  rfl

theorem pay8_apply (n : Vec Ideal S1024x1024 .bf16) (g u : Vec Ideal S1024x256 .bf16) (k : Fin 1024) (j : Fin 256) :
    k0_pay8 (F := Ideal) n g u (ix2 k j) = (∑ x : Fin 1024, n (ix2 k x) * g (ix2 x j)) * Ideal.logistic (∑ x : Fin 1024, n (ix2 k x) * g (ix2 x j))
      * ∑ x : Fin 1024, n (ix2 k x) * u (ix2 x j) := by
  unfold k0_pay8
  pointwise []

theorem pay55_apply (x : Vec Ideal S1024x1024 .f32) (h : Vec Ideal S1024x2816 .bf16) (v : Vec Ideal S2816x1024 .bf16) (k j : Fin 1024) :
    k0_pay55 (F := Ideal) (k0_pay3 x) h v (ix2 k j) = x (ix2 k j) + Ideal.ofBits .f32 0x3F000000#32 * ∑ f : Fin 2816, h (ix2 k f) * v (ix2 f j) := by
  unfold k0_pay55
  pointwise [k0_pay3]

/-! ## Blocks of the weights in HBM -/

theorem in_block (c : Dev nD) (fh0 : HbBuf0 (F := Ideal) c hbM0_0) (o : ℕ) (ho : o + 256 ≤ 5632)
    (h : ∀ a, (![0, 0, 0, o] : Fin 4 → ℕ) a + S1x1x1024x256.size a ≤ S4x2x1024x5632.size a) (hn) (k : Fin 1024) (j : Fin 256) :
    (((Memref.whole main_arg2).view.slice (Rect.unit (s := S4x2x1024x5632) (![0, 0, 0, o] : Fin 4 → ℕ) S1x1x1024x256.size h)).reshape S1024x256 hn).read (Elt Ideal) fh0 (ix2 k j)
      = fh0 (ix4 0 0 k (⟨o + j.val, by omega⟩ : Fin 5632)) := by
  refine (FfnSlots.read_block (Memref.whole main_arg2).view 0 o h hn fh0 k j).trans (congrArg fh0 ?_)
  funext a
  match a with
  | ⟨0, _⟩ => exact Fin.ext (by show 0 + 1 * 0 = 0; rfl)
  | ⟨1, _⟩ => exact Fin.ext (by show 0 + 1 * 0 = 0; rfl)
  | ⟨2, _⟩ => exact Fin.ext (by show 0 + 1 * k.val = k.val; omega)
  | ⟨3, _⟩ => exact Fin.ext (by show o + 1 * j.val = o + j.val; omega)

theorem out_block (c : Dev nD) (fh1 : HbBuf0 (F := Ideal) c hbM0_1) (o : ℕ) (ho : o + 256 ≤ 2816)
    (h : ∀ a, (![0, 0, o, 0] : Fin 4 → ℕ) a + S1x1x256x1024.size a ≤ S4x2x2816x1024.size a) (hn) (k : Fin 256) (j : Fin 1024) :
    (((Memref.whole main_arg3).view.slice (Rect.unit (s := S4x2x2816x1024) (![0, 0, o, 0] : Fin 4 → ℕ) S1x1x256x1024.size h)).reshape S256x1024 hn).read (Elt Ideal) fh1 (ix2 k j)
      = fh1 (ix4 0 0 (⟨o + k.val, by omega⟩ : Fin 2816) j) := by
  refine (FfnSlots.read_block (Memref.whole main_arg3).view o 0 h hn fh1 k j).trans (congrArg fh1 ?_)
  funext a
  match a with
  | ⟨0, _⟩ => exact Fin.ext (by show 0 + 1 * 0 = 0; rfl)
  | ⟨1, _⟩ => exact Fin.ext (by show 0 + 1 * 0 = 0; rfl)
  | ⟨2, _⟩ => exact Fin.ext (by show o + 1 * k.val = o + k.val; omega)
  | ⟨3, _⟩ => exact Fin.ext (by show 0 + 1 * j.val = j.val; omega)

/-! ## Pieces that agree with the whole -/

theorem in_piece (fh0 : (⟨S4x2x1024x5632, .f32⟩ : BufTy).Contents (Elt Ideal)) (o : ℕ) (ho : o + 256 ≤ 5632)
    (h : ∀ a, (![0, o] : Fin 2 → ℕ) a + S1024x256.size a ≤ S1024x5632.size a) (v : Vec Ideal S1x1024x256 .f32)
    (hv : ∀ (k : Fin 1024) (j : Fin 256), v (ix3 0 k j) = fh0 (ix4 0 0 k (⟨o + j.val, by omega⟩ : Fin 5632))) (x : S1024x256.Idx) :
    k0_pay5 (F := Ideal) v x = wIn fh0 ((Rect.unit (s := S1024x5632) (![0, o] : Fin 2 → ℕ) S1024x256.size h).emb x) := by
  obtain ⟨k, j, rfl⟩ : ∃ (k : Fin 1024) (j : Fin 256), x = ix2 k j := ⟨x 0, x 1, eq_ix2 (n0 := 1024) (n1 := 256) x⟩
  rw [pay5_apply, hv]
  refine congrArg₂ (fun (a : Fin 1024) (b : Fin 5632) => fh0 (ix4 0 0 a b)) (Fin.ext ?_) (Fin.ext ?_)
  · show k.val = 0 + 1 * k.val; omega
  · show o + j.val = o + 1 * j.val; omega

theorem out_piece (fh1 : (⟨S4x2x2816x1024, .f32⟩ : BufTy).Contents (Elt Ideal)) (o : ℕ) (ho : o + 256 ≤ 2816)
    (h : ∀ a, (![o, 0] : Fin 2 → ℕ) a + S256x1024.size a ≤ S2816x1024.size a) (v : Vec Ideal S1x256x1024 .f32)
    (hv : ∀ (k : Fin 256) (j : Fin 1024), v (ix3 0 k j) = fh1 (ix4 0 0 (⟨o + k.val, by omega⟩ : Fin 2816) j)) (x : S256x1024.Idx) :
    k0_pay7 (F := Ideal) v x = wOut fh1 ((Rect.unit (s := S2816x1024) (![o, 0] : Fin 2 → ℕ) S256x1024.size h).emb x) := by
  obtain ⟨k, j, rfl⟩ : ∃ (k : Fin 256) (j : Fin 1024), x = ix2 k j := ⟨x 0, x 1, eq_ix2 (n0 := 256) (n1 := 1024) x⟩
  rw [pay7_apply, hv]
  refine congrArg₂ (fun (a : Fin 2816) (b : Fin 1024) => fh1 (ix4 0 0 a b)) (Fin.ext ?_) (Fin.ext ?_)
  · show o + k.val = o + 1 * k.val; omega
  · show j.val = 0 + 1 * j.val; omega

theorem hid_piece (x0 : Vec Ideal S1024x1024 .f32) (x1 : Vec Ideal S1x1024 .f32) (w : S1024x5632.Idx → EReal) (o o' : ℕ) (ho : o + 256 ≤ 2816) (e : o' = 2816 + o)
    (h : ∀ a, (![0, o] : Fin 2 → ℕ) a + S1024x256.size a ≤ S1024x2816.size a)
    (h1 : ∀ a, (![0, o] : Fin 2 → ℕ) a + S1024x256.size a ≤ S1024x5632.size a)
    (h2 : ∀ a, (![0, o'] : Fin 2 → ℕ) a + S1024x256.size a ≤ S1024x5632.size a) (g u : Vec Ideal S1024x256 .bf16)
    (hg : ∀ x, g x = w ((Rect.unit (s := S1024x5632) (![0, o] : Fin 2 → ℕ) S1024x256.size h1).emb x))
    (hu : ∀ x, u x = w ((Rect.unit (s := S1024x5632) (![0, o'] : Fin 2 → ℕ) S1024x256.size h2).emb x)) (x : S1024x256.Idx) :
    k0_pay8 (F := Ideal) (k0_pay4 x0 x1) g u x = hid x0 x1 w ((Rect.unit (s := S1024x2816) (![0, o] : Fin 2 → ℕ) S1024x256.size h).emb x) := by
  obtain ⟨r, j, rfl⟩ : ∃ (r : Fin 1024) (j : Fin 256), x = ix2 r j := ⟨x 0, x 1, eq_ix2 (n0 := 1024) (n1 := 256) x⟩
  have hg' : ∀ k : Fin 1024, g (ix2 k j) = w (ix2 k (⟨o + j.val, by omega⟩ : Fin 5632)) := fun k => (hg _).trans (congrArg w (by
    funext a
    match a with
    | ⟨0, _⟩ => exact Fin.ext (by show 0 + 1 * k.val = k.val; omega)
    | ⟨1, _⟩ => exact Fin.ext (by show o + 1 * j.val = o + j.val; omega)))
  have hu' : ∀ k : Fin 1024, u (ix2 k j) = w (ix2 k (⟨2816 + (o + j.val), by omega⟩ : Fin 5632)) := fun k => (hu _).trans (congrArg w (by
    funext a
    match a with
    | ⟨0, _⟩ => exact Fin.ext (by show 0 + 1 * k.val = k.val; omega)
    | ⟨1, _⟩ => exact Fin.ext (by show o' + 1 * j.val = 2816 + (o + j.val); omega)))
  rw [pay8_apply]
  simp only [pay4_apply, hg', hu']
  show FfnRow.hidden (fun k => x0 (ix2 r k)) (fun k => x1 (ix2 0 k)) (fun k j => w (ix2 k j)) ⟨o + j.val, by omega⟩ = _
  refine congrArg₂ (fun (a : Fin 1024) (b : Fin 2816) => FfnRow.hidden (fun k => x0 (ix2 a k)) (fun k => x1 (ix2 0 k)) (fun k j => w (ix2 k j)) b) (Fin.ext ?_) (Fin.ext ?_)
  · show r.val = 0 + 1 * r.val; omega
  · show o + j.val = o + 1 * j.val; omega

/-- A whole rectangle at the origin re-indexes nothing. -/
theorem emb_origin {a b : ℕ} (h : ∀ i, (![0, 0] : Fin 2 → ℕ) i + (⟨2, ![a, b]⟩ : Shape).size i ≤ (⟨2, ![a, b]⟩ : Shape).size i) (x : (⟨2, ![a, b]⟩ : Shape).Idx) :
    (Rect.unit (s := ⟨2, ![a, b]⟩) (![0, 0] : Fin 2 → ℕ) (⟨2, ![a, b]⟩ : Shape).size h).emb x = x := by
  funext i
  match i with
  | ⟨0, _⟩ => exact Fin.ext (by show 0 + 1 * (x 0).val = (x 0).val; omega)
  | ⟨1, _⟩ => exact Fin.ext (by show 0 + 1 * (x 1).val = (x 1).val; omega)

theorem out_piece_last (x0 : Vec Ideal S1024x1024 .f32) (x1 : Vec Ideal S1x1024 .f32) (w : S1024x5632.Idx → EReal) (v : S2816x1024.Idx → EReal)
    (h) (hh : Vec Ideal S1024x2816 .bf16) (vv : Vec Ideal S2816x1024 .bf16) (e1 : ∀ x, hh x = hid x0 x1 w x) (e2 : ∀ x, vv x = v x) (x : S1024x1024.Idx) :
    k0_pay55 (F := Ideal) (k0_pay3 x0) hh vv x = out x0 x1 w v ((Rect.unit (s := S1024x1024) (![0, 0] : Fin 2 → ℕ) S1024x1024.size h).emb x) := by
  rw [show (Rect.unit (s := S1024x1024) (![0, 0] : Fin 2 → ℕ) S1024x1024.size h).emb x = x from emb_origin h x]
  obtain ⟨r, j, rfl⟩ : ∃ (r j : Fin 1024), x = ix2 r j := ⟨x 0, x 1, eq_ix2 (n0 := 1024) (n1 := 1024) x⟩
  rw [pay55_apply]
  simp only [e1, e2]
  rfl

theorem mem_origin {a b : ℕ} (h : ∀ i, (![0, 0] : Fin 2 → ℕ) i + (⟨2, ![a, b]⟩ : Shape).size i ≤ (⟨2, ![a, b]⟩ : Shape).size i) (x : (⟨2, ![a, b]⟩ : Shape).Idx) :
    x ∈ (Rect.unit (s := ⟨2, ![a, b]⟩) (![0, 0] : Fin 2 → ℕ) (⟨2, ![a, b]⟩ : Shape).size h).set := by
  have e : (Rect.unit (s := ⟨2, ![a, b]⟩) (![0, 0] : Fin 2 → ℕ) (⟨2, ![a, b]⟩ : Shape).size h).emb x ∈ _ := (Rect.unit (s := ⟨2, ![a, b]⟩) (![0, 0] : Fin 2 → ℕ) (⟨2, ![a, b]⟩ : Shape).size h).idx_mem x
  rwa [emb_origin h x] at e

/-- Pieces that agree with `G` are read as `G` under a rectangle that is one of theirs. -/
theorem cov_piece {s : Shape} {e : EltTy} (v : View sig .tc .vmem s e) (G : s.Idx → Elt Ideal e) (L : List (View.Piece (Elt Ideal) s e))
    (hL : ∀ p ∈ L, ∀ x : p.1.shape.Idx, p.2 x = G (p.1.emb x)) (r : Rect s) (hr : ∃ w, (⟨r, w⟩ : View.Piece (Elt Ideal) s e) ∈ L) (x : r.shape.Idx) :
    v.readCov L r.toLoadRect x = G (r.emb x) := by
  obtain ⟨w, hw⟩ := hr
  exact View.read_writes_apply_of_pieces v v.junk G L hL (r.emb x) ⟨_, hw, r.idx_mem x⟩

section
variable (c : Dev nD) (fh0 : HbBuf0 (F := Ideal) c hbM0_0) (fh1 : HbBuf0 (F := Ideal) c hbM0_1)
  (arg8 : Memref sig .tc .vmem S2x1024x256 .f32) (fs2 : HbBuf0 (F := Ideal) c arg8)
  (arg9 : Memref sig .tc .vmem S2x1024x256 .f32) (fs3 : HbBuf0 (F := Ideal) c arg9)
  (arg10 : Memref sig .tc .vmem S2x256x1024 .f32) (fs4 : HbBuf0 (F := Ideal) c arg10)

/-! ## The staged blocks, at the places they are read -/

theorem gate0 (k : Fin 1024) (j : Fin 256) : runA.sl.v77 (F := Ideal) c arg8 fh0 fs2 (ix3 0 k j) = fh0 (ix4 0 0 k (⟨0 + j.val, by omega⟩ : Fin 5632)) :=
  (FfnSlots.read_under arg8.view (s := 0) (s' := 1) (by decide) _ _ _ _ _ _ _ k j).trans (in_block c fh0 0 (by omega) _ _ k j)
theorem up0 (k : Fin 1024) (j : Fin 256) : runA.sl.v83 (F := Ideal) c arg9 fh0 fs3 (ix3 0 k j) = fh0 (ix4 0 0 k (⟨2816 + j.val, by omega⟩ : Fin 5632)) :=
  (FfnSlots.read_under arg9.view (s := 0) (s' := 1) (by decide) _ _ _ _ _ _ _ k j).trans (in_block c fh0 2816 (by omega) _ _ k j)
theorem down0 (k : Fin 256) (j : Fin 1024) : runA.sl.v89 (F := Ideal) c arg10 fh1 fs4 (ix3 0 k j) = fh1 (ix4 0 0 (⟨0 + k.val, by omega⟩ : Fin 2816) j) :=
  (FfnSlots.read_under arg10.view (s := 0) (s' := 1) (by decide) _ _ _ _ _ _ _ k j).trans (out_block c fh1 0 (by omega) _ _ k j)
theorem gate1 (k : Fin 1024) (j : Fin 256) : runA.sl.v142 (F := Ideal) c arg8 fh0 fs2 (ix3 0 k j) = fh0 (ix4 0 0 k (⟨256 + j.val, by omega⟩ : Fin 5632)) :=
  (FfnSlots.read_under arg8.view (s := 1) (s' := 0) (by decide) _ _ _ _ _ _ _ k j).trans (in_block c fh0 256 (by omega) _ _ k j)
theorem up1 (k : Fin 1024) (j : Fin 256) : runA.sl.v148 (F := Ideal) c arg9 fh0 fs3 (ix3 0 k j) = fh0 (ix4 0 0 k (⟨3072 + j.val, by omega⟩ : Fin 5632)) :=
  (FfnSlots.read_under arg9.view (s := 1) (s' := 0) (by decide) _ _ _ _ _ _ _ k j).trans (in_block c fh0 3072 (by omega) _ _ k j)
theorem down1 (k : Fin 256) (j : Fin 1024) : runA.sl.v154 (F := Ideal) c arg10 fh1 fs4 (ix3 0 k j) = fh1 (ix4 0 0 (⟨256 + k.val, by omega⟩ : Fin 2816) j) :=
  (FfnSlots.read_under arg10.view (s := 1) (s' := 0) (by decide) _ _ _ _ _ _ _ k j).trans (out_block c fh1 256 (by omega) _ _ k j)
theorem gate2 (k : Fin 1024) (j : Fin 256) : runA.sl.v207 (F := Ideal) c arg8 fh0 fs2 (ix3 0 k j) = fh0 (ix4 0 0 k (⟨512 + j.val, by omega⟩ : Fin 5632)) :=
  (FfnSlots.read_under arg8.view (s := 0) (s' := 1) (by decide) _ _ _ _ _ _ _ k j).trans (in_block c fh0 512 (by omega) _ _ k j)
theorem up2 (k : Fin 1024) (j : Fin 256) : runA.sl.v213 (F := Ideal) c arg9 fh0 fs3 (ix3 0 k j) = fh0 (ix4 0 0 k (⟨3328 + j.val, by omega⟩ : Fin 5632)) :=
  (FfnSlots.read_under arg9.view (s := 0) (s' := 1) (by decide) _ _ _ _ _ _ _ k j).trans (in_block c fh0 3328 (by omega) _ _ k j)
theorem down2 (k : Fin 256) (j : Fin 1024) : runA.sl.v219 (F := Ideal) c arg10 fh1 fs4 (ix3 0 k j) = fh1 (ix4 0 0 (⟨512 + k.val, by omega⟩ : Fin 2816) j) :=
  (FfnSlots.read_under arg10.view (s := 0) (s' := 1) (by decide) _ _ _ _ _ _ _ k j).trans (out_block c fh1 512 (by omega) _ _ k j)
theorem gate3 (k : Fin 1024) (j : Fin 256) : runA.sl.v272 (F := Ideal) c arg8 fh0 fs2 (ix3 0 k j) = fh0 (ix4 0 0 k (⟨768 + j.val, by omega⟩ : Fin 5632)) :=
  (FfnSlots.read_under arg8.view (s := 1) (s' := 0) (by decide) _ _ _ _ _ _ _ k j).trans (in_block c fh0 768 (by omega) _ _ k j)
theorem up3 (k : Fin 1024) (j : Fin 256) : runA.sl.v278 (F := Ideal) c arg9 fh0 fs3 (ix3 0 k j) = fh0 (ix4 0 0 k (⟨3584 + j.val, by omega⟩ : Fin 5632)) :=
  (FfnSlots.read_under arg9.view (s := 1) (s' := 0) (by decide) _ _ _ _ _ _ _ k j).trans (in_block c fh0 3584 (by omega) _ _ k j)
theorem down3 (k : Fin 256) (j : Fin 1024) : runA.sl.v284 (F := Ideal) c arg10 fh1 fs4 (ix3 0 k j) = fh1 (ix4 0 0 (⟨768 + k.val, by omega⟩ : Fin 2816) j) :=
  (FfnSlots.read_under arg10.view (s := 1) (s' := 0) (by decide) _ _ _ _ _ _ _ k j).trans (out_block c fh1 768 (by omega) _ _ k j)
theorem gate4 (k : Fin 1024) (j : Fin 256) : runA.sl.v (F := Ideal) c arg8 fh0 fs2 (ix3 0 k j) = fh0 (ix4 0 0 k (⟨1024 + j.val, by omega⟩ : Fin 5632)) :=
  (FfnSlots.read_under arg8.view (s := 0) (s' := 1) (by decide) _ _ _ _ _ _ _ k j).trans (in_block c fh0 1024 (by omega) _ _ k j)
theorem up4 (k : Fin 1024) (j : Fin 256) : runA.sl.v343 (F := Ideal) c arg9 fh0 fs3 (ix3 0 k j) = fh0 (ix4 0 0 k (⟨3840 + j.val, by omega⟩ : Fin 5632)) :=
  (FfnSlots.read_under arg9.view (s := 0) (s' := 1) (by decide) _ _ _ _ _ _ _ k j).trans (in_block c fh0 3840 (by omega) _ _ k j)
theorem down4 (k : Fin 256) (j : Fin 1024) : runA.sl.v349 (F := Ideal) c arg10 fh1 fs4 (ix3 0 k j) = fh1 (ix4 0 0 (⟨1024 + k.val, by omega⟩ : Fin 2816) j) :=
  (FfnSlots.read_under arg10.view (s := 0) (s' := 1) (by decide) _ _ _ _ _ _ _ k j).trans (out_block c fh1 1024 (by omega) _ _ k j)
theorem gate5 (k : Fin 1024) (j : Fin 256) : runA.sl.v402 (F := Ideal) c arg8 fh0 fs2 (ix3 0 k j) = fh0 (ix4 0 0 k (⟨1280 + j.val, by omega⟩ : Fin 5632)) :=
  (FfnSlots.read_under arg8.view (s := 1) (s' := 0) (by decide) _ _ _ _ _ _ _ k j).trans (in_block c fh0 1280 (by omega) _ _ k j)
theorem up5 (k : Fin 1024) (j : Fin 256) : runA.sl.v408 (F := Ideal) c arg9 fh0 fs3 (ix3 0 k j) = fh0 (ix4 0 0 k (⟨4096 + j.val, by omega⟩ : Fin 5632)) :=
  (FfnSlots.read_under arg9.view (s := 1) (s' := 0) (by decide) _ _ _ _ _ _ _ k j).trans (in_block c fh0 4096 (by omega) _ _ k j)
theorem down5 (k : Fin 256) (j : Fin 1024) : runA.sl.v414 (F := Ideal) c arg10 fh1 fs4 (ix3 0 k j) = fh1 (ix4 0 0 (⟨1280 + k.val, by omega⟩ : Fin 2816) j) :=
  (FfnSlots.read_under arg10.view (s := 1) (s' := 0) (by decide) _ _ _ _ _ _ _ k j).trans (out_block c fh1 1280 (by omega) _ _ k j)
theorem gate6 (k : Fin 1024) (j : Fin 256) : runA.sl.v467 (F := Ideal) c arg8 fh0 fs2 (ix3 0 k j) = fh0 (ix4 0 0 k (⟨1536 + j.val, by omega⟩ : Fin 5632)) :=
  (FfnSlots.read_under arg8.view (s := 0) (s' := 1) (by decide) _ _ _ _ _ _ _ k j).trans (in_block c fh0 1536 (by omega) _ _ k j)
theorem up6 (k : Fin 1024) (j : Fin 256) : runA.sl.v473 (F := Ideal) c arg9 fh0 fs3 (ix3 0 k j) = fh0 (ix4 0 0 k (⟨4352 + j.val, by omega⟩ : Fin 5632)) :=
  (FfnSlots.read_under arg9.view (s := 0) (s' := 1) (by decide) _ _ _ _ _ _ _ k j).trans (in_block c fh0 4352 (by omega) _ _ k j)
theorem down6 (k : Fin 256) (j : Fin 1024) : runA.sl.v479 (F := Ideal) c arg10 fh1 fs4 (ix3 0 k j) = fh1 (ix4 0 0 (⟨1536 + k.val, by omega⟩ : Fin 2816) j) :=
  (FfnSlots.read_under arg10.view (s := 0) (s' := 1) (by decide) _ _ _ _ _ _ _ k j).trans (out_block c fh1 1536 (by omega) _ _ k j)
theorem gate7 (k : Fin 1024) (j : Fin 256) : runA.sl.v532 (F := Ideal) c arg8 fh0 fs2 (ix3 0 k j) = fh0 (ix4 0 0 k (⟨1792 + j.val, by omega⟩ : Fin 5632)) :=
  (FfnSlots.read_under arg8.view (s := 1) (s' := 0) (by decide) _ _ _ _ _ _ _ k j).trans (in_block c fh0 1792 (by omega) _ _ k j)
theorem up7 (k : Fin 1024) (j : Fin 256) : runA.sl.v538 (F := Ideal) c arg9 fh0 fs3 (ix3 0 k j) = fh0 (ix4 0 0 k (⟨4608 + j.val, by omega⟩ : Fin 5632)) :=
  (FfnSlots.read_under arg9.view (s := 1) (s' := 0) (by decide) _ _ _ _ _ _ _ k j).trans (in_block c fh0 4608 (by omega) _ _ k j)
theorem down7 (k : Fin 256) (j : Fin 1024) : runA.sl.v_1 (F := Ideal) c arg10 fh1 fs4 (ix3 0 k j) = fh1 (ix4 0 0 (⟨1792 + k.val, by omega⟩ : Fin 2816) j) :=
  (FfnSlots.read_under arg10.view (s := 1) (s' := 0) (by decide) _ _ _ _ _ _ _ k j).trans (out_block c fh1 1792 (by omega) _ _ k j)
theorem gate8 (k : Fin 1024) (j : Fin 256) : runA.sl.v597 (F := Ideal) c arg8 fh0 fs2 (ix3 0 k j) = fh0 (ix4 0 0 k (⟨2048 + j.val, by omega⟩ : Fin 5632)) :=
  (FfnSlots.read_under arg8.view (s := 0) (s' := 1) (by decide) _ _ _ _ _ _ _ k j).trans (in_block c fh0 2048 (by omega) _ _ k j)
theorem up8 (k : Fin 1024) (j : Fin 256) : runA.sl.v603 (F := Ideal) c arg9 fh0 fs3 (ix3 0 k j) = fh0 (ix4 0 0 k (⟨4864 + j.val, by omega⟩ : Fin 5632)) :=
  (FfnSlots.read_under arg9.view (s := 0) (s' := 1) (by decide) _ _ _ _ _ _ _ k j).trans (in_block c fh0 4864 (by omega) _ _ k j)
theorem down8 (k : Fin 256) (j : Fin 1024) : runA.sl.v609 (F := Ideal) c arg10 fh1 fs4 (ix3 0 k j) = fh1 (ix4 0 0 (⟨2048 + k.val, by omega⟩ : Fin 2816) j) :=
  (FfnSlots.read_under arg10.view (s := 0) (s' := 1) (by decide) _ _ _ _ _ _ _ k j).trans (out_block c fh1 2048 (by omega) _ _ k j)
theorem gate9 (k : Fin 1024) (j : Fin 256) : runA.sl.v662 (F := Ideal) c arg8 fh0 fs2 (ix3 0 k j) = fh0 (ix4 0 0 k (⟨2304 + j.val, by omega⟩ : Fin 5632)) :=
  (FfnSlots.read_under arg8.view (s := 1) (s' := 0) (by decide) _ _ _ _ _ _ _ k j).trans (in_block c fh0 2304 (by omega) _ _ k j)
theorem up9 (k : Fin 1024) (j : Fin 256) : runA.sl.v668 (F := Ideal) c arg9 fh0 fs3 (ix3 0 k j) = fh0 (ix4 0 0 k (⟨5120 + j.val, by omega⟩ : Fin 5632)) :=
  (FfnSlots.read_under arg9.view (s := 1) (s' := 0) (by decide) _ _ _ _ _ _ _ k j).trans (in_block c fh0 5120 (by omega) _ _ k j)
theorem down9 (k : Fin 256) (j : Fin 1024) : runA.sl.v674 (F := Ideal) c arg10 fh1 fs4 (ix3 0 k j) = fh1 (ix4 0 0 (⟨2304 + k.val, by omega⟩ : Fin 2816) j) :=
  (FfnSlots.read_under arg10.view (s := 1) (s' := 0) (by decide) _ _ _ _ _ _ _ k j).trans (out_block c fh1 2304 (by omega) _ _ k j)
theorem gate10 (k : Fin 1024) (j : Fin 256) : runA.sl.v709 (F := Ideal) c arg8 fh0 fs2 (ix3 0 k j) = fh0 (ix4 0 0 k (⟨2560 + j.val, by omega⟩ : Fin 5632)) :=
  (FfnSlots.read_hit arg8.view 0 _ _ _ _ k j).trans (in_block c fh0 2560 (by omega) _ _ k j)
theorem up10 (k : Fin 1024) (j : Fin 256) : runA.sl.v715 (F := Ideal) c arg9 fh0 fs3 (ix3 0 k j) = fh0 (ix4 0 0 k (⟨5376 + j.val, by omega⟩ : Fin 5632)) :=
  (FfnSlots.read_hit arg9.view 0 _ _ _ _ k j).trans (in_block c fh0 5376 (by omega) _ _ k j)
theorem down10 (k : Fin 256) (j : Fin 1024) : runA.sl.v721 (F := Ideal) c arg10 fh1 fs4 (ix3 0 k j) = fh1 (ix4 0 0 (⟨2560 + k.val, by omega⟩ : Fin 2816) j) :=
  (FfnSlots.read_hit arg10.view 0 _ _ _ _ k j).trans (out_block c fh1 2560 (by omega) _ _ k j)

/-! ## The kept weights, chunk by chunk -/

theorem pay9_eq (v : Vec Ideal S1x1024x256 .f32) : k0_pay9 (F := Ideal) v = k0_pay5 v := rfl
theorem pay19_eq (v : Vec Ideal S1x1024x256 .f32) : k0_pay19 (F := Ideal) v = k0_pay5 v := rfl
theorem pay25_eq (v : Vec Ideal S1x1024x256 .f32) : k0_pay25 (F := Ideal) v = k0_pay5 v := rfl
theorem pay29_eq (v : Vec Ideal S1x1024x256 .f32) : k0_pay29 (F := Ideal) v = k0_pay5 v := rfl
theorem pay35_eq (v : Vec Ideal S1x1024x256 .f32) : k0_pay35 (F := Ideal) v = k0_pay5 v := rfl
theorem pay39_eq (v : Vec Ideal S1x1024x256 .f32) : k0_pay39 (F := Ideal) v = k0_pay5 v := rfl
theorem pay43_eq (v : Vec Ideal S1x1024x256 .f32) : k0_pay43 (F := Ideal) v = k0_pay5 v := rfl
theorem pay47_eq (v : Vec Ideal S1x1024x256 .f32) : k0_pay47 (F := Ideal) v = k0_pay5 v := rfl
theorem pay51_eq (v : Vec Ideal S1x1024x256 .f32) : k0_pay51 (F := Ideal) v = k0_pay5 v := rfl
theorem pay6_eq (v : Vec Ideal S1x1024x256 .f32) : k0_pay6 (F := Ideal) v = k0_pay5 v := rfl
theorem pay10_eq (v : Vec Ideal S1x1024x256 .f32) : k0_pay10 (F := Ideal) v = k0_pay5 v := rfl
theorem pay16_eq (v : Vec Ideal S1x1024x256 .f32) : k0_pay16 (F := Ideal) v = k0_pay5 v := rfl
theorem pay20_eq (v : Vec Ideal S1x1024x256 .f32) : k0_pay20 (F := Ideal) v = k0_pay5 v := rfl
theorem pay26_eq (v : Vec Ideal S1x1024x256 .f32) : k0_pay26 (F := Ideal) v = k0_pay5 v := rfl
theorem pay30_eq (v : Vec Ideal S1x1024x256 .f32) : k0_pay30 (F := Ideal) v = k0_pay5 v := rfl
theorem pay36_eq (v : Vec Ideal S1x1024x256 .f32) : k0_pay36 (F := Ideal) v = k0_pay5 v := rfl
theorem pay40_eq (v : Vec Ideal S1x1024x256 .f32) : k0_pay40 (F := Ideal) v = k0_pay5 v := rfl
theorem pay44_eq (v : Vec Ideal S1x1024x256 .f32) : k0_pay44 (F := Ideal) v = k0_pay5 v := rfl
theorem pay48_eq (v : Vec Ideal S1x1024x256 .f32) : k0_pay48 (F := Ideal) v = k0_pay5 v := rfl
theorem pay52_eq (v : Vec Ideal S1x1024x256 .f32) : k0_pay52 (F := Ideal) v = k0_pay5 v := rfl
theorem pay15_eq (v : Vec Ideal S1x1024x256 .f32) : k0_pay15 (F := Ideal) (k0_pay14 v) = k0_pay5 v := rfl
theorem pay11_eq (v : Vec Ideal S1x256x1024 .f32) : k0_pay11 (F := Ideal) v = k0_pay7 v := rfl
theorem pay17_eq (v : Vec Ideal S1x256x1024 .f32) : k0_pay17 (F := Ideal) v = k0_pay7 v := rfl
theorem pay21_eq (v : Vec Ideal S1x256x1024 .f32) : k0_pay21 (F := Ideal) v = k0_pay7 v := rfl
theorem pay27_eq (v : Vec Ideal S1x256x1024 .f32) : k0_pay27 (F := Ideal) v = k0_pay7 v := rfl
theorem pay37_eq (v : Vec Ideal S1x256x1024 .f32) : k0_pay37 (F := Ideal) v = k0_pay7 v := rfl
theorem pay41_eq (v : Vec Ideal S1x256x1024 .f32) : k0_pay41 (F := Ideal) v = k0_pay7 v := rfl
theorem pay45_eq (v : Vec Ideal S1x256x1024 .f32) : k0_pay45 (F := Ideal) v = k0_pay7 v := rfl
theorem pay49_eq (v : Vec Ideal S1x256x1024 .f32) : k0_pay49 (F := Ideal) v = k0_pay7 v := rfl
theorem pay53_eq (v : Vec Ideal S1x256x1024 .f32) : k0_pay53 (F := Ideal) v = k0_pay7 v := rfl
theorem pay32_eq (v : Vec Ideal S1x256x1024 .f32) : k0_pay32 (F := Ideal) (k0_pay31 v) = k0_pay7 v := rfl

theorem keptIn2 : ∀ p ∈ runA.sl.HS0_2 (F := Ideal) c arg8 arg9 fh0 fs2 fs3, ∀ x : p.1.shape.Idx, p.2 x = wIn fh0 (p.1.emb x) := by
  unfold runA.sl.HS0_2
  refine List.forall_mem_cons.2 ⟨fun x => ?_, List.forall_mem_cons.2 ⟨fun x => ?_, fun _ h => absurd h List.not_mem_nil⟩⟩
  · exact (congrFun (pay6_eq (runA.sl.v83 c arg9 fh0 fs3)) x).trans (in_piece fh0 2816 (by omega) inb_S1024x5632_S1024x256_0_2816 (runA.sl.v83 c arg9 fh0 fs3) (up0 c fh0 arg9 fs3) x)
  · exact in_piece fh0 0 (by omega) inb_S1024x5632_S1024x256_0_0 (runA.sl.v77 c arg8 fh0 fs2) (gate0 c fh0 arg8 fs2) x
theorem keptIn4 : ∀ p ∈ runA.sl.HS0_4 (F := Ideal) c arg8 arg9 fh0 fs2 fs3, ∀ x : p.1.shape.Idx, p.2 x = wIn fh0 (p.1.emb x) := by
  unfold runA.sl.HS0_4
  refine List.forall_mem_cons.2 ⟨fun x => ?_, List.forall_mem_cons.2 ⟨fun x => ?_, keptIn2 c fh0 arg8 fs2 arg9 fs3⟩⟩
  · exact (congrFun (pay10_eq (runA.sl.v148 c arg9 fh0 fs3)) x).trans (in_piece fh0 3072 (by omega) inb_S1024x5632_S1024x256_0_3072 (runA.sl.v148 c arg9 fh0 fs3) (up1 c fh0 arg9 fs3) x)
  · exact (congrFun (pay9_eq (runA.sl.v142 c arg8 fh0 fs2)) x).trans (in_piece fh0 256 (by omega) inb_S1024x5632_S1024x256_0_256 (runA.sl.v142 c arg8 fh0 fs2) (gate1 c fh0 arg8 fs2) x)
theorem keptIn6 : ∀ p ∈ runA.sl.HS0_6 (F := Ideal) c arg8 arg9 fh0 fs2 fs3, ∀ x : p.1.shape.Idx, p.2 x = wIn fh0 (p.1.emb x) := by
  unfold runA.sl.HS0_6
  refine List.forall_mem_cons.2 ⟨fun x => ?_, List.forall_mem_cons.2 ⟨fun x => ?_, keptIn4 c fh0 arg8 fs2 arg9 fs3⟩⟩
  · exact (congrFun (pay16_eq (runA.sl.v213 c arg9 fh0 fs3)) x).trans (in_piece fh0 3328 (by omega) inb_S1024x5632_S1024x256_0_3328 (runA.sl.v213 c arg9 fh0 fs3) (up2 c fh0 arg9 fs3) x)
  · exact (congrFun (pay15_eq (runA.sl.v207 c arg8 fh0 fs2)) x).trans (in_piece fh0 512 (by omega) inb_S1024x5632_S1024x256_0_512 (runA.sl.v207 c arg8 fh0 fs2) (gate2 c fh0 arg8 fs2) x)
theorem keptIn8 : ∀ p ∈ runA.sl.HS0_8 (F := Ideal) c arg8 arg9 fh0 fs2 fs3, ∀ x : p.1.shape.Idx, p.2 x = wIn fh0 (p.1.emb x) := by
  unfold runA.sl.HS0_8
  refine List.forall_mem_cons.2 ⟨fun x => ?_, List.forall_mem_cons.2 ⟨fun x => ?_, keptIn6 c fh0 arg8 fs2 arg9 fs3⟩⟩
  · exact (congrFun (pay20_eq (runA.sl.v278 c arg9 fh0 fs3)) x).trans (in_piece fh0 3584 (by omega) inb_S1024x5632_S1024x256_0_3584 (runA.sl.v278 c arg9 fh0 fs3) (up3 c fh0 arg9 fs3) x)
  · exact (congrFun (pay19_eq (runA.sl.v272 c arg8 fh0 fs2)) x).trans (in_piece fh0 768 (by omega) inb_S1024x5632_S1024x256_0_768 (runA.sl.v272 c arg8 fh0 fs2) (gate3 c fh0 arg8 fs2) x)
theorem keptIn10 : ∀ p ∈ runA.sl.HS0_10 (F := Ideal) c arg8 arg9 fh0 fs2 fs3, ∀ x : p.1.shape.Idx, p.2 x = wIn fh0 (p.1.emb x) := by
  unfold runA.sl.HS0_10
  refine List.forall_mem_cons.2 ⟨fun x => ?_, List.forall_mem_cons.2 ⟨fun x => ?_, keptIn8 c fh0 arg8 fs2 arg9 fs3⟩⟩
  · exact (congrFun (pay26_eq (runA.sl.v343 c arg9 fh0 fs3)) x).trans (in_piece fh0 3840 (by omega) inb_S1024x5632_S1024x256_0_3840 (runA.sl.v343 c arg9 fh0 fs3) (up4 c fh0 arg9 fs3) x)
  · exact (congrFun (pay25_eq (runA.sl.v c arg8 fh0 fs2)) x).trans (in_piece fh0 1024 (by omega) inb_S1024x5632_S1024x256_0_1024 (runA.sl.v c arg8 fh0 fs2) (gate4 c fh0 arg8 fs2) x)
theorem keptIn12 : ∀ p ∈ runA.sl.HS0_12 (F := Ideal) c arg8 arg9 fh0 fs2 fs3, ∀ x : p.1.shape.Idx, p.2 x = wIn fh0 (p.1.emb x) := by
  unfold runA.sl.HS0_12
  refine List.forall_mem_cons.2 ⟨fun x => ?_, List.forall_mem_cons.2 ⟨fun x => ?_, keptIn10 c fh0 arg8 fs2 arg9 fs3⟩⟩
  · exact (congrFun (pay30_eq (runA.sl.v408 c arg9 fh0 fs3)) x).trans (in_piece fh0 4096 (by omega) inb_S1024x5632_S1024x256_0_4096 (runA.sl.v408 c arg9 fh0 fs3) (up5 c fh0 arg9 fs3) x)
  · exact (congrFun (pay29_eq (runA.sl.v402 c arg8 fh0 fs2)) x).trans (in_piece fh0 1280 (by omega) inb_S1024x5632_S1024x256_0_1280 (runA.sl.v402 c arg8 fh0 fs2) (gate5 c fh0 arg8 fs2) x)
theorem keptIn14 : ∀ p ∈ runA.sl.HS0_14 (F := Ideal) c arg8 arg9 fh0 fs2 fs3, ∀ x : p.1.shape.Idx, p.2 x = wIn fh0 (p.1.emb x) := by
  unfold runA.sl.HS0_14
  refine List.forall_mem_cons.2 ⟨fun x => ?_, List.forall_mem_cons.2 ⟨fun x => ?_, keptIn12 c fh0 arg8 fs2 arg9 fs3⟩⟩
  · exact (congrFun (pay36_eq (runA.sl.v473 c arg9 fh0 fs3)) x).trans (in_piece fh0 4352 (by omega) inb_S1024x5632_S1024x256_0_4352 (runA.sl.v473 c arg9 fh0 fs3) (up6 c fh0 arg9 fs3) x)
  · exact (congrFun (pay35_eq (runA.sl.v467 c arg8 fh0 fs2)) x).trans (in_piece fh0 1536 (by omega) inb_S1024x5632_S1024x256_0_1536 (runA.sl.v467 c arg8 fh0 fs2) (gate6 c fh0 arg8 fs2) x)
theorem keptIn16 : ∀ p ∈ runA.sl.HS0_16 (F := Ideal) c arg8 arg9 fh0 fs2 fs3, ∀ x : p.1.shape.Idx, p.2 x = wIn fh0 (p.1.emb x) := by
  unfold runA.sl.HS0_16
  refine List.forall_mem_cons.2 ⟨fun x => ?_, List.forall_mem_cons.2 ⟨fun x => ?_, keptIn14 c fh0 arg8 fs2 arg9 fs3⟩⟩
  · exact (congrFun (pay40_eq (runA.sl.v538 c arg9 fh0 fs3)) x).trans (in_piece fh0 4608 (by omega) inb_S1024x5632_S1024x256_0_4608 (runA.sl.v538 c arg9 fh0 fs3) (up7 c fh0 arg9 fs3) x)
  · exact (congrFun (pay39_eq (runA.sl.v532 c arg8 fh0 fs2)) x).trans (in_piece fh0 1792 (by omega) inb_S1024x5632_S1024x256_0_1792 (runA.sl.v532 c arg8 fh0 fs2) (gate7 c fh0 arg8 fs2) x)
theorem keptIn18 : ∀ p ∈ runA.sl.HS0_18 (F := Ideal) c arg8 arg9 fh0 fs2 fs3, ∀ x : p.1.shape.Idx, p.2 x = wIn fh0 (p.1.emb x) := by
  unfold runA.sl.HS0_18
  refine List.forall_mem_cons.2 ⟨fun x => ?_, List.forall_mem_cons.2 ⟨fun x => ?_, keptIn16 c fh0 arg8 fs2 arg9 fs3⟩⟩
  · exact (congrFun (pay44_eq (runA.sl.v603 c arg9 fh0 fs3)) x).trans (in_piece fh0 4864 (by omega) inb_S1024x5632_S1024x256_0_4864 (runA.sl.v603 c arg9 fh0 fs3) (up8 c fh0 arg9 fs3) x)
  · exact (congrFun (pay43_eq (runA.sl.v597 c arg8 fh0 fs2)) x).trans (in_piece fh0 2048 (by omega) inb_S1024x5632_S1024x256_0_2048 (runA.sl.v597 c arg8 fh0 fs2) (gate8 c fh0 arg8 fs2) x)
theorem keptIn20 : ∀ p ∈ runA.sl.HS0_20 (F := Ideal) c arg8 arg9 fh0 fs2 fs3, ∀ x : p.1.shape.Idx, p.2 x = wIn fh0 (p.1.emb x) := by
  unfold runA.sl.HS0_20
  refine List.forall_mem_cons.2 ⟨fun x => ?_, List.forall_mem_cons.2 ⟨fun x => ?_, keptIn18 c fh0 arg8 fs2 arg9 fs3⟩⟩
  · exact (congrFun (pay48_eq (runA.sl.v668 c arg9 fh0 fs3)) x).trans (in_piece fh0 5120 (by omega) inb_S1024x5632_S1024x256_0_5120 (runA.sl.v668 c arg9 fh0 fs3) (up9 c fh0 arg9 fs3) x)
  · exact (congrFun (pay47_eq (runA.sl.v662 c arg8 fh0 fs2)) x).trans (in_piece fh0 2304 (by omega) inb_S1024x5632_S1024x256_0_2304 (runA.sl.v662 c arg8 fh0 fs2) (gate9 c fh0 arg8 fs2) x)
theorem keptIn22 : ∀ p ∈ runA.sl.HS0_22 (F := Ideal) c arg8 arg9 fh0 fs2 fs3, ∀ x : p.1.shape.Idx, p.2 x = wIn fh0 (p.1.emb x) := by
  unfold runA.sl.HS0_22
  refine List.forall_mem_cons.2 ⟨fun x => ?_, List.forall_mem_cons.2 ⟨fun x => ?_, keptIn20 c fh0 arg8 fs2 arg9 fs3⟩⟩
  · exact (congrFun (pay52_eq (runA.sl.v715 c arg9 fh0 fs3)) x).trans (in_piece fh0 5376 (by omega) inb_S1024x5632_S1024x256_0_5376 (runA.sl.v715 c arg9 fh0 fs3) (up10 c fh0 arg9 fs3) x)
  · exact (congrFun (pay51_eq (runA.sl.v709 c arg8 fh0 fs2)) x).trans (in_piece fh0 2560 (by omega) inb_S1024x5632_S1024x256_0_2560 (runA.sl.v709 c arg8 fh0 fs2) (gate10 c fh0 arg8 fs2) x)

theorem keptOut : ∀ p ∈ runA.sl.HS1_11 (F := Ideal) c arg10 fh1 fs4, ∀ x : p.1.shape.Idx, p.2 x = wOut fh1 (p.1.emb x) := by
  unfold runA.sl.HS1_11
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩
  · exact (congrFun (pay53_eq (runA.sl.v721 c arg10 fh1 fs4)) x).trans (out_piece fh1 2560 (by omega) inb_S2816x1024_S256x1024_2560_0 (runA.sl.v721 c arg10 fh1 fs4) (down10 c fh1 arg10 fs4) x)
  · exact (congrFun (pay49_eq (runA.sl.v674 c arg10 fh1 fs4)) x).trans (out_piece fh1 2304 (by omega) inb_S2816x1024_S256x1024_2304_0 (runA.sl.v674 c arg10 fh1 fs4) (down9 c fh1 arg10 fs4) x)
  · exact (congrFun (pay45_eq (runA.sl.v609 c arg10 fh1 fs4)) x).trans (out_piece fh1 2048 (by omega) inb_S2816x1024_S256x1024_2048_0 (runA.sl.v609 c arg10 fh1 fs4) (down8 c fh1 arg10 fs4) x)
  · exact (congrFun (pay41_eq (runA.sl.v_1 c arg10 fh1 fs4)) x).trans (out_piece fh1 1792 (by omega) inb_S2816x1024_S256x1024_1792_0 (runA.sl.v_1 c arg10 fh1 fs4) (down7 c fh1 arg10 fs4) x)
  · exact (congrFun (pay37_eq (runA.sl.v479 c arg10 fh1 fs4)) x).trans (out_piece fh1 1536 (by omega) inb_S2816x1024_S256x1024_1536_0 (runA.sl.v479 c arg10 fh1 fs4) (down6 c fh1 arg10 fs4) x)
  · exact (congrFun (pay32_eq (runA.sl.v414 c arg10 fh1 fs4)) x).trans (out_piece fh1 1280 (by omega) inb_S2816x1024_S256x1024_1280_0 (runA.sl.v414 c arg10 fh1 fs4) (down5 c fh1 arg10 fs4) x)
  · exact (congrFun (pay27_eq (runA.sl.v349 c arg10 fh1 fs4)) x).trans (out_piece fh1 1024 (by omega) inb_S2816x1024_S256x1024_1024_0 (runA.sl.v349 c arg10 fh1 fs4) (down4 c fh1 arg10 fs4) x)
  · exact (congrFun (pay21_eq (runA.sl.v284 c arg10 fh1 fs4)) x).trans (out_piece fh1 768 (by omega) inb_S2816x1024_S256x1024_768_0 (runA.sl.v284 c arg10 fh1 fs4) (down3 c fh1 arg10 fs4) x)
  · exact (congrFun (pay17_eq (runA.sl.v219 c arg10 fh1 fs4)) x).trans (out_piece fh1 512 (by omega) inb_S2816x1024_S256x1024_512_0 (runA.sl.v219 c arg10 fh1 fs4) (down2 c fh1 arg10 fs4) x)
  · exact (congrFun (pay11_eq (runA.sl.v154 c arg10 fh1 fs4)) x).trans (out_piece fh1 256 (by omega) inb_S2816x1024_S256x1024_256_0 (runA.sl.v154 c arg10 fh1 fs4) (down1 c fh1 arg10 fs4) x)
  · exact out_piece fh1 0 (by omega) inb_S2816x1024_S256x1024_0_0 (runA.sl.v89 c arg10 fh1 fs4) (down0 c fh1 arg10 fs4) x

end

end Cert.FfnKernel

end
-- ==== Proof.FfnKernel.lean ====
module

public import proofs.«01_k».proof.Proof.FfnWeights

@[expose] public section

set_option maxRecDepth 16384

noncomputable section

open Idealize.ShloMosaic Idealize.ShloMosaic.TcCoe Cert.Rows
open Cert.FfnIdeal Cert.FfnIdeal.Gen

/-! # What the kernel body leaves in its output block -/

namespace Cert.FfnKernel

/-- The block of rows, read back out of its buffer. -/
theorem whole_read {a b : ℕ} {e : EltTy} (M : Memref sig .tc .vmem ⟨2, ![a, b]⟩ e) (hM : M.IsWhole) (x : Vec Ideal ⟨2, ![a, b]⟩ e)
    (h : ∀ i, (![0, 0] : Fin 2 → ℕ) i + (⟨2, ![a, b]⟩ : Shape).size i ≤ (⟨2, ![a, b]⟩ : Shape).size i) :
    M.view.readAt (Elt Ideal) (Rect.unit (s := ⟨2, ![a, b]⟩) (![0, 0] : Fin 2 → ℕ) (⟨2, ![a, b]⟩ : Shape).size h).toLoadRect (hM.unread x) = x := by
  funext y
  refine (congrFun (hM.read_unread (Val := Elt Ideal) x) _).trans (congrArg x ?_)
  exact emb_origin h y

/-- A rectangle of the kept weights, read out of their buffer. -/
theorem rect_read {s : Shape} {e : EltTy} (M : Memref sig .tc .vmem s e) (hM : M.IsWhole) (x : Vec Ideal s e) (r : Rect s) (y : r.shape.Idx) :
    M.view.readAt (Elt Ideal) r.toLoadRect (hM.unread x) y = x (r.emb y) :=
  congrFun (hM.read_unread (Val := Elt Ideal) x) _

section
variable (c : Dev nD) (arg1 : Memref sig .tc .vmem S1024x1024 .f32) (harg1 : arg1.IsWhole) (arg2 : Memref sig .tc .vmem S1x1024 .f32) (harg2 : arg2.IsWhole) (arg5 : Memref sig .tc .vmem S1024x1024 .f32) (harg5 : arg5.IsWhole) (arg6 : Memref sig .tc .vmem S1024x5632 .bf16) (harg6 : arg6.IsWhole) (arg7 : Memref sig .tc .vmem S2816x1024 .bf16) (harg7 : arg7.IsWhole)
  (arg8 : Memref sig .tc .vmem S2x1024x256 .f32) (harg8 : arg8.IsWhole) (arg9 : Memref sig .tc .vmem S2x1024x256 .f32) (harg9 : arg9.IsWhole) (arg10 : Memref sig .tc .vmem S2x256x1024 .f32) (harg10 : arg10.IsWhole) (arg11 : Memref sig .tc .vmem S1024x2816 .bf16) (harg11 : arg11.IsWhole)
  (x0 : Vec Ideal S1024x1024 .f32) (x1 : Vec Ideal S1x1024 .f32) (fh0 : HbBuf0 (F := Ideal) c hbM0_0) (fh1 : HbBuf0 (F := Ideal) c hbM0_1)
  (fs2 : HbBuf0 (F := Ideal) c arg8) (fs3 : HbBuf0 (F := Ideal) c arg9) (fs4 : HbBuf0 (F := Ideal) c arg10)

/-! ## The first point: the weights as they were just stored -/

theorem rowsA : runA.sl.r_1 (F := Ideal) c arg1 harg1 arg2 harg2 x0 x1 = k0_pay4 x0 x1 := by
  unfold runA.sl.r_1
  exact congrArg₂ k0_pay4 (whole_read arg1 harg1 x0 _) (whole_read arg2 harg2 x1 _)

theorem rowsA' : runA.sl.r (F := Ideal) c arg1 harg1 x0 = k0_pay3 x0 := by
  unfold runA.sl.r
  exact congrArg k0_pay3 (whole_read arg1 harg1 x0 _)

theorem memGate0 : (⟨Rect.unit (s := S1024x5632) (![0, 0] : Fin 2 → ℕ) S1024x256.size inb_S1024x5632_S1024x256_0_0, k0_pay5 (runA.sl.v77 c arg8 fh0 fs2)⟩ : View.Piece (Elt Ideal) S1024x5632 .bf16) ∈ runA.sl.HS0_2 (F := Ideal) c arg8 arg9 fh0 fs2 fs3 := by
  unfold runA.sl.HS0_2
  exact List.mem_cons_of_mem _ List.mem_cons_self
theorem readGate0 (x : S1024x256.Idx) : runA.sl.v113 (F := Ideal) c arg6 arg8 arg9 fh0 fs2 fs3 x = wIn fh0 ((Rect.unit (s := S1024x5632) (![0, 0] : Fin 2 → ℕ) S1024x256.size inb_S1024x5632_S1024x256_0_0).emb x) := by
  unfold runA.sl.v113
  exact cov_piece arg6.view (wIn fh0) (runA.sl.HS0_2 c arg8 arg9 fh0 fs2 fs3) (keptIn2 c fh0 arg8 fs2 arg9 fs3) (Rect.unit (s := S1024x5632) (![0, 0] : Fin 2 → ℕ) S1024x256.size inb_S1024x5632_S1024x256_0_0) ⟨_, memGate0 c arg8 arg9 fh0 fs2 fs3⟩ x
theorem memUp0 : (⟨Rect.unit (s := S1024x5632) (![0, 2816] : Fin 2 → ℕ) S1024x256.size inb_S1024x5632_S1024x256_0_2816, k0_pay6 (runA.sl.v83 c arg9 fh0 fs3)⟩ : View.Piece (Elt Ideal) S1024x5632 .bf16) ∈ runA.sl.HS0_2 (F := Ideal) c arg8 arg9 fh0 fs2 fs3 := by
  unfold runA.sl.HS0_2
  exact List.mem_cons_self
theorem readUp0 (x : S1024x256.Idx) : runA.sl.v115 (F := Ideal) c arg6 arg8 arg9 fh0 fs2 fs3 x = wIn fh0 ((Rect.unit (s := S1024x5632) (![0, 2816] : Fin 2 → ℕ) S1024x256.size inb_S1024x5632_S1024x256_0_2816).emb x) := by
  unfold runA.sl.v115
  exact cov_piece arg6.view (wIn fh0) (runA.sl.HS0_2 c arg8 arg9 fh0 fs2 fs3) (keptIn2 c fh0 arg8 fs2 arg9 fs3) (Rect.unit (s := S1024x5632) (![0, 2816] : Fin 2 → ℕ) S1024x256.size inb_S1024x5632_S1024x256_0_2816) ⟨_, memUp0 c arg8 arg9 fh0 fs2 fs3⟩ x
theorem memGate1 : (⟨Rect.unit (s := S1024x5632) (![0, 256] : Fin 2 → ℕ) S1024x256.size inb_S1024x5632_S1024x256_0_256, k0_pay9 (runA.sl.v142 c arg8 fh0 fs2)⟩ : View.Piece (Elt Ideal) S1024x5632 .bf16) ∈ runA.sl.HS0_4 (F := Ideal) c arg8 arg9 fh0 fs2 fs3 := by
  unfold runA.sl.HS0_4
  exact List.mem_cons_of_mem _ List.mem_cons_self
theorem readGate1 (x : S1024x256.Idx) : runA.sl.v178 (F := Ideal) c arg6 arg8 arg9 fh0 fs2 fs3 x = wIn fh0 ((Rect.unit (s := S1024x5632) (![0, 256] : Fin 2 → ℕ) S1024x256.size inb_S1024x5632_S1024x256_0_256).emb x) := by
  unfold runA.sl.v178
  exact cov_piece arg6.view (wIn fh0) (runA.sl.HS0_4 c arg8 arg9 fh0 fs2 fs3) (keptIn4 c fh0 arg8 fs2 arg9 fs3) (Rect.unit (s := S1024x5632) (![0, 256] : Fin 2 → ℕ) S1024x256.size inb_S1024x5632_S1024x256_0_256) ⟨_, memGate1 c arg8 arg9 fh0 fs2 fs3⟩ x
theorem memUp1 : (⟨Rect.unit (s := S1024x5632) (![0, 3072] : Fin 2 → ℕ) S1024x256.size inb_S1024x5632_S1024x256_0_3072, k0_pay10 (runA.sl.v148 c arg9 fh0 fs3)⟩ : View.Piece (Elt Ideal) S1024x5632 .bf16) ∈ runA.sl.HS0_4 (F := Ideal) c arg8 arg9 fh0 fs2 fs3 := by
  unfold runA.sl.HS0_4
  exact List.mem_cons_self
theorem readUp1 (x : S1024x256.Idx) : runA.sl.v180 (F := Ideal) c arg6 arg8 arg9 fh0 fs2 fs3 x = wIn fh0 ((Rect.unit (s := S1024x5632) (![0, 3072] : Fin 2 → ℕ) S1024x256.size inb_S1024x5632_S1024x256_0_3072).emb x) := by
  unfold runA.sl.v180
  exact cov_piece arg6.view (wIn fh0) (runA.sl.HS0_4 c arg8 arg9 fh0 fs2 fs3) (keptIn4 c fh0 arg8 fs2 arg9 fs3) (Rect.unit (s := S1024x5632) (![0, 3072] : Fin 2 → ℕ) S1024x256.size inb_S1024x5632_S1024x256_0_3072) ⟨_, memUp1 c arg8 arg9 fh0 fs2 fs3⟩ x
theorem memGate2 : (⟨Rect.unit (s := S1024x5632) (![0, 512] : Fin 2 → ℕ) S1024x256.size inb_S1024x5632_S1024x256_0_512, k0_pay15 (runA.sl.r_3 c arg8 fh0 fs2)⟩ : View.Piece (Elt Ideal) S1024x5632 .bf16) ∈ runA.sl.HS0_6 (F := Ideal) c arg8 arg9 fh0 fs2 fs3 := by
  unfold runA.sl.HS0_6
  exact List.mem_cons_of_mem _ List.mem_cons_self
theorem readGate2 (x : S1024x256.Idx) : runA.sl.v243 (F := Ideal) c arg6 arg8 arg9 fh0 fs2 fs3 x = wIn fh0 ((Rect.unit (s := S1024x5632) (![0, 512] : Fin 2 → ℕ) S1024x256.size inb_S1024x5632_S1024x256_0_512).emb x) := by
  unfold runA.sl.v243
  exact cov_piece arg6.view (wIn fh0) (runA.sl.HS0_6 c arg8 arg9 fh0 fs2 fs3) (keptIn6 c fh0 arg8 fs2 arg9 fs3) (Rect.unit (s := S1024x5632) (![0, 512] : Fin 2 → ℕ) S1024x256.size inb_S1024x5632_S1024x256_0_512) ⟨_, memGate2 c arg8 arg9 fh0 fs2 fs3⟩ x
theorem memUp2 : (⟨Rect.unit (s := S1024x5632) (![0, 3328] : Fin 2 → ℕ) S1024x256.size inb_S1024x5632_S1024x256_0_3328, k0_pay16 (runA.sl.v213 c arg9 fh0 fs3)⟩ : View.Piece (Elt Ideal) S1024x5632 .bf16) ∈ runA.sl.HS0_6 (F := Ideal) c arg8 arg9 fh0 fs2 fs3 := by
  unfold runA.sl.HS0_6
  exact List.mem_cons_self
theorem readUp2 (x : S1024x256.Idx) : runA.sl.v245 (F := Ideal) c arg6 arg8 arg9 fh0 fs2 fs3 x = wIn fh0 ((Rect.unit (s := S1024x5632) (![0, 3328] : Fin 2 → ℕ) S1024x256.size inb_S1024x5632_S1024x256_0_3328).emb x) := by
  unfold runA.sl.v245
  exact cov_piece arg6.view (wIn fh0) (runA.sl.HS0_6 c arg8 arg9 fh0 fs2 fs3) (keptIn6 c fh0 arg8 fs2 arg9 fs3) (Rect.unit (s := S1024x5632) (![0, 3328] : Fin 2 → ℕ) S1024x256.size inb_S1024x5632_S1024x256_0_3328) ⟨_, memUp2 c arg8 arg9 fh0 fs2 fs3⟩ x
theorem memGate3 : (⟨Rect.unit (s := S1024x5632) (![0, 768] : Fin 2 → ℕ) S1024x256.size inb_S1024x5632_S1024x256_0_768, k0_pay19 (runA.sl.v272 c arg8 fh0 fs2)⟩ : View.Piece (Elt Ideal) S1024x5632 .bf16) ∈ runA.sl.HS0_8 (F := Ideal) c arg8 arg9 fh0 fs2 fs3 := by
  unfold runA.sl.HS0_8
  exact List.mem_cons_of_mem _ List.mem_cons_self
theorem readGate3 (x : S1024x256.Idx) : runA.sl.v308 (F := Ideal) c arg6 arg8 arg9 fh0 fs2 fs3 x = wIn fh0 ((Rect.unit (s := S1024x5632) (![0, 768] : Fin 2 → ℕ) S1024x256.size inb_S1024x5632_S1024x256_0_768).emb x) := by
  unfold runA.sl.v308
  exact cov_piece arg6.view (wIn fh0) (runA.sl.HS0_8 c arg8 arg9 fh0 fs2 fs3) (keptIn8 c fh0 arg8 fs2 arg9 fs3) (Rect.unit (s := S1024x5632) (![0, 768] : Fin 2 → ℕ) S1024x256.size inb_S1024x5632_S1024x256_0_768) ⟨_, memGate3 c arg8 arg9 fh0 fs2 fs3⟩ x
theorem memUp3 : (⟨Rect.unit (s := S1024x5632) (![0, 3584] : Fin 2 → ℕ) S1024x256.size inb_S1024x5632_S1024x256_0_3584, k0_pay20 (runA.sl.v278 c arg9 fh0 fs3)⟩ : View.Piece (Elt Ideal) S1024x5632 .bf16) ∈ runA.sl.HS0_8 (F := Ideal) c arg8 arg9 fh0 fs2 fs3 := by
  unfold runA.sl.HS0_8
  exact List.mem_cons_self
theorem readUp3 (x : S1024x256.Idx) : runA.sl.v310 (F := Ideal) c arg6 arg8 arg9 fh0 fs2 fs3 x = wIn fh0 ((Rect.unit (s := S1024x5632) (![0, 3584] : Fin 2 → ℕ) S1024x256.size inb_S1024x5632_S1024x256_0_3584).emb x) := by
  unfold runA.sl.v310
  exact cov_piece arg6.view (wIn fh0) (runA.sl.HS0_8 c arg8 arg9 fh0 fs2 fs3) (keptIn8 c fh0 arg8 fs2 arg9 fs3) (Rect.unit (s := S1024x5632) (![0, 3584] : Fin 2 → ℕ) S1024x256.size inb_S1024x5632_S1024x256_0_3584) ⟨_, memUp3 c arg8 arg9 fh0 fs2 fs3⟩ x
theorem memGate4 : (⟨Rect.unit (s := S1024x5632) (![0, 1024] : Fin 2 → ℕ) S1024x256.size inb_S1024x5632_S1024x256_0_1024, k0_pay25 (runA.sl.v c arg8 fh0 fs2)⟩ : View.Piece (Elt Ideal) S1024x5632 .bf16) ∈ runA.sl.HS0_10 (F := Ideal) c arg8 arg9 fh0 fs2 fs3 := by
  unfold runA.sl.HS0_10
  exact List.mem_cons_of_mem _ List.mem_cons_self
theorem readGate4 (x : S1024x256.Idx) : runA.sl.v373 (F := Ideal) c arg6 arg8 arg9 fh0 fs2 fs3 x = wIn fh0 ((Rect.unit (s := S1024x5632) (![0, 1024] : Fin 2 → ℕ) S1024x256.size inb_S1024x5632_S1024x256_0_1024).emb x) := by
  unfold runA.sl.v373
  exact cov_piece arg6.view (wIn fh0) (runA.sl.HS0_10 c arg8 arg9 fh0 fs2 fs3) (keptIn10 c fh0 arg8 fs2 arg9 fs3) (Rect.unit (s := S1024x5632) (![0, 1024] : Fin 2 → ℕ) S1024x256.size inb_S1024x5632_S1024x256_0_1024) ⟨_, memGate4 c arg8 arg9 fh0 fs2 fs3⟩ x
theorem memUp4 : (⟨Rect.unit (s := S1024x5632) (![0, 3840] : Fin 2 → ℕ) S1024x256.size inb_S1024x5632_S1024x256_0_3840, k0_pay26 (runA.sl.v343 c arg9 fh0 fs3)⟩ : View.Piece (Elt Ideal) S1024x5632 .bf16) ∈ runA.sl.HS0_10 (F := Ideal) c arg8 arg9 fh0 fs2 fs3 := by
  unfold runA.sl.HS0_10
  exact List.mem_cons_self
theorem readUp4 (x : S1024x256.Idx) : runA.sl.v375 (F := Ideal) c arg6 arg8 arg9 fh0 fs2 fs3 x = wIn fh0 ((Rect.unit (s := S1024x5632) (![0, 3840] : Fin 2 → ℕ) S1024x256.size inb_S1024x5632_S1024x256_0_3840).emb x) := by
  unfold runA.sl.v375
  exact cov_piece arg6.view (wIn fh0) (runA.sl.HS0_10 c arg8 arg9 fh0 fs2 fs3) (keptIn10 c fh0 arg8 fs2 arg9 fs3) (Rect.unit (s := S1024x5632) (![0, 3840] : Fin 2 → ℕ) S1024x256.size inb_S1024x5632_S1024x256_0_3840) ⟨_, memUp4 c arg8 arg9 fh0 fs2 fs3⟩ x
theorem memGate5 : (⟨Rect.unit (s := S1024x5632) (![0, 1280] : Fin 2 → ℕ) S1024x256.size inb_S1024x5632_S1024x256_0_1280, k0_pay29 (runA.sl.v402 c arg8 fh0 fs2)⟩ : View.Piece (Elt Ideal) S1024x5632 .bf16) ∈ runA.sl.HS0_12 (F := Ideal) c arg8 arg9 fh0 fs2 fs3 := by
  unfold runA.sl.HS0_12
  exact List.mem_cons_of_mem _ List.mem_cons_self
theorem readGate5 (x : S1024x256.Idx) : runA.sl.v438 (F := Ideal) c arg6 arg8 arg9 fh0 fs2 fs3 x = wIn fh0 ((Rect.unit (s := S1024x5632) (![0, 1280] : Fin 2 → ℕ) S1024x256.size inb_S1024x5632_S1024x256_0_1280).emb x) := by
  unfold runA.sl.v438
  exact cov_piece arg6.view (wIn fh0) (runA.sl.HS0_12 c arg8 arg9 fh0 fs2 fs3) (keptIn12 c fh0 arg8 fs2 arg9 fs3) (Rect.unit (s := S1024x5632) (![0, 1280] : Fin 2 → ℕ) S1024x256.size inb_S1024x5632_S1024x256_0_1280) ⟨_, memGate5 c arg8 arg9 fh0 fs2 fs3⟩ x
theorem memUp5 : (⟨Rect.unit (s := S1024x5632) (![0, 4096] : Fin 2 → ℕ) S1024x256.size inb_S1024x5632_S1024x256_0_4096, k0_pay30 (runA.sl.v408 c arg9 fh0 fs3)⟩ : View.Piece (Elt Ideal) S1024x5632 .bf16) ∈ runA.sl.HS0_12 (F := Ideal) c arg8 arg9 fh0 fs2 fs3 := by
  unfold runA.sl.HS0_12
  exact List.mem_cons_self
theorem readUp5 (x : S1024x256.Idx) : runA.sl.v440 (F := Ideal) c arg6 arg8 arg9 fh0 fs2 fs3 x = wIn fh0 ((Rect.unit (s := S1024x5632) (![0, 4096] : Fin 2 → ℕ) S1024x256.size inb_S1024x5632_S1024x256_0_4096).emb x) := by
  unfold runA.sl.v440
  exact cov_piece arg6.view (wIn fh0) (runA.sl.HS0_12 c arg8 arg9 fh0 fs2 fs3) (keptIn12 c fh0 arg8 fs2 arg9 fs3) (Rect.unit (s := S1024x5632) (![0, 4096] : Fin 2 → ℕ) S1024x256.size inb_S1024x5632_S1024x256_0_4096) ⟨_, memUp5 c arg8 arg9 fh0 fs2 fs3⟩ x
theorem memGate6 : (⟨Rect.unit (s := S1024x5632) (![0, 1536] : Fin 2 → ℕ) S1024x256.size inb_S1024x5632_S1024x256_0_1536, k0_pay35 (runA.sl.v467 c arg8 fh0 fs2)⟩ : View.Piece (Elt Ideal) S1024x5632 .bf16) ∈ runA.sl.HS0_14 (F := Ideal) c arg8 arg9 fh0 fs2 fs3 := by
  unfold runA.sl.HS0_14
  exact List.mem_cons_of_mem _ List.mem_cons_self
theorem readGate6 (x : S1024x256.Idx) : runA.sl.v503 (F := Ideal) c arg6 arg8 arg9 fh0 fs2 fs3 x = wIn fh0 ((Rect.unit (s := S1024x5632) (![0, 1536] : Fin 2 → ℕ) S1024x256.size inb_S1024x5632_S1024x256_0_1536).emb x) := by
  unfold runA.sl.v503
  exact cov_piece arg6.view (wIn fh0) (runA.sl.HS0_14 c arg8 arg9 fh0 fs2 fs3) (keptIn14 c fh0 arg8 fs2 arg9 fs3) (Rect.unit (s := S1024x5632) (![0, 1536] : Fin 2 → ℕ) S1024x256.size inb_S1024x5632_S1024x256_0_1536) ⟨_, memGate6 c arg8 arg9 fh0 fs2 fs3⟩ x
theorem memUp6 : (⟨Rect.unit (s := S1024x5632) (![0, 4352] : Fin 2 → ℕ) S1024x256.size inb_S1024x5632_S1024x256_0_4352, k0_pay36 (runA.sl.v473 c arg9 fh0 fs3)⟩ : View.Piece (Elt Ideal) S1024x5632 .bf16) ∈ runA.sl.HS0_14 (F := Ideal) c arg8 arg9 fh0 fs2 fs3 := by
  unfold runA.sl.HS0_14
  exact List.mem_cons_self
theorem readUp6 (x : S1024x256.Idx) : runA.sl.v505 (F := Ideal) c arg6 arg8 arg9 fh0 fs2 fs3 x = wIn fh0 ((Rect.unit (s := S1024x5632) (![0, 4352] : Fin 2 → ℕ) S1024x256.size inb_S1024x5632_S1024x256_0_4352).emb x) := by
  unfold runA.sl.v505
  exact cov_piece arg6.view (wIn fh0) (runA.sl.HS0_14 c arg8 arg9 fh0 fs2 fs3) (keptIn14 c fh0 arg8 fs2 arg9 fs3) (Rect.unit (s := S1024x5632) (![0, 4352] : Fin 2 → ℕ) S1024x256.size inb_S1024x5632_S1024x256_0_4352) ⟨_, memUp6 c arg8 arg9 fh0 fs2 fs3⟩ x
theorem memGate7 : (⟨Rect.unit (s := S1024x5632) (![0, 1792] : Fin 2 → ℕ) S1024x256.size inb_S1024x5632_S1024x256_0_1792, k0_pay39 (runA.sl.v532 c arg8 fh0 fs2)⟩ : View.Piece (Elt Ideal) S1024x5632 .bf16) ∈ runA.sl.HS0_16 (F := Ideal) c arg8 arg9 fh0 fs2 fs3 := by
  unfold runA.sl.HS0_16
  exact List.mem_cons_of_mem _ List.mem_cons_self
theorem readGate7 (x : S1024x256.Idx) : runA.sl.v568 (F := Ideal) c arg6 arg8 arg9 fh0 fs2 fs3 x = wIn fh0 ((Rect.unit (s := S1024x5632) (![0, 1792] : Fin 2 → ℕ) S1024x256.size inb_S1024x5632_S1024x256_0_1792).emb x) := by
  unfold runA.sl.v568
  exact cov_piece arg6.view (wIn fh0) (runA.sl.HS0_16 c arg8 arg9 fh0 fs2 fs3) (keptIn16 c fh0 arg8 fs2 arg9 fs3) (Rect.unit (s := S1024x5632) (![0, 1792] : Fin 2 → ℕ) S1024x256.size inb_S1024x5632_S1024x256_0_1792) ⟨_, memGate7 c arg8 arg9 fh0 fs2 fs3⟩ x
theorem memUp7 : (⟨Rect.unit (s := S1024x5632) (![0, 4608] : Fin 2 → ℕ) S1024x256.size inb_S1024x5632_S1024x256_0_4608, k0_pay40 (runA.sl.v538 c arg9 fh0 fs3)⟩ : View.Piece (Elt Ideal) S1024x5632 .bf16) ∈ runA.sl.HS0_16 (F := Ideal) c arg8 arg9 fh0 fs2 fs3 := by
  unfold runA.sl.HS0_16
  exact List.mem_cons_self
theorem readUp7 (x : S1024x256.Idx) : runA.sl.v570 (F := Ideal) c arg6 arg8 arg9 fh0 fs2 fs3 x = wIn fh0 ((Rect.unit (s := S1024x5632) (![0, 4608] : Fin 2 → ℕ) S1024x256.size inb_S1024x5632_S1024x256_0_4608).emb x) := by
  unfold runA.sl.v570
  exact cov_piece arg6.view (wIn fh0) (runA.sl.HS0_16 c arg8 arg9 fh0 fs2 fs3) (keptIn16 c fh0 arg8 fs2 arg9 fs3) (Rect.unit (s := S1024x5632) (![0, 4608] : Fin 2 → ℕ) S1024x256.size inb_S1024x5632_S1024x256_0_4608) ⟨_, memUp7 c arg8 arg9 fh0 fs2 fs3⟩ x
theorem memGate8 : (⟨Rect.unit (s := S1024x5632) (![0, 2048] : Fin 2 → ℕ) S1024x256.size inb_S1024x5632_S1024x256_0_2048, k0_pay43 (runA.sl.v597 c arg8 fh0 fs2)⟩ : View.Piece (Elt Ideal) S1024x5632 .bf16) ∈ runA.sl.HS0_18 (F := Ideal) c arg8 arg9 fh0 fs2 fs3 := by
  unfold runA.sl.HS0_18
  exact List.mem_cons_of_mem _ List.mem_cons_self
theorem readGate8 (x : S1024x256.Idx) : runA.sl.v633 (F := Ideal) c arg6 arg8 arg9 fh0 fs2 fs3 x = wIn fh0 ((Rect.unit (s := S1024x5632) (![0, 2048] : Fin 2 → ℕ) S1024x256.size inb_S1024x5632_S1024x256_0_2048).emb x) := by
  unfold runA.sl.v633
  exact cov_piece arg6.view (wIn fh0) (runA.sl.HS0_18 c arg8 arg9 fh0 fs2 fs3) (keptIn18 c fh0 arg8 fs2 arg9 fs3) (Rect.unit (s := S1024x5632) (![0, 2048] : Fin 2 → ℕ) S1024x256.size inb_S1024x5632_S1024x256_0_2048) ⟨_, memGate8 c arg8 arg9 fh0 fs2 fs3⟩ x
theorem memUp8 : (⟨Rect.unit (s := S1024x5632) (![0, 4864] : Fin 2 → ℕ) S1024x256.size inb_S1024x5632_S1024x256_0_4864, k0_pay44 (runA.sl.v603 c arg9 fh0 fs3)⟩ : View.Piece (Elt Ideal) S1024x5632 .bf16) ∈ runA.sl.HS0_18 (F := Ideal) c arg8 arg9 fh0 fs2 fs3 := by
  unfold runA.sl.HS0_18
  exact List.mem_cons_self
theorem readUp8 (x : S1024x256.Idx) : runA.sl.v635 (F := Ideal) c arg6 arg8 arg9 fh0 fs2 fs3 x = wIn fh0 ((Rect.unit (s := S1024x5632) (![0, 4864] : Fin 2 → ℕ) S1024x256.size inb_S1024x5632_S1024x256_0_4864).emb x) := by
  unfold runA.sl.v635
  exact cov_piece arg6.view (wIn fh0) (runA.sl.HS0_18 c arg8 arg9 fh0 fs2 fs3) (keptIn18 c fh0 arg8 fs2 arg9 fs3) (Rect.unit (s := S1024x5632) (![0, 4864] : Fin 2 → ℕ) S1024x256.size inb_S1024x5632_S1024x256_0_4864) ⟨_, memUp8 c arg8 arg9 fh0 fs2 fs3⟩ x
theorem memGate9 : (⟨Rect.unit (s := S1024x5632) (![0, 2304] : Fin 2 → ℕ) S1024x256.size inb_S1024x5632_S1024x256_0_2304, k0_pay47 (runA.sl.v662 c arg8 fh0 fs2)⟩ : View.Piece (Elt Ideal) S1024x5632 .bf16) ∈ runA.sl.HS0_20 (F := Ideal) c arg8 arg9 fh0 fs2 fs3 := by
  unfold runA.sl.HS0_20
  exact List.mem_cons_of_mem _ List.mem_cons_self
theorem readGate9 (x : S1024x256.Idx) : runA.sl.v680 (F := Ideal) c arg6 arg8 arg9 fh0 fs2 fs3 x = wIn fh0 ((Rect.unit (s := S1024x5632) (![0, 2304] : Fin 2 → ℕ) S1024x256.size inb_S1024x5632_S1024x256_0_2304).emb x) := by
  unfold runA.sl.v680
  exact cov_piece arg6.view (wIn fh0) (runA.sl.HS0_20 c arg8 arg9 fh0 fs2 fs3) (keptIn20 c fh0 arg8 fs2 arg9 fs3) (Rect.unit (s := S1024x5632) (![0, 2304] : Fin 2 → ℕ) S1024x256.size inb_S1024x5632_S1024x256_0_2304) ⟨_, memGate9 c arg8 arg9 fh0 fs2 fs3⟩ x
theorem memUp9 : (⟨Rect.unit (s := S1024x5632) (![0, 5120] : Fin 2 → ℕ) S1024x256.size inb_S1024x5632_S1024x256_0_5120, k0_pay48 (runA.sl.v668 c arg9 fh0 fs3)⟩ : View.Piece (Elt Ideal) S1024x5632 .bf16) ∈ runA.sl.HS0_20 (F := Ideal) c arg8 arg9 fh0 fs2 fs3 := by
  unfold runA.sl.HS0_20
  exact List.mem_cons_self
theorem readUp9 (x : S1024x256.Idx) : runA.sl.v682 (F := Ideal) c arg6 arg8 arg9 fh0 fs2 fs3 x = wIn fh0 ((Rect.unit (s := S1024x5632) (![0, 5120] : Fin 2 → ℕ) S1024x256.size inb_S1024x5632_S1024x256_0_5120).emb x) := by
  unfold runA.sl.v682
  exact cov_piece arg6.view (wIn fh0) (runA.sl.HS0_20 c arg8 arg9 fh0 fs2 fs3) (keptIn20 c fh0 arg8 fs2 arg9 fs3) (Rect.unit (s := S1024x5632) (![0, 5120] : Fin 2 → ℕ) S1024x256.size inb_S1024x5632_S1024x256_0_5120) ⟨_, memUp9 c arg8 arg9 fh0 fs2 fs3⟩ x
theorem memGate10 : (⟨Rect.unit (s := S1024x5632) (![0, 2560] : Fin 2 → ℕ) S1024x256.size inb_S1024x5632_S1024x256_0_2560, k0_pay51 (runA.sl.v709 c arg8 fh0 fs2)⟩ : View.Piece (Elt Ideal) S1024x5632 .bf16) ∈ runA.sl.HS0_22 (F := Ideal) c arg8 arg9 fh0 fs2 fs3 := by
  unfold runA.sl.HS0_22
  exact List.mem_cons_of_mem _ List.mem_cons_self
theorem readGate10 (x : S1024x256.Idx) : runA.sl.v727 (F := Ideal) c arg6 arg8 arg9 fh0 fs2 fs3 x = wIn fh0 ((Rect.unit (s := S1024x5632) (![0, 2560] : Fin 2 → ℕ) S1024x256.size inb_S1024x5632_S1024x256_0_2560).emb x) := by
  unfold runA.sl.v727
  exact cov_piece arg6.view (wIn fh0) (runA.sl.HS0_22 c arg8 arg9 fh0 fs2 fs3) (keptIn22 c fh0 arg8 fs2 arg9 fs3) (Rect.unit (s := S1024x5632) (![0, 2560] : Fin 2 → ℕ) S1024x256.size inb_S1024x5632_S1024x256_0_2560) ⟨_, memGate10 c arg8 arg9 fh0 fs2 fs3⟩ x
theorem memUp10 : (⟨Rect.unit (s := S1024x5632) (![0, 5376] : Fin 2 → ℕ) S1024x256.size inb_S1024x5632_S1024x256_0_5376, k0_pay52 (runA.sl.v715 c arg9 fh0 fs3)⟩ : View.Piece (Elt Ideal) S1024x5632 .bf16) ∈ runA.sl.HS0_22 (F := Ideal) c arg8 arg9 fh0 fs2 fs3 := by
  unfold runA.sl.HS0_22
  exact List.mem_cons_self
theorem readUp10 (x : S1024x256.Idx) : runA.sl.v729 (F := Ideal) c arg6 arg8 arg9 fh0 fs2 fs3 x = wIn fh0 ((Rect.unit (s := S1024x5632) (![0, 5376] : Fin 2 → ℕ) S1024x256.size inb_S1024x5632_S1024x256_0_5376).emb x) := by
  unfold runA.sl.v729
  exact cov_piece arg6.view (wIn fh0) (runA.sl.HS0_22 c arg8 arg9 fh0 fs2 fs3) (keptIn22 c fh0 arg8 fs2 arg9 fs3) (Rect.unit (s := S1024x5632) (![0, 5376] : Fin 2 → ℕ) S1024x256.size inb_S1024x5632_S1024x256_0_5376) ⟨_, memUp10 c arg8 arg9 fh0 fs2 fs3⟩ x

theorem chunk1_eq (n : Vec Ideal S1024x1024 .bf16) (g u : Vec Ideal S1024x256 .bf16) : k0_pay13 (k0_pay12 n g u) = k0_pay8 (F := Ideal) n g u := rfl
theorem chunk2_eq (n : Vec Ideal S1024x1024 .bf16) (g u : Vec Ideal S1024x256 .bf16) : k0_pay18 n g u = k0_pay8 (F := Ideal) n g u := rfl
theorem chunk3_eq (n : Vec Ideal S1024x1024 .bf16) (g u : Vec Ideal S1024x256 .bf16) : k0_pay24 (k0_pay22 n u) (k0_pay23 n g) = k0_pay8 (F := Ideal) n g u := rfl
theorem chunk4_eq (n : Vec Ideal S1024x1024 .bf16) (g u : Vec Ideal S1024x256 .bf16) : k0_pay28 n g u = k0_pay8 (F := Ideal) n g u := rfl
theorem chunk5_eq (n : Vec Ideal S1024x1024 .bf16) (g u : Vec Ideal S1024x256 .bf16) : k0_pay34 n (k0_pay33 n g) u = k0_pay8 (F := Ideal) n g u := rfl
theorem chunk6_eq (n : Vec Ideal S1024x1024 .bf16) (g u : Vec Ideal S1024x256 .bf16) : k0_pay38 n g u = k0_pay8 (F := Ideal) n g u := rfl
theorem chunk7_eq (n : Vec Ideal S1024x1024 .bf16) (g u : Vec Ideal S1024x256 .bf16) : k0_pay42 n g runA.sl.cst_634 u = k0_pay8 (F := Ideal) n g u := rfl
theorem chunk8_eq (n : Vec Ideal S1024x1024 .bf16) (g u : Vec Ideal S1024x256 .bf16) : k0_pay46 n g u = k0_pay8 (F := Ideal) n g u := rfl
theorem chunk9_eq (n : Vec Ideal S1024x1024 .bf16) (g u : Vec Ideal S1024x256 .bf16) : k0_pay50 n g u = k0_pay8 (F := Ideal) n g u := rfl
theorem chunk10_eq (n : Vec Ideal S1024x1024 .bf16) (g u : Vec Ideal S1024x256 .bf16) : k0_pay54 n g runA.sl.cst_634 u = k0_pay8 (F := Ideal) n g u := rfl

/-- The hidden channels of the first point's rows, chunk by chunk. -/
theorem hiddenA : ∀ p ∈ runA.sl.HS5_11 (F := Ideal) c arg1 harg1 arg2 harg2 arg6 arg8 arg9 x0 x1 fh0 fs2 fs3, ∀ x : p.1.shape.Idx, p.2 x = hid x0 x1 (wIn fh0) (p.1.emb x) := by
  unfold runA.sl.HS5_11 runA.sl.r_2 runA.sl.r_4 runA.sl.r_5 runA.sl.r_7
  simp only [rowsA]
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩
  · exact (congrFun (chunk10_eq (k0_pay4 x0 x1) (runA.sl.v727 c arg6 arg8 arg9 fh0 fs2 fs3) (runA.sl.v729 c arg6 arg8 arg9 fh0 fs2 fs3)) x).trans (hid_piece x0 x1 (wIn fh0) 2560 5376 (by omega) (by omega) inb_S1024x2816_S1024x256_0_2560 inb_S1024x5632_S1024x256_0_2560 inb_S1024x5632_S1024x256_0_5376 (runA.sl.v727 c arg6 arg8 arg9 fh0 fs2 fs3) (runA.sl.v729 c arg6 arg8 arg9 fh0 fs2 fs3) (readGate10 c arg6 arg8 arg9 fh0 fs2 fs3) (readUp10 c arg6 arg8 arg9 fh0 fs2 fs3) x)
  · exact (congrFun (chunk9_eq (k0_pay4 x0 x1) (runA.sl.v680 c arg6 arg8 arg9 fh0 fs2 fs3) (runA.sl.v682 c arg6 arg8 arg9 fh0 fs2 fs3)) x).trans (hid_piece x0 x1 (wIn fh0) 2304 5120 (by omega) (by omega) inb_S1024x2816_S1024x256_0_2304 inb_S1024x5632_S1024x256_0_2304 inb_S1024x5632_S1024x256_0_5120 (runA.sl.v680 c arg6 arg8 arg9 fh0 fs2 fs3) (runA.sl.v682 c arg6 arg8 arg9 fh0 fs2 fs3) (readGate9 c arg6 arg8 arg9 fh0 fs2 fs3) (readUp9 c arg6 arg8 arg9 fh0 fs2 fs3) x)
  · exact (congrFun (chunk8_eq (k0_pay4 x0 x1) (runA.sl.v633 c arg6 arg8 arg9 fh0 fs2 fs3) (runA.sl.v635 c arg6 arg8 arg9 fh0 fs2 fs3)) x).trans (hid_piece x0 x1 (wIn fh0) 2048 4864 (by omega) (by omega) inb_S1024x2816_S1024x256_0_2048 inb_S1024x5632_S1024x256_0_2048 inb_S1024x5632_S1024x256_0_4864 (runA.sl.v633 c arg6 arg8 arg9 fh0 fs2 fs3) (runA.sl.v635 c arg6 arg8 arg9 fh0 fs2 fs3) (readGate8 c arg6 arg8 arg9 fh0 fs2 fs3) (readUp8 c arg6 arg8 arg9 fh0 fs2 fs3) x)
  · exact (congrFun (chunk7_eq (k0_pay4 x0 x1) (runA.sl.v568 c arg6 arg8 arg9 fh0 fs2 fs3) (runA.sl.v570 c arg6 arg8 arg9 fh0 fs2 fs3)) x).trans (hid_piece x0 x1 (wIn fh0) 1792 4608 (by omega) (by omega) inb_S1024x2816_S1024x256_0_1792 inb_S1024x5632_S1024x256_0_1792 inb_S1024x5632_S1024x256_0_4608 (runA.sl.v568 c arg6 arg8 arg9 fh0 fs2 fs3) (runA.sl.v570 c arg6 arg8 arg9 fh0 fs2 fs3) (readGate7 c arg6 arg8 arg9 fh0 fs2 fs3) (readUp7 c arg6 arg8 arg9 fh0 fs2 fs3) x)
  · exact (congrFun (chunk6_eq (k0_pay4 x0 x1) (runA.sl.v503 c arg6 arg8 arg9 fh0 fs2 fs3) (runA.sl.v505 c arg6 arg8 arg9 fh0 fs2 fs3)) x).trans (hid_piece x0 x1 (wIn fh0) 1536 4352 (by omega) (by omega) inb_S1024x2816_S1024x256_0_1536 inb_S1024x5632_S1024x256_0_1536 inb_S1024x5632_S1024x256_0_4352 (runA.sl.v503 c arg6 arg8 arg9 fh0 fs2 fs3) (runA.sl.v505 c arg6 arg8 arg9 fh0 fs2 fs3) (readGate6 c arg6 arg8 arg9 fh0 fs2 fs3) (readUp6 c arg6 arg8 arg9 fh0 fs2 fs3) x)
  · exact (congrFun (chunk5_eq (k0_pay4 x0 x1) (runA.sl.v438 c arg6 arg8 arg9 fh0 fs2 fs3) (runA.sl.v440 c arg6 arg8 arg9 fh0 fs2 fs3)) x).trans (hid_piece x0 x1 (wIn fh0) 1280 4096 (by omega) (by omega) inb_S1024x2816_S1024x256_0_1280 inb_S1024x5632_S1024x256_0_1280 inb_S1024x5632_S1024x256_0_4096 (runA.sl.v438 c arg6 arg8 arg9 fh0 fs2 fs3) (runA.sl.v440 c arg6 arg8 arg9 fh0 fs2 fs3) (readGate5 c arg6 arg8 arg9 fh0 fs2 fs3) (readUp5 c arg6 arg8 arg9 fh0 fs2 fs3) x)
  · exact (congrFun (chunk4_eq (k0_pay4 x0 x1) (runA.sl.v373 c arg6 arg8 arg9 fh0 fs2 fs3) (runA.sl.v375 c arg6 arg8 arg9 fh0 fs2 fs3)) x).trans (hid_piece x0 x1 (wIn fh0) 1024 3840 (by omega) (by omega) inb_S1024x2816_S1024x256_0_1024 inb_S1024x5632_S1024x256_0_1024 inb_S1024x5632_S1024x256_0_3840 (runA.sl.v373 c arg6 arg8 arg9 fh0 fs2 fs3) (runA.sl.v375 c arg6 arg8 arg9 fh0 fs2 fs3) (readGate4 c arg6 arg8 arg9 fh0 fs2 fs3) (readUp4 c arg6 arg8 arg9 fh0 fs2 fs3) x)
  · exact (congrFun (chunk3_eq (k0_pay4 x0 x1) (runA.sl.v308 c arg6 arg8 arg9 fh0 fs2 fs3) (runA.sl.v310 c arg6 arg8 arg9 fh0 fs2 fs3)) x).trans (hid_piece x0 x1 (wIn fh0) 768 3584 (by omega) (by omega) inb_S1024x2816_S1024x256_0_768 inb_S1024x5632_S1024x256_0_768 inb_S1024x5632_S1024x256_0_3584 (runA.sl.v308 c arg6 arg8 arg9 fh0 fs2 fs3) (runA.sl.v310 c arg6 arg8 arg9 fh0 fs2 fs3) (readGate3 c arg6 arg8 arg9 fh0 fs2 fs3) (readUp3 c arg6 arg8 arg9 fh0 fs2 fs3) x)
  · exact (congrFun (chunk2_eq (k0_pay4 x0 x1) (runA.sl.v243 c arg6 arg8 arg9 fh0 fs2 fs3) (runA.sl.v245 c arg6 arg8 arg9 fh0 fs2 fs3)) x).trans (hid_piece x0 x1 (wIn fh0) 512 3328 (by omega) (by omega) inb_S1024x2816_S1024x256_0_512 inb_S1024x5632_S1024x256_0_512 inb_S1024x5632_S1024x256_0_3328 (runA.sl.v243 c arg6 arg8 arg9 fh0 fs2 fs3) (runA.sl.v245 c arg6 arg8 arg9 fh0 fs2 fs3) (readGate2 c arg6 arg8 arg9 fh0 fs2 fs3) (readUp2 c arg6 arg8 arg9 fh0 fs2 fs3) x)
  · exact (congrFun (chunk1_eq (k0_pay4 x0 x1) (runA.sl.v178 c arg6 arg8 arg9 fh0 fs2 fs3) (runA.sl.v180 c arg6 arg8 arg9 fh0 fs2 fs3)) x).trans (hid_piece x0 x1 (wIn fh0) 256 3072 (by omega) (by omega) inb_S1024x2816_S1024x256_0_256 inb_S1024x5632_S1024x256_0_256 inb_S1024x5632_S1024x256_0_3072 (runA.sl.v178 c arg6 arg8 arg9 fh0 fs2 fs3) (runA.sl.v180 c arg6 arg8 arg9 fh0 fs2 fs3) (readGate1 c arg6 arg8 arg9 fh0 fs2 fs3) (readUp1 c arg6 arg8 arg9 fh0 fs2 fs3) x)
  · exact hid_piece x0 x1 (wIn fh0) 0 2816 (by omega) (by omega) inb_S1024x2816_S1024x256_0_0 inb_S1024x5632_S1024x256_0_0 inb_S1024x5632_S1024x256_0_2816 (runA.sl.v113 c arg6 arg8 arg9 fh0 fs2 fs3) (runA.sl.v115 c arg6 arg8 arg9 fh0 fs2 fs3) (readGate0 c arg6 arg8 arg9 fh0 fs2 fs3) (readUp0 c arg6 arg8 arg9 fh0 fs2 fs3) x

theorem hiddenA_read (x : S1024x2816.Idx) : runA.sl.v738 (F := Ideal) c arg1 harg1 arg2 harg2 arg6 arg8 arg9 arg11 x0 x1 fh0 fs2 fs3 x = hid x0 x1 (wIn fh0) x :=
  (View.read_writes_apply_of_pieces arg11.view arg11.view.junk (hid x0 x1 (wIn fh0)) (runA.sl.HS5_11 (F := Ideal) c arg1 harg1 arg2 harg2 arg6 arg8 arg9 x0 x1 fh0 fs2 fs3) (hiddenA c arg1 harg1 arg2 harg2 arg6 arg8 arg9 x0 x1 fh0 fs2 fs3) _
    (View.cover_of_tiledL (runA.sl.HS5_11 (F := Ideal) c arg1 harg1 arg2 harg2 arg6 arg8 arg9 x0 x1 fh0 fs2 fs3) S1024x256.size (by sl_kernel_rfl) _)).trans (congrArg _ (emb_origin inb_S1024x2816_S1024x2816_0_0 x))

theorem outA_read (x : S2816x1024.Idx) : runA.sl.v739 (F := Ideal) c arg7 arg10 fh1 fs4 x = wOut fh1 x :=
  (View.read_writes_apply_of_pieces arg7.view arg7.view.junk (wOut fh1) (runA.sl.HS1_11 (F := Ideal) c arg10 fh1 fs4) (keptOut c fh1 arg10 fs4) _
    (View.cover_of_tiledL (runA.sl.HS1_11 (F := Ideal) c arg10 fh1 fs4) S256x1024.size (by sl_kernel_rfl) _)).trans (congrArg _ (emb_origin inb_S2816x1024_S2816x1024_0_0 x))

/-! ## What the first point leaves -/

/-- After the first point the first weight buffer holds the first weight matrix, -/
theorem runA_keeps0 (i : grid0.Coords) (hc0 : cond0_0 i) (hc1 : ¬cond0_1 i) (f : arg6.view.ty.Contents (Elt Ideal)) :
    arg6.view.read (Elt Ideal) (arg6.view.writes (Elt Ideal) f (runA (F := Ideal) c i arg1 harg1 arg2 harg2 arg5 harg5 arg6 harg6 arg7 harg7 arg8 harg8 arg9 harg9 arg10 harg10 arg11 harg11 hc0 hc1 x0 x1 fh0 fh1 fs2 fs3 fs4).1.2.1) = wIn fh0 :=
  funext fun y => View.read_writes_apply_of_pieces arg6.view f (wIn fh0) (runA.sl.HS0_22 (F := Ideal) c arg8 arg9 fh0 fs2 fs3) (keptIn22 c fh0 arg8 fs2 arg9 fs3) y
    (View.cover_of_tiledL (runA.sl.HS0_22 (F := Ideal) c arg8 arg9 fh0 fs2 fs3) S1024x256.size (by sl_kernel_rfl) y)

/-- the second one the second, -/
theorem runA_keeps1 (i : grid0.Coords) (hc0 : cond0_0 i) (hc1 : ¬cond0_1 i) (f : arg7.view.ty.Contents (Elt Ideal)) :
    arg7.view.read (Elt Ideal) (arg7.view.writes (Elt Ideal) f (runA (F := Ideal) c i arg1 harg1 arg2 harg2 arg5 harg5 arg6 harg6 arg7 harg7 arg8 harg8 arg9 harg9 arg10 harg10 arg11 harg11 hc0 hc1 x0 x1 fh0 fh1 fs2 fs3 fs4).1.2.2) = wOut fh1 :=
  funext fun y => View.read_writes_apply_of_pieces arg7.view f (wOut fh1) (runA.sl.HS1_11 (F := Ideal) c arg10 fh1 fs4) (keptOut c fh1 arg10 fs4) y
    (View.cover_of_tiledL (runA.sl.HS1_11 (F := Ideal) c arg10 fh1 fs4) S256x1024.size (by sl_kernel_rfl) y)

/-- and the output block its rows' results. -/
theorem runA_out (i : grid0.Coords) (hc0 : cond0_0 i) (hc1 : ¬cond0_1 i) (f : arg5.view.ty.Contents (Elt Ideal)) :
    arg5.view.read (Elt Ideal) (arg5.view.writes (Elt Ideal) f (runA (F := Ideal) c i arg1 harg1 arg2 harg2 arg5 harg5 arg6 harg6 arg7 harg7 arg8 harg8 arg9 harg9 arg10 harg10 arg11 harg11 hc0 hc1 x0 x1 fh0 fh1 fs2 fs3 fs4).1.1) = out x0 x1 (wIn fh0) (wOut fh1) := by
  funext y
  refine View.read_writes_apply_of_pieces arg5.view f (out x0 x1 (wIn fh0) (wOut fh1)) [(⟨Rect.unit (s := S1024x1024) (![0, 0] : Fin 2 → ℕ) S1024x1024.size inb_S1024x1024_S1024x1024_0_0,
      k0_pay55 (runA.sl.r c arg1 harg1 x0) (runA.sl.v738 c arg1 harg1 arg2 harg2 arg6 arg8 arg9 arg11 x0 x1 fh0 fs2 fs3) (runA.sl.v739 c arg7 arg10 fh1 fs4)⟩ : View.Piece (Elt Ideal) S1024x1024 .f32)] ?_ y
    ⟨_, List.mem_cons_self, mem_origin inb_S1024x1024_S1024x1024_0_0 y⟩
  · refine List.forall_mem_cons.2 ⟨fun x => ?_, fun _ h => absurd h List.not_mem_nil⟩
    rw [rowsA' c arg1 harg1 x0]
    exact out_piece_last x0 x1 (wIn fh0) (wOut fh1) inb_S1024x1024_S1024x1024_0_0 _ _ (hiddenA_read c arg1 harg1 arg2 harg2 arg6 arg8 arg9 arg11 x0 x1 fh0 fs2 fs3) (outA_read c arg7 arg10 fh1 fs4) x

/-! ## What a later point leaves, on kept weights `w`, `v` -/

variable (w : Vec Ideal S1024x5632 .bf16) (v : Vec Ideal S2816x1024 .bf16)

theorem rowsB : runB.sl.r_1 (F := Ideal) c arg1 harg1 arg2 harg2 x0 x1 = k0_pay4 x0 x1 := by
  unfold runB.sl.r_1
  exact congrArg₂ k0_pay4 (whole_read arg1 harg1 x0 _) (whole_read arg2 harg2 x1 _)

theorem rowsB' : runB.sl.r (F := Ideal) c arg1 harg1 x0 = k0_pay3 x0 := by
  unfold runB.sl.r
  exact congrArg k0_pay3 (whole_read arg1 harg1 x0 _)

theorem later0_eq (x : Vec Ideal S1024x1024 .f32) (g0 : Vec Ideal S1x1024 .f32) (g u : Vec Ideal S1024x256 .bf16) : k0_pay58 x g0 g u = k0_pay8 (F := Ideal) (k0_pay4 x g0) g u := rfl
theorem later1_eq (x : Vec Ideal S1024x1024 .f32) (g0 : Vec Ideal S1x1024 .f32) (g u : Vec Ideal S1024x256 .bf16) : k0_pay60 (k0_pay59 x g0 g u) = k0_pay8 (F := Ideal) (k0_pay4 x g0) g u := rfl
theorem later2_eq (n : Vec Ideal S1024x1024 .bf16) (g u : Vec Ideal S1024x256 .bf16) : k0_pay61 n g u = k0_pay8 (F := Ideal) n g u := rfl
theorem later3_eq (n : Vec Ideal S1024x1024 .bf16) (g u : Vec Ideal S1024x256 .bf16) : k0_pay62 n g u = k0_pay8 (F := Ideal) n g u := rfl
theorem later4_eq (n : Vec Ideal S1024x1024 .bf16) (g u : Vec Ideal S1024x256 .bf16) : k0_pay64 (k0_pay63 n g u) = k0_pay8 (F := Ideal) n g u := rfl
theorem later5_eq (n : Vec Ideal S1024x1024 .bf16) (g u : Vec Ideal S1024x256 .bf16) : k0_pay65 n g u = k0_pay8 (F := Ideal) n g u := rfl
theorem later6_eq (n : Vec Ideal S1024x1024 .bf16) (g u : Vec Ideal S1024x256 .bf16) : k0_pay66 n g u = k0_pay8 (F := Ideal) n g u := rfl
theorem later7_eq (n : Vec Ideal S1024x1024 .bf16) (g u : Vec Ideal S1024x256 .bf16) : k0_pay68 (k0_pay67 n g u) = k0_pay8 (F := Ideal) n g u := rfl
theorem later8_eq (n : Vec Ideal S1024x1024 .bf16) (g u : Vec Ideal S1024x256 .bf16) : k0_pay69 n g u = k0_pay8 (F := Ideal) n g u := rfl
theorem later9_eq (n : Vec Ideal S1024x1024 .bf16) (g u : Vec Ideal S1024x256 .bf16) : k0_pay70 n g u = k0_pay8 (F := Ideal) n g u := rfl
theorem later10_eq (n : Vec Ideal S1024x1024 .bf16) (g u : Vec Ideal S1024x256 .bf16) : k0_pay1 (k0_pay71 n g u) = k0_pay8 (F := Ideal) n g u := rfl

/-- The hidden channels of a later point's rows, chunk by chunk. -/
theorem hiddenB : ∀ p ∈ runB.sl.HS5_11 (F := Ideal) c arg1 harg1 arg2 harg2 arg6 harg6 x0 x1 w, ∀ x : p.1.shape.Idx, p.2 x = hid x0 x1 w (p.1.emb x) := by
  unfold runB.sl.HS5_11 runB.sl.r_2 runB.sl.r_3 runB.sl.r_4 runB.sl.r_5
  simp only [rowsB]
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩
  · exact (congrFun (later10_eq (k0_pay4 x0 x1) (arg6.view.readAt (Elt Ideal) (Rect.unit (s := S1024x5632) (![0, 2560] : Fin 2 → ℕ) S1024x256.size inb_S1024x5632_S1024x256_0_2560).toLoadRect (harg6.unread w)) (arg6.view.readAt (Elt Ideal) (Rect.unit (s := S1024x5632) (![0, 5376] : Fin 2 → ℕ) S1024x256.size inb_S1024x5632_S1024x256_0_5376).toLoadRect (harg6.unread w))) x).trans (hid_piece x0 x1 w 2560 5376 (by omega) (by omega) inb_S1024x2816_S1024x256_0_2560 inb_S1024x5632_S1024x256_0_2560 inb_S1024x5632_S1024x256_0_5376 _ _ (rect_read arg6 harg6 w (Rect.unit (s := S1024x5632) (![0, 2560] : Fin 2 → ℕ) S1024x256.size inb_S1024x5632_S1024x256_0_2560)) (rect_read arg6 harg6 w (Rect.unit (s := S1024x5632) (![0, 5376] : Fin 2 → ℕ) S1024x256.size inb_S1024x5632_S1024x256_0_5376)) x)
  · exact (congrFun (later9_eq (k0_pay4 x0 x1) (arg6.view.readAt (Elt Ideal) (Rect.unit (s := S1024x5632) (![0, 2304] : Fin 2 → ℕ) S1024x256.size inb_S1024x5632_S1024x256_0_2304).toLoadRect (harg6.unread w)) (arg6.view.readAt (Elt Ideal) (Rect.unit (s := S1024x5632) (![0, 5120] : Fin 2 → ℕ) S1024x256.size inb_S1024x5632_S1024x256_0_5120).toLoadRect (harg6.unread w))) x).trans (hid_piece x0 x1 w 2304 5120 (by omega) (by omega) inb_S1024x2816_S1024x256_0_2304 inb_S1024x5632_S1024x256_0_2304 inb_S1024x5632_S1024x256_0_5120 _ _ (rect_read arg6 harg6 w (Rect.unit (s := S1024x5632) (![0, 2304] : Fin 2 → ℕ) S1024x256.size inb_S1024x5632_S1024x256_0_2304)) (rect_read arg6 harg6 w (Rect.unit (s := S1024x5632) (![0, 5120] : Fin 2 → ℕ) S1024x256.size inb_S1024x5632_S1024x256_0_5120)) x)
  · exact (congrFun (later8_eq (k0_pay4 x0 x1) (arg6.view.readAt (Elt Ideal) (Rect.unit (s := S1024x5632) (![0, 2048] : Fin 2 → ℕ) S1024x256.size inb_S1024x5632_S1024x256_0_2048).toLoadRect (harg6.unread w)) (arg6.view.readAt (Elt Ideal) (Rect.unit (s := S1024x5632) (![0, 4864] : Fin 2 → ℕ) S1024x256.size inb_S1024x5632_S1024x256_0_4864).toLoadRect (harg6.unread w))) x).trans (hid_piece x0 x1 w 2048 4864 (by omega) (by omega) inb_S1024x2816_S1024x256_0_2048 inb_S1024x5632_S1024x256_0_2048 inb_S1024x5632_S1024x256_0_4864 _ _ (rect_read arg6 harg6 w (Rect.unit (s := S1024x5632) (![0, 2048] : Fin 2 → ℕ) S1024x256.size inb_S1024x5632_S1024x256_0_2048)) (rect_read arg6 harg6 w (Rect.unit (s := S1024x5632) (![0, 4864] : Fin 2 → ℕ) S1024x256.size inb_S1024x5632_S1024x256_0_4864)) x)
  · exact (congrFun (later7_eq (k0_pay4 x0 x1) (arg6.view.readAt (Elt Ideal) (Rect.unit (s := S1024x5632) (![0, 1792] : Fin 2 → ℕ) S1024x256.size inb_S1024x5632_S1024x256_0_1792).toLoadRect (harg6.unread w)) (arg6.view.readAt (Elt Ideal) (Rect.unit (s := S1024x5632) (![0, 4608] : Fin 2 → ℕ) S1024x256.size inb_S1024x5632_S1024x256_0_4608).toLoadRect (harg6.unread w))) x).trans (hid_piece x0 x1 w 1792 4608 (by omega) (by omega) inb_S1024x2816_S1024x256_0_1792 inb_S1024x5632_S1024x256_0_1792 inb_S1024x5632_S1024x256_0_4608 _ _ (rect_read arg6 harg6 w (Rect.unit (s := S1024x5632) (![0, 1792] : Fin 2 → ℕ) S1024x256.size inb_S1024x5632_S1024x256_0_1792)) (rect_read arg6 harg6 w (Rect.unit (s := S1024x5632) (![0, 4608] : Fin 2 → ℕ) S1024x256.size inb_S1024x5632_S1024x256_0_4608)) x)
  · exact (congrFun (later6_eq (k0_pay4 x0 x1) (arg6.view.readAt (Elt Ideal) (Rect.unit (s := S1024x5632) (![0, 1536] : Fin 2 → ℕ) S1024x256.size inb_S1024x5632_S1024x256_0_1536).toLoadRect (harg6.unread w)) (arg6.view.readAt (Elt Ideal) (Rect.unit (s := S1024x5632) (![0, 4352] : Fin 2 → ℕ) S1024x256.size inb_S1024x5632_S1024x256_0_4352).toLoadRect (harg6.unread w))) x).trans (hid_piece x0 x1 w 1536 4352 (by omega) (by omega) inb_S1024x2816_S1024x256_0_1536 inb_S1024x5632_S1024x256_0_1536 inb_S1024x5632_S1024x256_0_4352 _ _ (rect_read arg6 harg6 w (Rect.unit (s := S1024x5632) (![0, 1536] : Fin 2 → ℕ) S1024x256.size inb_S1024x5632_S1024x256_0_1536)) (rect_read arg6 harg6 w (Rect.unit (s := S1024x5632) (![0, 4352] : Fin 2 → ℕ) S1024x256.size inb_S1024x5632_S1024x256_0_4352)) x)
  · exact (congrFun (later5_eq (k0_pay4 x0 x1) (arg6.view.readAt (Elt Ideal) (Rect.unit (s := S1024x5632) (![0, 1280] : Fin 2 → ℕ) S1024x256.size inb_S1024x5632_S1024x256_0_1280).toLoadRect (harg6.unread w)) (arg6.view.readAt (Elt Ideal) (Rect.unit (s := S1024x5632) (![0, 4096] : Fin 2 → ℕ) S1024x256.size inb_S1024x5632_S1024x256_0_4096).toLoadRect (harg6.unread w))) x).trans (hid_piece x0 x1 w 1280 4096 (by omega) (by omega) inb_S1024x2816_S1024x256_0_1280 inb_S1024x5632_S1024x256_0_1280 inb_S1024x5632_S1024x256_0_4096 _ _ (rect_read arg6 harg6 w (Rect.unit (s := S1024x5632) (![0, 1280] : Fin 2 → ℕ) S1024x256.size inb_S1024x5632_S1024x256_0_1280)) (rect_read arg6 harg6 w (Rect.unit (s := S1024x5632) (![0, 4096] : Fin 2 → ℕ) S1024x256.size inb_S1024x5632_S1024x256_0_4096)) x)
  · exact (congrFun (later4_eq (k0_pay4 x0 x1) (arg6.view.readAt (Elt Ideal) (Rect.unit (s := S1024x5632) (![0, 1024] : Fin 2 → ℕ) S1024x256.size inb_S1024x5632_S1024x256_0_1024).toLoadRect (harg6.unread w)) (arg6.view.readAt (Elt Ideal) (Rect.unit (s := S1024x5632) (![0, 3840] : Fin 2 → ℕ) S1024x256.size inb_S1024x5632_S1024x256_0_3840).toLoadRect (harg6.unread w))) x).trans (hid_piece x0 x1 w 1024 3840 (by omega) (by omega) inb_S1024x2816_S1024x256_0_1024 inb_S1024x5632_S1024x256_0_1024 inb_S1024x5632_S1024x256_0_3840 _ _ (rect_read arg6 harg6 w (Rect.unit (s := S1024x5632) (![0, 1024] : Fin 2 → ℕ) S1024x256.size inb_S1024x5632_S1024x256_0_1024)) (rect_read arg6 harg6 w (Rect.unit (s := S1024x5632) (![0, 3840] : Fin 2 → ℕ) S1024x256.size inb_S1024x5632_S1024x256_0_3840)) x)
  · exact (congrFun (later3_eq (k0_pay4 x0 x1) (arg6.view.readAt (Elt Ideal) (Rect.unit (s := S1024x5632) (![0, 768] : Fin 2 → ℕ) S1024x256.size inb_S1024x5632_S1024x256_0_768).toLoadRect (harg6.unread w)) (arg6.view.readAt (Elt Ideal) (Rect.unit (s := S1024x5632) (![0, 3584] : Fin 2 → ℕ) S1024x256.size inb_S1024x5632_S1024x256_0_3584).toLoadRect (harg6.unread w))) x).trans (hid_piece x0 x1 w 768 3584 (by omega) (by omega) inb_S1024x2816_S1024x256_0_768 inb_S1024x5632_S1024x256_0_768 inb_S1024x5632_S1024x256_0_3584 _ _ (rect_read arg6 harg6 w (Rect.unit (s := S1024x5632) (![0, 768] : Fin 2 → ℕ) S1024x256.size inb_S1024x5632_S1024x256_0_768)) (rect_read arg6 harg6 w (Rect.unit (s := S1024x5632) (![0, 3584] : Fin 2 → ℕ) S1024x256.size inb_S1024x5632_S1024x256_0_3584)) x)
  · exact (congrFun (later2_eq (k0_pay4 x0 x1) (arg6.view.readAt (Elt Ideal) (Rect.unit (s := S1024x5632) (![0, 512] : Fin 2 → ℕ) S1024x256.size inb_S1024x5632_S1024x256_0_512).toLoadRect (harg6.unread w)) (arg6.view.readAt (Elt Ideal) (Rect.unit (s := S1024x5632) (![0, 3328] : Fin 2 → ℕ) S1024x256.size inb_S1024x5632_S1024x256_0_3328).toLoadRect (harg6.unread w))) x).trans (hid_piece x0 x1 w 512 3328 (by omega) (by omega) inb_S1024x2816_S1024x256_0_512 inb_S1024x5632_S1024x256_0_512 inb_S1024x5632_S1024x256_0_3328 _ _ (rect_read arg6 harg6 w (Rect.unit (s := S1024x5632) (![0, 512] : Fin 2 → ℕ) S1024x256.size inb_S1024x5632_S1024x256_0_512)) (rect_read arg6 harg6 w (Rect.unit (s := S1024x5632) (![0, 3328] : Fin 2 → ℕ) S1024x256.size inb_S1024x5632_S1024x256_0_3328)) x)
  · rw [whole_read arg1 harg1 x0, whole_read arg2 harg2 x1]
    exact (congrFun (later1_eq x0 x1 (arg6.view.readAt (Elt Ideal) (Rect.unit (s := S1024x5632) (![0, 256] : Fin 2 → ℕ) S1024x256.size inb_S1024x5632_S1024x256_0_256).toLoadRect (harg6.unread w)) (arg6.view.readAt (Elt Ideal) (Rect.unit (s := S1024x5632) (![0, 3072] : Fin 2 → ℕ) S1024x256.size inb_S1024x5632_S1024x256_0_3072).toLoadRect (harg6.unread w))) x).trans (hid_piece x0 x1 w 256 3072 (by omega) (by omega) inb_S1024x2816_S1024x256_0_256 inb_S1024x5632_S1024x256_0_256 inb_S1024x5632_S1024x256_0_3072 _ _ (rect_read arg6 harg6 w (Rect.unit (s := S1024x5632) (![0, 256] : Fin 2 → ℕ) S1024x256.size inb_S1024x5632_S1024x256_0_256)) (rect_read arg6 harg6 w (Rect.unit (s := S1024x5632) (![0, 3072] : Fin 2 → ℕ) S1024x256.size inb_S1024x5632_S1024x256_0_3072)) x)
  · rw [whole_read arg1 harg1 x0, whole_read arg2 harg2 x1]
    exact (congrFun (later0_eq x0 x1 (arg6.view.readAt (Elt Ideal) (Rect.unit (s := S1024x5632) (![0, 0] : Fin 2 → ℕ) S1024x256.size inb_S1024x5632_S1024x256_0_0).toLoadRect (harg6.unread w)) (arg6.view.readAt (Elt Ideal) (Rect.unit (s := S1024x5632) (![0, 2816] : Fin 2 → ℕ) S1024x256.size inb_S1024x5632_S1024x256_0_2816).toLoadRect (harg6.unread w))) x).trans (hid_piece x0 x1 w 0 2816 (by omega) (by omega) inb_S1024x2816_S1024x256_0_0 inb_S1024x5632_S1024x256_0_0 inb_S1024x5632_S1024x256_0_2816 _ _ (rect_read arg6 harg6 w (Rect.unit (s := S1024x5632) (![0, 0] : Fin 2 → ℕ) S1024x256.size inb_S1024x5632_S1024x256_0_0)) (rect_read arg6 harg6 w (Rect.unit (s := S1024x5632) (![0, 2816] : Fin 2 → ℕ) S1024x256.size inb_S1024x5632_S1024x256_0_2816)) x)

theorem hiddenB_read (x : S1024x2816.Idx) : runB.sl.v144 (F := Ideal) c arg1 harg1 arg2 harg2 arg6 harg6 arg11 x0 x1 w x = hid x0 x1 w x :=
  (View.read_writes_apply_of_pieces arg11.view arg11.view.junk (hid x0 x1 w) (runB.sl.HS5_11 (F := Ideal) c arg1 harg1 arg2 harg2 arg6 harg6 x0 x1 w) (hiddenB c arg1 harg1 arg2 harg2 arg6 harg6 x0 x1 w) _
    (View.cover_of_tiledL (runB.sl.HS5_11 (F := Ideal) c arg1 harg1 arg2 harg2 arg6 harg6 x0 x1 w) S1024x256.size (by sl_kernel_rfl) _)).trans (congrArg _ (emb_origin inb_S1024x2816_S1024x2816_0_0 x))

/-- A later point leaves its rows' results in the output block. -/
theorem runB_out (i : grid0.Coords) (hc0 : ¬cond0_0 i) (hc1 : cond0_1 i) (f : arg5.view.ty.Contents (Elt Ideal)) :
    arg5.view.read (Elt Ideal) (arg5.view.writes (Elt Ideal) f (runB (F := Ideal) c i arg1 harg1 arg2 harg2 arg5 harg5 arg6 harg6 arg7 harg7 arg8 harg8 arg9 harg9 arg10 harg10 arg11 harg11 hc0 hc1 x0 x1 w v fh0 fh1).1) = out x0 x1 w v := by
  funext y
  refine View.read_writes_apply_of_pieces arg5.view f (out x0 x1 w v) [(⟨Rect.unit (s := S1024x1024) (![0, 0] : Fin 2 → ℕ) S1024x1024.size inb_S1024x1024_S1024x1024_0_0,
      k0_pay2 (runB.sl.r c arg1 harg1 x0) (runB.sl.v144 c arg1 harg1 arg2 harg2 arg6 harg6 arg11 x0 x1 w)
        (arg7.view.readAt (Elt Ideal) (Rect.unit (s := S2816x1024) (![0, 0] : Fin 2 → ℕ) S2816x1024.size inb_S2816x1024_S2816x1024_0_0).toLoadRect (harg7.unread v))⟩ : View.Piece (Elt Ideal) S1024x1024 .f32)] ?_ y
    ⟨_, List.mem_cons_self, mem_origin inb_S1024x1024_S1024x1024_0_0 y⟩
  · refine List.forall_mem_cons.2 ⟨fun x => ?_, fun _ h => absurd h List.not_mem_nil⟩
    rw [rowsB' c arg1 harg1 x0]
    exact out_piece_last x0 x1 w v inb_S1024x1024_S1024x1024_0_0 _ _ (hiddenB_read c arg1 harg1 arg2 harg2 arg6 harg6 arg11 x0 x1 w) (fun x => congrFun (whole_read arg7 harg7 v _) x) x

end

end Cert.FfnKernel

end
-- ==== Proof.FfnIFrame.lean ====
/- The feed-forward program at the reals: every execution leaves, in each block of the result, what the block's rows determine through the
   weights, which the first grid point rounds and keeps; the argument arrays end unchanged, every semaphore counter at zero. -/
module

public import proofs.«01_k».proof.Proof.FfnKernel
public import Idealize.ShloMosaic.Lib.Claim

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem liveAt0_2 : ∀ t : Fin cfg0.N, cfg0.idle 2 (grid0.coords t) = false :=
  (by decide +kernel : ∀ t : Fin grid0.N, idle0 2 (grid0.coords t) = false)

/-- The first weights as the first point leaves them in the scratch, -/
def keptIn (c : Dev nD) : Vec Ideal S1024x5632 .bf16 := Cert.FfnKernel.wIn (V m c main_arg2)
/-- and the second. -/
def keptOut (c : Dev nD) : Vec Ideal S2816x1024 .bf16 := Cert.FfnKernel.wOut (V m c main_arg3)
/-- What the body leaves in the output block at point `t`. -/
def left (c : Dev nD) (t : Fin cfg0.N) : Vec Ideal S1024x1024 .f32 := Cert.FfnKernel.out (iblk m c 0 t) (iblk m c 1 t) (keptIn m c) (keptOut m c)

/-- The invariant before position `n`: at first every scratch at anything; afterwards the two weight buffers at the kept weights. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (keptIn m c) ∗ owns (c : Thread nD τ) scM0_1 fullShare (keptOut m c) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3)))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop(iprop(owns (c : Thread nD τ) scM0_0 fullShare (keptIn m c) ∗ owns (c : Thread nD τ) scM0_1 fullShare (keptOut m c) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_arg2) ∗ hbPt0 c hbM0_1 (V m c main_arg3))) := by
  cases n with
  | zero => exact absurd rfl hz
  | succ n => rfl

/-- The proof data on core `c`: the inputs' buffers at their blocks, the output's at what the body leaves. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left m c t
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = left m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 6400000 in
/-- The body at any point: the first point's run or a later one's, by the point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_pos m c (t.val + 1) t.isLt (Nat.succ_ne_zero _)]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · rw [PhiS_castSucc m c t, PhiS_zero m c _ _ hz, PhiD0_eq]
    unfold owns
    iintro ⟨⟨⟨HS0, HS1, ⟨%d8, %e8, -, HS2⟩, ⟨%d9, %e9, -, HS3⟩, ⟨%d10, %e10, -, HS4⟩, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩⟩
    iapply ((runA c (grid0.coords t) _ _ _ _ _ _ _ _ _ _ _ _ _ _ _ _ _ _ ((hcond0_0 t).mpr (by omega)) (fun h => absurd ((hcond0_1 t).mp h) (by omega)) (iblk m c 0 t) (iblk m c 1 t) (V m c main_arg2) (V m c main_arg3) e8 e9 e10).2 W _)
    isplitl [H0]; · unfold owns; iexact H0
    isplitl [H1]; · unfold owns; iexact H1
    isplitl [H2]; · unfold owns; iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, ⟨%e2, H2⟩, ⟨%es0, HS0⟩, ⟨%es1, HS1⟩, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]
        · unfold owns; iexists _; isplitr; swap; · iexact HS0
          ipureintro; exact Cert.FfnKernel.runA_keeps0 _ _ _ _ _ _ _ _ _ _ _ _ _ _ _ _ _ _ _ _ _ _ _ _ _ _ _ _ _ _
        isplitl [HS1]
        · unfold owns; iexists _; isplitr; swap; · iexact HS1
          ipureintro; exact Cert.FfnKernel.runA_keeps1 _ _ _ _ _ _ _ _ _ _ _ _ _ _ _ _ _ _ _ _ _ _ _ _ _ _ _ _ _ _
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · unfold owns; iexact H0
    isplitl [H1]; · unfold owns; iexact H1
    unfold owns; iexists _; isplitr; swap; · iexact H2
    ipureintro; exact Cert.FfnKernel.runA_out _ _ _ _ _ _ _ _ _ _ _ _ _ _ _ _ _ _ _ _ _ _ _ _ _ _ _ _ _ _
  · rw [PhiS_castSucc m c t, PhiS_pos m c _ _ hz]
    iintro ⟨⟨⟨HS0, HS1, HS2, HS3, HS4, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩⟩
    iapply ((runB c (grid0.coords t) _ _ _ _ _ _ _ _ _ _ _ _ _ _ _ _ _ _ (fun h => absurd ((hcond0_0 t).mp h) (by omega)) ((hcond0_1 t).mpr (by omega)) (iblk m c 0 t) (iblk m c 1 t) _ _ (V m c main_arg2) (V m c main_arg3)).2 W _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, ⟨%e2, H2⟩, HS0, HS1, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    unfold owns; iexists _; isplitr; swap; · iexact H2
    ipureintro; exact Cert.FfnKernel.runB_out _ _ _ _ _ _ _ _ _ _ _ _ _ _ _ _ _ _ _ _ _ _ _ _ _ _ _ _ _

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body at every point, as the launch asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch hands over the invariant before the first point, -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]

/-- and takes back the one after the last, the kept weights forgotten. -/
theorem hout (c : Dev nD) : (dats m 0 c).Φ (Fin.last cfg0.N) ⊢ Pipeline.ΦD osem0 spec0 H0 (V m) c := by
  have hN : cfg0.N ≠ 0 := by have : cfg0.N = 16 := N_0; omega
  rw [show (dats m 0 c).Φ (Fin.last cfg0.N) = PhiS m c cfg0.N (le_refl _) from rfl, PhiS_pos m c _ _ hN, PhiD0_eq]
  iintro ⟨⟨HS0, HS1, HS2, HS3, HS4, HS5⟩, Hg, Hq, Hh⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexact HS5
  isplitl [Hg]; · iexact Hg
  isplitl [Hq]; · iexact Hq
  iexact Hh

-- (implicit arguments are found by unifying the conclusion with this one)
set_option backward.isDefEq.respectTransparency.types false in
/-- The launch: every array of the pipeline ends at what the proof data says, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result array after the run, and the arguments unchanged. -/
theorem run_result : θ_run defs (onTc (τ := τ) (main (F := Ideal))) ⟨m, fun _ => 0, ρ⟩ fun r => ∀ c : Dev nD,
      r.2.mem ((c : Thread nD τ).loc main_v4) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h' c => have h := h'.1; ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main_quiescent m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_result m ρ)) ((θ_run defs _ _).mono (fun _ h => h.2) (run_main_quiescent m ρ))

end Cert.FfnIdeal.Gen

end
-- ==== Proof.FfnValue.lean ====
/- The result array of the feed-forward kernel. -/
module

public import proofs.«01_k».proof.Proof.FfnIFrame
public import Idealize.ShloMosaic.Lib.StableHlo.Run
public import Idealize.ShloMosaic.Lib.StableHlo.ReadAt

@[expose] public section

set_option maxRecDepth 16384

noncomputable section

open Idealize.ShloMosaic Idealize.ShloMosaic.TcCoe Idealize.SL.Sem Cert.Rows
open Cert.FfnIdeal Cert.FfnIdeal.Gen
open Idealize.ShloMosaic.Pipeline (Dat)

/-! # The feed-forward kernel's result array -/

namespace Cert.FfnValue

variable (m : (ℓ : Loc nD τ sig) → Buf (Elt Ideal) ℓ)

/-- Row `r` of the tokens, all sequences one after the other. -/
abbrev X (c : Dev nD) (r : Fin 16384) : Fin 1024 → EReal := fun k =>
  (m ((c : Thread nD τ).loc main_arg0) : S2x8192x1024.Idx → EReal) (ix3 ⟨r.val / 8192, by omega⟩ ⟨r.val % 8192, by omega⟩ k)
/-- The gain of the block's norm. -/
abbrev g (c : Dev nD) : Fin 1024 → EReal := fun k => (m ((c : Thread nD τ).loc main_arg1) : S4x3x1024.Idx → EReal) (ix3 0 0 k)
/-- The first projection's weights. -/
abbrev w (c : Dev nD) : Fin 1024 → Fin 5632 → EReal := fun k j => (m ((c : Thread nD τ).loc main_arg2) : S4x2x1024x5632.Idx → EReal) (ix4 0 0 k j)
/-- The second projection's weights. -/
abbrev o (c : Dev nD) : Fin 2816 → Fin 1024 → EReal := fun f j => (m ((c : Thread nD τ).loc main_arg3) : S4x2x2816x1024.Idx → EReal) (ix4 0 0 f j)

/-- The tokens the kernel's window stages. -/
theorem token_apply (c : Dev nD) (r : Fin 16384) (k : Fin 1024) :
    (V m c main_v0 : S16384x1024.Idx → EReal) (ix2 r k) = X m c r k := by
  have e : (V m c main_v0 : S16384x1024.Idx → EReal) (ix2 r k)
      = shapeCast S16384x1024 (m ((c : Thread nD τ).loc main_arg0) : S2x8192x1024.Idx → EReal) shapeCasts_S2x8192x1024_S16384x1024 (ix2 r k) := by
    unfold V hostOps0
    after_reads_at
  rw [e]
  refine shapeCast_apply _ shapeCasts_S2x8192x1024_S16384x1024 (ix2 r k) (ix3 ⟨r.val / 8192, by omega⟩ ⟨r.val % 8192, by omega⟩ k) ?_
  rewrite [Shape.rowMajor_val_three, Shape.rowMajor_val_two]
  show (r.val / 8192 * 8192 + r.val % 8192) * 1024 + k.val = r.val * 1024 + k.val
  omega

/-- The gain the kernel's window stages. -/
theorem gain_apply (c : Dev nD) (k : Fin 1024) : (V m c main_v3 : S1x1024.Idx → EReal) (ix2 0 k) = g m c k := by
  unfold V hostOps0
  after_reads_at

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem lt_points (t : Fin cfg0.N) : t.val < 16 := lt_of_lt_of_eq t.isLt (show cfg0.N = 16 from N_0)

/-- Point `t` stages rows `1024 t …` of the tokens, -/
theorem blk0 (c : Dev nD) (t : Fin cfg0.N) (r k : Fin 1024) (l : Fin 16384) (hl : l.val = 1024 * t.val + r.val) :
    (iblk m c 0 t : Vec Ideal S1024x1024 .f32) (ix2 r k) = X m c l k := by
  obtain ⟨h0, h1⟩ := index0 t
  unfold iblk
  rw [View.read_apply]
  refine Eq.trans ?_ (token_apply m c l k)
  refine congrArg (V m c main_v0) (funext fun a => Fin.ext ?_)
  match a with
  | ⟨0, _⟩ => show win0_0.index t 0 * 1024 + 1 * r.val = l.val; omega
  | ⟨1, _⟩ => show win0_0.index t 1 * 1024 + 1 * k.val = k.val; omega

/-- and the gain. -/
theorem blk1 (c : Dev nD) (t : Fin cfg0.N) (k : Fin 1024) : (iblk m c 1 t : Vec Ideal S1x1024 .f32) (ix2 0 k) = g m c k := by
  obtain ⟨h0, h1⟩ := index1 t
  unfold iblk
  rw [View.read_apply]
  refine Eq.trans ?_ (gain_apply m c k)
  refine congrArg (V m c main_v3) (funext fun a => Fin.ext ?_)
  match a with
  | ⟨0, _⟩ => show win0_1.index t 0 * 1 + 1 * 0 = 0; omega
  | ⟨1, _⟩ => show win0_1.index t 1 * 1024 + 1 * k.val = k.val; omega

/-- The kept weights are the arguments'. -/
theorem kept_in (c : Dev nD) (k : Fin 1024) (j : Fin 5632) : keptIn m c (ix2 k j) = w m c k j := by
  show (V m c main_arg2 : S4x2x1024x5632.Idx → EReal) (ix4 0 0 k j) = _
  rw [V_main_arg2]
theorem kept_out (c : Dev nD) (f : Fin 2816) (j : Fin 1024) : keptOut m c (ix2 f j) = o m c f j := by
  show (V m c main_arg3 : S4x2x2816x1024.Idx → EReal) (ix4 0 0 f j) = _
  rw [V_main_arg3]

/-- The result: every token's row is the block's. -/
def result (c : Dev nD) : Buf (Elt Ideal) ((c : Thread nD τ).loc main_v4) := fun (y : S16384x1024.Idx) =>
  FfnRow.row (X m c (y 0)) (g m c) (w m c) (o m c) (y 1)

/-- What point `t` writes back is its block of the result. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  obtain ⟨h0, h1⟩ := index2 t
  have ht := lt_points t
  funext y
  obtain ⟨r, j, rfl⟩ : ∃ (r j : Fin 1024), y = (ix2 r j : S1024x1024.Idx) := ⟨y 0, y 1, eq_ix2 (n0 := 1024) (n1 := 1024) y⟩
  rw [View.read_apply]
  have e : ((cfg0.win 2).blk t).view.emb (ix2 r j : S1024x1024.Idx) = (ix2 ⟨1024 * t.val + r.val, by omega⟩ j : S16384x1024.Idx) := by
    refine funext fun a => Fin.ext ?_
    match a with
    | ⟨0, _⟩ => show win0_2.index t 0 * 1024 + 1 * r.val = 1024 * t.val + r.val; omega
    | ⟨1, _⟩ => show win0_2.index t 1 * 1024 + 1 * j.val = j.val; omega
  rw [e]
  show FfnRow.row (fun k => (iblk m c 0 t : Vec Ideal S1024x1024 .f32) (ix2 r k)) (fun k => (iblk m c 1 t : Vec Ideal S1x1024 .f32) (ix2 0 k))
    (fun k j => keptIn m c (ix2 k j)) (fun f j => keptOut m c (ix2 f j)) j
    = FfnRow.row (X m c ⟨1024 * t.val + r.val, by omega⟩) (g m c) (w m c) (o m c) j
  rw [show (fun k => (iblk m c 0 t : Vec Ideal S1024x1024 .f32) (ix2 r k)) = X m c ⟨1024 * t.val + r.val, by omega⟩ from funext fun k => blk0 m c t r k _ rfl,
    show (fun k => (iblk m c 1 t : Vec Ideal S1x1024 .f32) (ix2 0 k)) = g m c from funext (blk1 m c t),
    show (fun k j => keptIn m c (ix2 k j)) = w m c from funext fun k => funext (kept_in m c k),
    show (fun f j => keptOut m c (ix2 f j)) = o m c from funext fun f => funext (kept_out m c f)]

/-- The kernel's result array is the block's. -/
theorem arr (c : Dev nD) : (dats m 0 c).arrAt 2 cfg0.N = result m c := by
  refine (dats m 0 c).arrAt_eq_of_cover 2 (result m c) (fun t _ => flushed_eq m c t) fun (y : S16384x1024.Idx) => ?_
  have h : ∀ i : Fin 16, ∃ t : Fin grid0.N, win0_2.flush t = true ∧ t.val = i.val := by decide +kernel
  have hy : (y 0).val < 16384 := (y 0).isLt
  obtain ⟨t, hf, hi⟩ := h ⟨(y 0).val / 1024, by omega⟩
  obtain ⟨h0, h1⟩ := index2 t
  refine ⟨t, hf, ?_⟩
  show y ∈ ((View.whole main_v4).slice (win0_2.rect t)).set
  rw [View.set_slice_whole, Rect.mem_set_unit]
  have hi' : t.val = (y 0).val / 1024 := hi
  intro a
  match a with
  | ⟨0, _⟩ => show win0_2.index t 0 * 1024 ≤ (y 0).val ∧ (y 0).val < win0_2.index t 0 * 1024 + 1024; omega
  | ⟨1, _⟩ =>
    have : (y 1).val < 1024 := (y 1).isLt
    show win0_2.index t 1 * 1024 ≤ (y 1).val ∧ (y 1).val < win0_2.index t 1 * 1024 + 1024; omega

end Cert.FfnValue

end
-- ==== Proof.FfnRef.lean ====
/- What the feed-forward reference leaves. -/
module

public import proofs.«01_k».proof.Proof.Gen.FfnRefIdeal.Read
public import proofs.«01_k».proof.Proof.FfnRow

@[expose] public section

set_option maxRecDepth 16384

noncomputable section

open Idealize.ShloMosaic Idealize.ShloMosaic.TcCoe Idealize.SL.Sem Cert.Rows
open Cert.FfnRefIdeal Cert.FfnRefIdeal.Gen Cert.FfnRefIdeal.Read

/-! # What the feed-forward reference's result holds, element by element -/

namespace Cert.FfnRef

/-- Row `r` of the tokens, all sequences one after the other. -/
abbrev token (x0 : (⟨S2x8192x1024, .f32⟩ : BufTy).Contents (Elt Ideal)) (r : Fin 16384) : Fin 1024 → EReal :=
  fun k => x0 (ix3 ⟨r.val / 8192, by omega⟩ ⟨r.val % 8192, by omega⟩ k)

theorem token_apply (x0 : (⟨S2x8192x1024, .f32⟩ : BufTy).Contents (Elt Ideal)) (r : Fin 16384) (k : Fin 1024) :
    val_main_v0 (F := Ideal) x0 (ix2 r k) = token x0 r k := by
  rw [val_main_v0_apply]
  refine congrArg x0 (funext fun a => Fin.ext ?_)
  match a with
  | ⟨0, _⟩ => show (r.val * 1024 + k.val) / 8388608 = r.val / 8192; omega
  | ⟨1, _⟩ => show (r.val * 1024 + k.val) / 1024 % 8192 = r.val % 8192; omega
  | ⟨2, _⟩ => show (r.val * 1024 + k.val) % 1024 = k.val; omega

/-- The reference's normed rows. -/
theorem normed (x0 : (⟨S2x8192x1024, .f32⟩ : BufTy).Contents (Elt Ideal)) (x1 : (⟨S4x3x1024, .f32⟩ : BufTy).Contents (Elt Ideal))
    (r : Fin 16384) (j : Fin 1024) :
    val_main_v15 (F := Ideal) x0 x1 (ix2 r j) = rowNorm (token x0 r) (fun k => x1 (ix3 0 0 k)) j := by
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  simp only [token_apply]
  rfl

/-- The reference's first projection. -/
theorem projected (x0 : (⟨S2x8192x1024, .f32⟩ : BufTy).Contents (Elt Ideal)) (x1 : (⟨S4x3x1024, .f32⟩ : BufTy).Contents (Elt Ideal))
    (x2 : (⟨S4x2x1024x5632, .f32⟩ : BufTy).Contents (Elt Ideal)) (r : Fin 16384) (j : Fin 5632) :
    val_main_v20 (F := Ideal) x0 x1 x2 (ix2 r j)
      = FfnRow.proj (token x0 r) (fun k => x1 (ix3 0 0 k)) (fun k j => x2 (ix4 0 0 k j)) j := by
  pointwise [val_main_v20, val_main_v17, val_main_v16]
  simp only [normed]
  rfl

/-- The reference's hidden channels. -/
theorem hidden_apply (x0 : (⟨S2x8192x1024, .f32⟩ : BufTy).Contents (Elt Ideal)) (x1 : (⟨S4x3x1024, .f32⟩ : BufTy).Contents (Elt Ideal))
    (x2 : (⟨S4x2x1024x5632, .f32⟩ : BufTy).Contents (Elt Ideal)) (r : Fin 16384) (f : Fin 2816) :
    val_main_v24 (F := Ideal) x0 x1 x2 (ix2 r f)
      = FfnRow.hidden (token x0 r) (fun k => x1 (ix3 0 0 k)) (fun k j => x2 (ix4 0 0 k j)) f := by
  pointwise [val_main_v24, val_main_v23, val_main_v22, val_main_v21, val_main_call0_v5, val_main_call0_v4, val_main_call0_v3, val_main_call0_v2, val_main_call0_v1, val_main_call0_v0, val_main_call0_cst, val_main_call0_cst_0]
  simp only [projected]
  unfold FfnRow.hidden
  rfl

/-- Each element of the reference's result is its row's. -/
theorem result_apply (x0 : (⟨S2x8192x1024, .f32⟩ : BufTy).Contents (Elt Ideal)) (x1 : (⟨S4x3x1024, .f32⟩ : BufTy).Contents (Elt Ideal))
    (x2 : (⟨S4x2x1024x5632, .f32⟩ : BufTy).Contents (Elt Ideal)) (x3 : (⟨S4x2x2816x1024, .f32⟩ : BufTy).Contents (Elt Ideal))
    (r : Fin 16384) (j : Fin 1024) :
    val_main_v28 (F := Ideal) x0 x1 x2 x3 (ix2 r j)
      = FfnRow.row (token x0 r) (fun k => x1 (ix3 0 0 k)) (fun k j => x2 (ix4 0 0 k j)) (fun f j => x3 (ix4 0 0 f j)) j := by
  pointwise [val_main_v28, val_main_v27, val_main_v26, val_main_v25, val_main_v19, val_main_v18, val_main_cst_2]
  simp only [hidden_apply, token_apply]
  rfl

end Cert.FfnRef

end
-- ==== Proof.FfnAlgebra.lean ====
/- The feed-forward kernel and its reference leave the same result. -/
module

public import proofs.«01_k».proof.Defs
public import proofs.«01_k».proof.Proof.Gen.FfnIdeal
public import proofs.«01_k».proof.Proof.Gen.FfnRefIdeal.Run
public import proofs.«01_k».proof.Proof.FfnValue
public import proofs.«01_k».proof.Proof.FfnRef

@[expose] public section

noncomputable section

namespace Cert.FfnAlgebra

open Idealize.ShloMosaic Idealize.SL.Sem

/-- The kernel's result is the reference's function of the arguments. -/
theorem result_eq (m : (ℓ : Loc Cert.FfnIdeal.nD Cert.FfnIdeal.τ Cert.FfnIdeal.sig) → Buf (Elt Ideal) ℓ) (c : Dev Cert.FfnIdeal.nD) :
    FfnValue.result m c = Cert.FfnRefIdeal.Read.val_main_v28 (F := Ideal)
      (m ((c.tc : Thread Cert.FfnIdeal.nD Cert.FfnIdeal.τ).loc Cert.FfnIdeal.main_arg0)) (m ((c.tc : Thread Cert.FfnIdeal.nD Cert.FfnIdeal.τ).loc Cert.FfnIdeal.main_arg1))
      (m ((c.tc : Thread Cert.FfnIdeal.nD Cert.FfnIdeal.τ).loc Cert.FfnIdeal.main_arg2)) (m ((c.tc : Thread Cert.FfnIdeal.nD Cert.FfnIdeal.τ).loc Cert.FfnIdeal.main_arg3)) := by
  funext (y : Cert.FfnIdeal.S16384x1024.Idx)
  rw [eq_ix2 (n0 := 16384) (n1 := 1024) y]
  exact (FfnRef.result_apply _ _ _ _ (y 0) (y 1)).symm

/-- The reference keeps its arguments and touches no semaphore. -/
theorem frame_ref : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- From memories that agree on the arguments, kernel and reference both end with the block's result. -/
theorem algebraic : Cert.algebraic_FfnIdeal_FfnRefIdeal (hFfnIdeal := Cert.FfnIdeal.Gen.facts) (hFfnRefIdeal := Cert.FfnRefIdeal.Gen.facts) := by
  intro m ρ m' ρ' _ hm
  refine ⟨fun c => FfnValue.result m c, ?_, ?_⟩
  · refine (θ_run _ _ _).mono (fun _ hr c => ⟨(hr c).1.trans (FfnValue.arr m c), (hr c).2⟩) (Cert.FfnIdeal.Gen.run_result m ρ)
  · refine (θ_run _ _ _).mono (fun _ hr c => ⟨(hr c).1.trans ?_, (hr c).2⟩) (Cert.FfnRefIdeal.Value.run (F := Ideal) m' ρ')
    obtain ⟨h0, h1, h2, h3⟩ := hm c
    refine (Cert.FfnRefIdeal.Read.val_main_v28_eq m' c).trans (Eq.trans ?_ (result_eq m c).symm)
    exact congr (congr (congr (congrArg _ h0) h1) h2) h3

end Cert.FfnAlgebra

end
-- ==== Proof.LastBFrame.lean ====
/- The frame of the feed-forward program at any scalars: every execution ends with the argument arrays unchanged and every semaphore
   counter at zero. Nothing the kernel computes is named here. -/
module

public import proofs.«01_k».proof.Proof.LastBRunB
public import Idealize.ShloMosaic.Lib.Claim

@[expose] public section

-- membership in a rectangle of production extents (`View.cover_of_tiled`): the elaborator's structural look
-- recurses once per coordinate of the long axes
set_option maxRecDepth 16384

noncomputable section

namespace Cert.Last.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The output window, of whose contents nothing is said. -/
def forgets0 : Fin 4 → Bool := fun w => w.val == 3

/-- The proof data on core `c`: the inputs' buffers at their blocks, the output's unnamed, the scratch at anything. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦD osem0 spec0 H0 (V m) c
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d))

set_option maxHeartbeats 6400000 in
/-- The body at any point: the first point's run or a later one's, by the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Pipeline.ΦD osem0 spec0 H0 (V m) c from rfl, show (dats m 0 c).Φ t.succ = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases hz : t.val = 0
  · unfold owns
    iintro ⟨⟨⟨HS0, HS1, ⟨%d8, %e8, -, HS2⟩, ⟨%d9, %e9, -, HS3⟩, ⟨%d10, %e10, -, HS4⟩, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩, ⟨%d3, H3⟩⟩
    iapply ((runA c (grid0.coords t) _ _ _ _ _ _ _ _ _ _ _ _ _ _ _ _ _ _ _ _ ((hcond0_0 t).mpr (by omega)) (fun h => absurd ((hcond0_1 t).mp h) (by omega)) (iblk m c 0 t) (iblk m c 1 t) (iblk m c 2 t) (V m c main_arg3) (V m c main_arg4) e8 e9 e10).2 W _)
    isplitl [H0]; · unfold owns; iexact H0
    isplitl [H1]; · unfold owns; iexact H1
    isplitl [H2]; · unfold owns; iexact H2
    isplitl [H3]; · unfold owns; iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, ⟨%e3, H3⟩, ⟨%es0, HS0⟩, ⟨%es1, HS1⟩, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]
        · iexists _; iexists _; isplitr; swap; · iexact HS0
          ipureintro; rfl
        isplitl [HS1]
        · iexists _; iexists _; isplitr; swap; · iexact HS1
          ipureintro; rfl
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · unfold owns; iexact H0
    isplitl [H1]; · unfold owns; iexact H1
    isplitl [H2]; · unfold owns; iexact H2
    iexists _; iexists _; isplitr; swap; · iexact H3
    ipureintro; rfl
  · iintro ⟨⟨⟨⟨%xs0, HS0⟩, ⟨%xs1, HS1⟩, HS2, HS3, HS4, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩, ⟨%d3, H3⟩⟩
    iapply ((runB c (grid0.coords t) _ _ _ _ _ _ _ _ _ _ _ _ _ _ _ _ _ _ _ _ (fun h => absurd ((hcond0_0 t).mp h) (by omega)) ((hcond0_1 t).mpr (by omega)) (iblk m c 0 t) (iblk m c 1 t) (iblk m c 2 t) xs0 xs1 (V m c main_arg3) (V m c main_arg4)).2 W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, ⟨%e3, H3⟩, HS0, HS1, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]; · iexists _; iexact HS0
        isplitl [HS1]; · iexists _; iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexists _; unfold owns; iexists _; isplitr; swap; · iexact H3
    ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- (implicit arguments are found by unifying the conclusion with this one)
set_option backward.isDefEq.respectTransparency.types false in
/-- The launch: the pipeline's arrays that are inputs are unchanged, and every counter is zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame claim, at any scalars. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (fun c => (dats m 0 c).toRForget forgets0) (A_eq m) ((θ_run defs _ _).mono (fun _ h => h.1) (run_main_quiescent m ρ)))
    ((θ_run defs _ _).mono (fun _ h => h.2) (run_main_quiescent m ρ))

end Cert.Last.Gen

end
-- ==== Proof.LastIRuns.lean ====
/- The launch set-up that the runs of the closing feed-forward program's kernel share: the host operations before the region, the windows' blocks,
   the body's two branch conditions over the grid points, the names of the buffers it is given, and the region's invariant. -/
module

public import proofs.«01_k».proof.Proof.Gen.LastIdeal.Launch
public import proofs.«01_k».proof.Proof.Gen.LastIdeal.Skeleton
public import proofs.«01_k».proof.Proof.Gen.LastIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.LastIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_LastIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S2x1024x256 .f32 := Memref.whole cc0_scratch2
abbrev scM0_3 : Memref sig .tc .vmem S2x1024x256 .f32 := Memref.whole cc0_scratch3
abbrev scM0_4 : Memref sig .tc .vmem S2x256x1024 .f32 := Memref.whole cc0_scratch4
abbrev scM0_5 : Memref sig .tc .vmem S1024x2816 .bf16 := Memref.whole cc0_scratch5
/-- The scratch `arg7` the kernel carries between points, as a view: what it holds is stated through it. -/
abbrev VS0_0 : View sig .tc .vmem S1024x5632 .bf16 := scM0_0.view
/-- The operands left in HBM that the body copies into scratch itself, whole. -/
abbrev hbM0_0 : Memref sig .tc .hbm S4x2x1024x5632 .f32 := Memref.whole main_arg3
abbrev hbM0_1 : Memref sig .tc .hbm S4x2x2816x1024 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4))) := by
  rw [Pipeline.ΦD_eq, scopedRest0_eq, ownSems00_eq, hbmPts0_eq]; simp only [scM0_0, scM0_1, scM0_2, scM0_3, scM0_4, scM0_5, owns_whole]; try rfl

end Cert.LastIdeal.Gen

end
-- ==== Proof.LastIRunA.lean ====
module

public import proofs.«01_k».proof.Proof.LastIRuns

@[expose] public section

-- membership in a rectangle of production extents (`View.cover_of_tiled`): the elaborator's structural look
-- recurses once per coordinate of the long axes
set_option maxRecDepth 16384

noncomputable section

namespace Cert.LastIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- (the run's proof term is large)
set_option maxHeartbeats 8000000 in set_option sl_exec.dmaWindow true in set_option sl_exec.dmaWindowSet true in
/-- The first point's run: what the stores leave in the output's staging buffer and in the two kept weight buffers, as pieces,
    with the proof that the body, started on whole buffers, ends with those pieces written, the other scratch at some contents,
    the operands and the semaphore cells as they were. -/
noncomputable def runA (c : Dev nD) (i : grid0.Coords) (arg1 : Memref sig .tc .vmem S1024x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x5632 .bf16) (harg7 : arg7.IsWhole) (arg8 : Memref sig .tc .vmem S2816x1024 .bf16) (harg8 : arg8.IsWhole)
    (arg9 : Memref sig .tc .vmem S2x1024x256 .f32) (harg9 : arg9.IsWhole) (arg10 : Memref sig .tc .vmem S2x1024x256 .f32) (harg10 : arg10.IsWhole) (arg11 : Memref sig .tc .vmem S2x256x1024 .f32) (harg11 : arg11.IsWhole) (arg12 : Memref sig .tc .vmem S1024x2816 .bf16) (harg12 : arg12.IsWhole) (hc0 : cond0_0 i) (hc1 : ¬cond0_1 i)
    (x0 : Vec F S1024x1024 .f32) (x1 : Vec F S1x1024 .f32) (x2 : Vec F S1x1024 .f32) (fh0 : HbBuf0 (F := F) c hbM0_0) (fh1 : HbBuf0 (F := F) c hbM0_1)
    (fs2 : HbBuf0 (F := F) c arg9) (fs3 : HbBuf0 (F := F) c arg10) (fs4 : HbBuf0 (F := F) c arg11) :
    { L : List (View.Piece (Elt F) S1024x1024 .f32) × List (View.Piece (Elt F) S1024x5632 .bf16) × List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (arg9.view.loc (c : Thread nD τ) ↦[arg9.view.set]{fullShare} fs2) ∗ (arg10.view.loc (c : Thread nD τ) ↦[arg10.view.set]{fullShare} fs3) ∗ (arg11.view.loc (c : Thread nD τ) ↦[arg11.view.set]{fullShare} fs4) ∗ (∃ d, owns (c : Thread nD τ) arg12 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ f, arg8.view.loc (c : Thread nD τ) ↦[arg8.view.set]{fullShare} arg8.view.writes (Elt F) f L.2.2) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_final i arg1 harg1 arg2 harg2 (Memref.whole main_arg3) (Memref.isWhole_whole _) (Memref.whole main_arg4) (Memref.isWhole_whole _) arg5 harg5 arg6 harg6 arg7 harg7 arg8 harg8 arg9 harg9 arg10 harg10 arg11 harg11 arg12 harg12 cc0_scratch6) K } := by
  refine ⟨⟨?_, ?_, ?_⟩, fun W K => ?run⟩
  case run =>
    simp only [cc0_ffn_final_eq_skeleton]; unfold cc0_ffn_final_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HS2, HS3, HS4, ⟨%ds5, %fs5, -, HS5⟩, Hq0, Hq1, Hq2, Hq3, Hq4, Hq5, Hh0, Hh1, HW, Hk⟩
    obtain rfl := harg1.eq_unread hf0; obtain rfl := harg2.eq_unread hf1; obtain rfl := harg5.eq_unread hf2
    set_option sl_exec.squeezeSlice true in sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.LastIdeal.Gen

end
-- ==== Proof.LastIRunB.lean ====
module

public import proofs.«01_k».proof.Proof.LastIRunA

@[expose] public section

-- membership in a rectangle of production extents (`View.cover_of_tiled`): the elaborator's structural look
-- recurses once per coordinate of the long axes
set_option maxRecDepth 16384

noncomputable section

namespace Cert.LastIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A later point's run: the two kept weight buffers are read and stay as they are; what the store leaves in the output's staging
    buffer, as pieces. -/
noncomputable def runB (c : Dev nD) (i : grid0.Coords) (arg1 : Memref sig .tc .vmem S1024x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x5632 .bf16) (harg7 : arg7.IsWhole) (arg8 : Memref sig .tc .vmem S2816x1024 .bf16) (harg8 : arg8.IsWhole)
    (arg9 : Memref sig .tc .vmem S2x1024x256 .f32) (harg9 : arg9.IsWhole) (arg10 : Memref sig .tc .vmem S2x1024x256 .f32) (harg10 : arg10.IsWhole) (arg11 : Memref sig .tc .vmem S2x256x1024 .f32) (harg11 : arg11.IsWhole) (arg12 : Memref sig .tc .vmem S1024x2816 .bf16) (harg12 : arg12.IsWhole) (hc0 : ¬cond0_0 i) (hc1 : cond0_1 i)
    (x0 : Vec F S1024x1024 .f32) (x1 : Vec F S1x1024 .f32) (x2 : Vec F S1x1024 .f32) (xs0 : Vec F S1024x5632 .bf16) (xs1 : Vec F S2816x1024 .bf16) (fh0 : HbBuf0 (F := F) c hbM0_0) (fh1 : HbBuf0 (F := F) c hbM0_1) :
    { L : List (View.Piece (Elt F) S1024x1024 .f32) //
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ (∃ f, arg6.view.loc (c : Thread nD τ) ↦[arg6.view.set]{fullShare} arg6.view.writes (Elt F) f L) ∗ owns (c : Thread nD τ) arg7 fullShare xs0 ∗ owns (c : Thread nD τ) arg8 fullShare xs1 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_final i arg1 harg1 arg2 harg2 (Memref.whole main_arg3) (Memref.isWhole_whole _) (Memref.whole main_arg4) (Memref.isWhole_whole _) arg5 harg5 arg6 harg6 arg7 harg7 arg8 harg8 arg9 harg9 arg10 harg10 arg11 harg11 arg12 harg12 cc0_scratch6) K } := by
  refine ⟨?_, fun W K => ?run⟩
  case run =>
    simp only [cc0_ffn_final_eq_skeleton]; unfold cc0_ffn_final_skel
    simp only [k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hh0, Hh1, HW, Hk⟩
    obtain rfl := harg1.eq_unread hf0; obtain rfl := harg2.eq_unread hf1; obtain rfl := harg5.eq_unread hf2
    obtain rfl := harg7.eq_unread hfs0; obtain rfl := harg8.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    iexists _; iexact HW

end Cert.LastIdeal.Gen

end
-- ==== Proof.LastWeights.lean ====
module

public import proofs.«01_k».proof.Proof.LastIRunA
public import proofs.«01_k».proof.Proof.LastIRunB
public import proofs.«01_k».proof.Proof.FfnSlots
public import proofs.«01_k».proof.Proof.FfnRow
public import proofs.«01_k».proof.Proof.FfnWeights

@[expose] public section

set_option maxRecDepth 16384

noncomputable section

open Idealize.ShloMosaic Idealize.ShloMosaic.TcCoe Cert.Rows
open Cert.LastIdeal Cert.LastIdeal.Gen

/-! # What the weights and the hidden channels are when they are read -/

namespace Cert.LastKernel

/-- The first weight matrix: layer 0's first one, out of the stack. -/
def wIn (fh0 : (⟨S4x2x1024x5632, .f32⟩ : BufTy).Contents (Elt Ideal)) : S1024x5632.Idx → EReal := fun i => fh0 (ix4 3 1 (i 0) (i 1))

/-- The second weight matrix. -/
def wOut (fh1 : (⟨S4x2x2816x1024, .f32⟩ : BufTy).Contents (Elt Ideal)) : S2816x1024.Idx → EReal := fun i => fh1 (ix4 3 1 (i 0) (i 1))

/-- The hidden channels of a block of rows `x0` under the gains `x1` and the first weight matrix `w`. -/
def hid (x0 : Vec Ideal S1024x1024 .f32) (x1 : Vec Ideal S1x1024 .f32) (w : S1024x5632.Idx → EReal) : S1024x2816.Idx → EReal := fun i =>
  FfnRow.hidden (fun k => x0 (ix2 (i 0) k)) (fun k => x1 (ix2 0 k)) (fun k j => w (ix2 k j)) (i 1)

/-- The result of a block of rows: each row's feed-forward result, normed with the closing gains `x2`. -/
def out (x0 : Vec Ideal S1024x1024 .f32) (x1 x2 : Vec Ideal S1x1024 .f32) (w : S1024x5632.Idx → EReal) (v : S2816x1024.Idx → EReal) : S1024x1024.Idx → EReal := fun i =>
  rowNorm (FfnRow.row (fun k => x0 (ix2 (i 0) k)) (fun k => x1 (ix2 0 k)) (fun k j => w (ix2 k j)) (fun f j => v (ix2 f j))) (fun k => x2 (ix2 0 k)) (i 1)

/-! ## The payloads -/

theorem pay6_apply (v : Vec Ideal S1x1024x256 .f32) (k : Fin 1024) (j : Fin 256) : k0_pay6 (F := Ideal) v (ix2 k j) = v (ix3 0 k j) := by
  unfold k0_pay6
  pointwise []

theorem pay8_apply (v : Vec Ideal S1x256x1024 .f32) (k : Fin 256) (j : Fin 1024) : k0_pay8 (F := Ideal) v (ix2 k j) = v (ix3 0 k j) := by
  unfold k0_pay8
  pointwise []

theorem pay5_apply (x : Vec Ideal S1024x1024 .f32) (g : Vec Ideal S1x1024 .f32) (k j : Fin 1024) :
    k0_pay5 (F := Ideal) x g (ix2 k j) = rowNorm (fun l => x (ix2 k l)) (fun l => g (ix2 0 l)) j := by
  unfold k0_pay5
  pointwise [k0_pay4]
  rfl

theorem pay9_apply (n : Vec Ideal S1024x1024 .bf16) (g u : Vec Ideal S1024x256 .bf16) (k : Fin 1024) (j : Fin 256) :
    k0_pay9 (F := Ideal) n g u (ix2 k j) = (∑ x : Fin 1024, n (ix2 k x) * g (ix2 x j)) * Ideal.logistic (∑ x : Fin 1024, n (ix2 k x) * g (ix2 x j))
      * ∑ x : Fin 1024, n (ix2 k x) * u (ix2 x j) := by
  unfold k0_pay9
  pointwise []

theorem pay56_apply (x : Vec Ideal S1024x1024 .f32) (h : Vec Ideal S1024x2816 .bf16) (v : Vec Ideal S2816x1024 .bf16) (k j : Fin 1024) :
    k0_pay56 (F := Ideal) (k0_pay4 x) h v (ix2 k j) = x (ix2 k j) + Ideal.ofBits .f32 0x3F000000#32 * ∑ f : Fin 2816, h (ix2 k f) * v (ix2 f j) := by
  unfold k0_pay56
  pointwise [k0_pay4]

theorem pay1_apply (y : Vec Ideal S1024x1024 .f32) (g : Vec Ideal S1x1024 .f32) (k j : Fin 1024) :
    k0_pay1 (F := Ideal) y g (ix2 k j) = rowNorm (fun l => y (ix2 k l)) (fun l => g (ix2 0 l)) j := by
  unfold k0_pay1
  pointwise []
  rfl

/-- The later points' last step is the first point's two. -/
theorem pay3_eq (x : FVec Ideal S1024x1024 .f32) (h : Vec Ideal S1024x2816 .bf16) (v : Vec Ideal S2816x1024 .bf16) (g : Vec Ideal S1x1024 .f32) :
    k0_pay3 (F := Ideal) x h v g = k0_pay1 (k0_pay56 x h v) (k0_pay57 g) := rfl

/-! ## Blocks of the weights in HBM -/

theorem in_block (c : Dev nD) (fh0 : HbBuf0 (F := Ideal) c hbM0_0) (o : ℕ) (ho : o + 256 ≤ 5632)
    (h : ∀ a, (![3, 1, 0, o] : Fin 4 → ℕ) a + S1x1x1024x256.size a ≤ S4x2x1024x5632.size a) (hn) (k : Fin 1024) (j : Fin 256) :
    (((Memref.whole main_arg3).view.slice (Rect.unit (s := S4x2x1024x5632) (![3, 1, 0, o] : Fin 4 → ℕ) S1x1x1024x256.size h)).reshape S1024x256 hn).read (Elt Ideal) fh0 (ix2 k j)
      = fh0 (ix4 3 1 k (⟨o + j.val, by omega⟩ : Fin 5632)) := by
  refine (FfnSlots.read_block (Memref.whole main_arg3).view 0 o h hn fh0 k j).trans (congrArg fh0 ?_)
  funext a
  match a with
  | ⟨0, _⟩ => exact Fin.ext (by show 3 + 1 * 0 = 3; rfl)
  | ⟨1, _⟩ => exact Fin.ext (by show 1 + 1 * 0 = 1; rfl)
  | ⟨2, _⟩ => exact Fin.ext (by show 0 + 1 * k.val = k.val; omega)
  | ⟨3, _⟩ => exact Fin.ext (by show o + 1 * j.val = o + j.val; omega)

theorem out_block (c : Dev nD) (fh1 : HbBuf0 (F := Ideal) c hbM0_1) (o : ℕ) (ho : o + 256 ≤ 2816)
    (h : ∀ a, (![3, 1, o, 0] : Fin 4 → ℕ) a + S1x1x256x1024.size a ≤ S4x2x2816x1024.size a) (hn) (k : Fin 256) (j : Fin 1024) :
    (((Memref.whole main_arg4).view.slice (Rect.unit (s := S4x2x2816x1024) (![3, 1, o, 0] : Fin 4 → ℕ) S1x1x256x1024.size h)).reshape S256x1024 hn).read (Elt Ideal) fh1 (ix2 k j)
      = fh1 (ix4 3 1 (⟨o + k.val, by omega⟩ : Fin 2816) j) := by
  refine (FfnSlots.read_block (Memref.whole main_arg4).view o 0 h hn fh1 k j).trans (congrArg fh1 ?_)
  funext a
  match a with
  | ⟨0, _⟩ => exact Fin.ext (by show 3 + 1 * 0 = 3; rfl)
  | ⟨1, _⟩ => exact Fin.ext (by show 1 + 1 * 0 = 1; rfl)
  | ⟨2, _⟩ => exact Fin.ext (by show o + 1 * k.val = o + k.val; omega)
  | ⟨3, _⟩ => exact Fin.ext (by show 0 + 1 * j.val = j.val; omega)

/-! ## Pieces that agree with the whole -/

theorem in_piece (fh0 : (⟨S4x2x1024x5632, .f32⟩ : BufTy).Contents (Elt Ideal)) (o : ℕ) (ho : o + 256 ≤ 5632)
    (h : ∀ a, (![0, o] : Fin 2 → ℕ) a + S1024x256.size a ≤ S1024x5632.size a) (v : Vec Ideal S1x1024x256 .f32)
    (hv : ∀ (k : Fin 1024) (j : Fin 256), v (ix3 0 k j) = fh0 (ix4 3 1 k (⟨o + j.val, by omega⟩ : Fin 5632))) (x : S1024x256.Idx) :
    k0_pay6 (F := Ideal) v x = wIn fh0 ((Rect.unit (s := S1024x5632) (![0, o] : Fin 2 → ℕ) S1024x256.size h).emb x) := by
  obtain ⟨k, j, rfl⟩ : ∃ (k : Fin 1024) (j : Fin 256), x = ix2 k j := ⟨x 0, x 1, eq_ix2 (n0 := 1024) (n1 := 256) x⟩
  rw [pay6_apply, hv]
  refine congrArg₂ (fun (a : Fin 1024) (b : Fin 5632) => fh0 (ix4 3 1 a b)) (Fin.ext ?_) (Fin.ext ?_)
  · show k.val = 0 + 1 * k.val; omega
  · show o + j.val = o + 1 * j.val; omega

theorem out_piece (fh1 : (⟨S4x2x2816x1024, .f32⟩ : BufTy).Contents (Elt Ideal)) (o : ℕ) (ho : o + 256 ≤ 2816)
    (h : ∀ a, (![o, 0] : Fin 2 → ℕ) a + S256x1024.size a ≤ S2816x1024.size a) (v : Vec Ideal S1x256x1024 .f32)
    (hv : ∀ (k : Fin 256) (j : Fin 1024), v (ix3 0 k j) = fh1 (ix4 3 1 (⟨o + k.val, by omega⟩ : Fin 2816) j)) (x : S256x1024.Idx) :
    k0_pay8 (F := Ideal) v x = wOut fh1 ((Rect.unit (s := S2816x1024) (![o, 0] : Fin 2 → ℕ) S256x1024.size h).emb x) := by
  obtain ⟨k, j, rfl⟩ : ∃ (k : Fin 256) (j : Fin 1024), x = ix2 k j := ⟨x 0, x 1, eq_ix2 (n0 := 256) (n1 := 1024) x⟩
  rw [pay8_apply, hv]
  refine congrArg₂ (fun (a : Fin 2816) (b : Fin 1024) => fh1 (ix4 3 1 a b)) (Fin.ext ?_) (Fin.ext ?_)
  · show o + k.val = o + 1 * k.val; omega
  · show j.val = 0 + 1 * j.val; omega

theorem hid_piece (x0 : Vec Ideal S1024x1024 .f32) (x1 : Vec Ideal S1x1024 .f32) (w : S1024x5632.Idx → EReal) (o o' : ℕ) (ho : o + 256 ≤ 2816) (e : o' = 2816 + o)
    (h : ∀ a, (![0, o] : Fin 2 → ℕ) a + S1024x256.size a ≤ S1024x2816.size a)
    (h1 : ∀ a, (![0, o] : Fin 2 → ℕ) a + S1024x256.size a ≤ S1024x5632.size a)
    (h2 : ∀ a, (![0, o'] : Fin 2 → ℕ) a + S1024x256.size a ≤ S1024x5632.size a) (g u : Vec Ideal S1024x256 .bf16)
    (hg : ∀ x, g x = w ((Rect.unit (s := S1024x5632) (![0, o] : Fin 2 → ℕ) S1024x256.size h1).emb x))
    (hu : ∀ x, u x = w ((Rect.unit (s := S1024x5632) (![0, o'] : Fin 2 → ℕ) S1024x256.size h2).emb x)) (x : S1024x256.Idx) :
    k0_pay9 (F := Ideal) (k0_pay5 x0 x1) g u x = hid x0 x1 w ((Rect.unit (s := S1024x2816) (![0, o] : Fin 2 → ℕ) S1024x256.size h).emb x) := by
  obtain ⟨r, j, rfl⟩ : ∃ (r : Fin 1024) (j : Fin 256), x = ix2 r j := ⟨x 0, x 1, eq_ix2 (n0 := 1024) (n1 := 256) x⟩
  have hg' : ∀ k : Fin 1024, g (ix2 k j) = w (ix2 k (⟨o + j.val, by omega⟩ : Fin 5632)) := fun k => (hg _).trans (congrArg w (by
    funext a
    match a with
    | ⟨0, _⟩ => exact Fin.ext (by show 0 + 1 * k.val = k.val; omega)
    | ⟨1, _⟩ => exact Fin.ext (by show o + 1 * j.val = o + j.val; omega)))
  have hu' : ∀ k : Fin 1024, u (ix2 k j) = w (ix2 k (⟨2816 + (o + j.val), by omega⟩ : Fin 5632)) := fun k => (hu _).trans (congrArg w (by
    funext a
    match a with
    | ⟨0, _⟩ => exact Fin.ext (by show 0 + 1 * k.val = k.val; omega)
    | ⟨1, _⟩ => exact Fin.ext (by show o' + 1 * j.val = 2816 + (o + j.val); omega)))
  rw [pay9_apply]
  simp only [pay5_apply, hg', hu']
  show FfnRow.hidden (fun k => x0 (ix2 r k)) (fun k => x1 (ix2 0 k)) (fun k j => w (ix2 k j)) ⟨o + j.val, by omega⟩ = _
  refine congrArg₂ (fun (a : Fin 1024) (b : Fin 2816) => FfnRow.hidden (fun k => x0 (ix2 a k)) (fun k => x1 (ix2 0 k)) (fun k j => w (ix2 k j)) b) (Fin.ext ?_) (Fin.ext ?_)
  · show r.val = 0 + 1 * r.val; omega
  · show o + j.val = o + 1 * j.val; omega

theorem out_piece_last (x0 : Vec Ideal S1024x1024 .f32) (x1 x2 : Vec Ideal S1x1024 .f32) (w : S1024x5632.Idx → EReal) (v : S2816x1024.Idx → EReal)
    (h) (hh : Vec Ideal S1024x2816 .bf16) (vv : Vec Ideal S2816x1024 .bf16) (gg : Vec Ideal S1x1024 .f32) (e1 : ∀ x, hh x = hid x0 x1 w x) (e2 : ∀ x, vv x = v x)
    (e3 : gg = x2) (x : S1024x1024.Idx) :
    k0_pay1 (F := Ideal) (k0_pay56 (k0_pay4 x0) hh vv) (k0_pay57 gg) x
      = out x0 x1 x2 w v ((Rect.unit (s := S1024x1024) (![0, 0] : Fin 2 → ℕ) S1024x1024.size h).emb x) := by
  rw [show (Rect.unit (s := S1024x1024) (![0, 0] : Fin 2 → ℕ) S1024x1024.size h).emb x = x from FfnKernel.emb_origin h x, e3]
  obtain ⟨r, j, rfl⟩ : ∃ (r j : Fin 1024), x = ix2 r j := ⟨x 0, x 1, eq_ix2 (n0 := 1024) (n1 := 1024) x⟩
  rw [pay1_apply]
  simp only [pay56_apply, e1, e2]
  have e : ∀ l : Fin 1024, k0_pay57 (F := Ideal) x2 (ix2 0 l) = x2 (ix2 0 l) := fun l => by
    unfold k0_pay57
    pointwise []
  simp only [e]
  rfl

/-- Pieces that agree with `G` are read as `G` under a rectangle that is one of theirs. -/
theorem cov_piece {s : Shape} {e : EltTy} (v : View sig .tc .vmem s e) (G : s.Idx → Elt Ideal e) (L : List (View.Piece (Elt Ideal) s e))
    (hL : ∀ p ∈ L, ∀ x : p.1.shape.Idx, p.2 x = G (p.1.emb x)) (r : Rect s) (hr : ∃ w, (⟨r, w⟩ : View.Piece (Elt Ideal) s e) ∈ L) (x : r.shape.Idx) :
    v.readCov L r.toLoadRect x = G (r.emb x) := by
  obtain ⟨w, hw⟩ := hr
  exact View.read_writes_apply_of_pieces v v.junk G L hL (r.emb x) ⟨_, hw, r.idx_mem x⟩

section
variable (c : Dev nD) (fh0 : HbBuf0 (F := Ideal) c hbM0_0) (fh1 : HbBuf0 (F := Ideal) c hbM0_1)
  (arg9 : Memref sig .tc .vmem S2x1024x256 .f32) (fs2 : HbBuf0 (F := Ideal) c arg9)
  (arg10 : Memref sig .tc .vmem S2x1024x256 .f32) (fs3 : HbBuf0 (F := Ideal) c arg10)
  (arg11 : Memref sig .tc .vmem S2x256x1024 .f32) (fs4 : HbBuf0 (F := Ideal) c arg11)

/-! ## The staged blocks, at the places they are read -/

theorem gate0 (k : Fin 1024) (j : Fin 256) : runA.sl.v77 (F := Ideal) c arg9 fh0 fs2 (ix3 0 k j) = fh0 (ix4 3 1 k (⟨0 + j.val, by omega⟩ : Fin 5632)) :=
  (FfnSlots.read_under arg9.view (s := 0) (s' := 1) (by decide) _ _ _ _ _ _ _ k j).trans (in_block c fh0 0 (by omega) _ _ k j)
theorem up0 (k : Fin 1024) (j : Fin 256) : runA.sl.v83 (F := Ideal) c arg10 fh0 fs3 (ix3 0 k j) = fh0 (ix4 3 1 k (⟨2816 + j.val, by omega⟩ : Fin 5632)) :=
  (FfnSlots.read_under arg10.view (s := 0) (s' := 1) (by decide) _ _ _ _ _ _ _ k j).trans (in_block c fh0 2816 (by omega) _ _ k j)
theorem down0 (k : Fin 256) (j : Fin 1024) : runA.sl.v89 (F := Ideal) c arg11 fh1 fs4 (ix3 0 k j) = fh1 (ix4 3 1 (⟨0 + k.val, by omega⟩ : Fin 2816) j) :=
  (FfnSlots.read_under arg11.view (s := 0) (s' := 1) (by decide) _ _ _ _ _ _ _ k j).trans (out_block c fh1 0 (by omega) _ _ k j)
theorem gate1 (k : Fin 1024) (j : Fin 256) : runA.sl.v142 (F := Ideal) c arg9 fh0 fs2 (ix3 0 k j) = fh0 (ix4 3 1 k (⟨256 + j.val, by omega⟩ : Fin 5632)) :=
  (FfnSlots.read_under arg9.view (s := 1) (s' := 0) (by decide) _ _ _ _ _ _ _ k j).trans (in_block c fh0 256 (by omega) _ _ k j)
theorem up1 (k : Fin 1024) (j : Fin 256) : runA.sl.v148 (F := Ideal) c arg10 fh0 fs3 (ix3 0 k j) = fh0 (ix4 3 1 k (⟨3072 + j.val, by omega⟩ : Fin 5632)) :=
  (FfnSlots.read_under arg10.view (s := 1) (s' := 0) (by decide) _ _ _ _ _ _ _ k j).trans (in_block c fh0 3072 (by omega) _ _ k j)
theorem down1 (k : Fin 256) (j : Fin 1024) : runA.sl.v154 (F := Ideal) c arg11 fh1 fs4 (ix3 0 k j) = fh1 (ix4 3 1 (⟨256 + k.val, by omega⟩ : Fin 2816) j) :=
  (FfnSlots.read_under arg11.view (s := 1) (s' := 0) (by decide) _ _ _ _ _ _ _ k j).trans (out_block c fh1 256 (by omega) _ _ k j)
theorem gate2 (k : Fin 1024) (j : Fin 256) : runA.sl.v207 (F := Ideal) c arg9 fh0 fs2 (ix3 0 k j) = fh0 (ix4 3 1 k (⟨512 + j.val, by omega⟩ : Fin 5632)) :=
  (FfnSlots.read_under arg9.view (s := 0) (s' := 1) (by decide) _ _ _ _ _ _ _ k j).trans (in_block c fh0 512 (by omega) _ _ k j)
theorem up2 (k : Fin 1024) (j : Fin 256) : runA.sl.v213 (F := Ideal) c arg10 fh0 fs3 (ix3 0 k j) = fh0 (ix4 3 1 k (⟨3328 + j.val, by omega⟩ : Fin 5632)) :=
  (FfnSlots.read_under arg10.view (s := 0) (s' := 1) (by decide) _ _ _ _ _ _ _ k j).trans (in_block c fh0 3328 (by omega) _ _ k j)
theorem down2 (k : Fin 256) (j : Fin 1024) : runA.sl.v219 (F := Ideal) c arg11 fh1 fs4 (ix3 0 k j) = fh1 (ix4 3 1 (⟨512 + k.val, by omega⟩ : Fin 2816) j) :=
  (FfnSlots.read_under arg11.view (s := 0) (s' := 1) (by decide) _ _ _ _ _ _ _ k j).trans (out_block c fh1 512 (by omega) _ _ k j)
theorem gate3 (k : Fin 1024) (j : Fin 256) : runA.sl.v272 (F := Ideal) c arg9 fh0 fs2 (ix3 0 k j) = fh0 (ix4 3 1 k (⟨768 + j.val, by omega⟩ : Fin 5632)) :=
  (FfnSlots.read_under arg9.view (s := 1) (s' := 0) (by decide) _ _ _ _ _ _ _ k j).trans (in_block c fh0 768 (by omega) _ _ k j)
theorem up3 (k : Fin 1024) (j : Fin 256) : runA.sl.v278 (F := Ideal) c arg10 fh0 fs3 (ix3 0 k j) = fh0 (ix4 3 1 k (⟨3584 + j.val, by omega⟩ : Fin 5632)) :=
  (FfnSlots.read_under arg10.view (s := 1) (s' := 0) (by decide) _ _ _ _ _ _ _ k j).trans (in_block c fh0 3584 (by omega) _ _ k j)
theorem down3 (k : Fin 256) (j : Fin 1024) : runA.sl.v284 (F := Ideal) c arg11 fh1 fs4 (ix3 0 k j) = fh1 (ix4 3 1 (⟨768 + k.val, by omega⟩ : Fin 2816) j) :=
  (FfnSlots.read_under arg11.view (s := 1) (s' := 0) (by decide) _ _ _ _ _ _ _ k j).trans (out_block c fh1 768 (by omega) _ _ k j)
theorem gate4 (k : Fin 1024) (j : Fin 256) : runA.sl.v (F := Ideal) c arg9 fh0 fs2 (ix3 0 k j) = fh0 (ix4 3 1 k (⟨1024 + j.val, by omega⟩ : Fin 5632)) :=
  (FfnSlots.read_under arg9.view (s := 0) (s' := 1) (by decide) _ _ _ _ _ _ _ k j).trans (in_block c fh0 1024 (by omega) _ _ k j)
theorem up4 (k : Fin 1024) (j : Fin 256) : runA.sl.v343 (F := Ideal) c arg10 fh0 fs3 (ix3 0 k j) = fh0 (ix4 3 1 k (⟨3840 + j.val, by omega⟩ : Fin 5632)) :=
  (FfnSlots.read_under arg10.view (s := 0) (s' := 1) (by decide) _ _ _ _ _ _ _ k j).trans (in_block c fh0 3840 (by omega) _ _ k j)
theorem down4 (k : Fin 256) (j : Fin 1024) : runA.sl.v349 (F := Ideal) c arg11 fh1 fs4 (ix3 0 k j) = fh1 (ix4 3 1 (⟨1024 + k.val, by omega⟩ : Fin 2816) j) :=
  (FfnSlots.read_under arg11.view (s := 0) (s' := 1) (by decide) _ _ _ _ _ _ _ k j).trans (out_block c fh1 1024 (by omega) _ _ k j)
theorem gate5 (k : Fin 1024) (j : Fin 256) : runA.sl.v402 (F := Ideal) c arg9 fh0 fs2 (ix3 0 k j) = fh0 (ix4 3 1 k (⟨1280 + j.val, by omega⟩ : Fin 5632)) :=
  (FfnSlots.read_under arg9.view (s := 1) (s' := 0) (by decide) _ _ _ _ _ _ _ k j).trans (in_block c fh0 1280 (by omega) _ _ k j)
theorem up5 (k : Fin 1024) (j : Fin 256) : runA.sl.v408 (F := Ideal) c arg10 fh0 fs3 (ix3 0 k j) = fh0 (ix4 3 1 k (⟨4096 + j.val, by omega⟩ : Fin 5632)) :=
  (FfnSlots.read_under arg10.view (s := 1) (s' := 0) (by decide) _ _ _ _ _ _ _ k j).trans (in_block c fh0 4096 (by omega) _ _ k j)
theorem down5 (k : Fin 256) (j : Fin 1024) : runA.sl.v414 (F := Ideal) c arg11 fh1 fs4 (ix3 0 k j) = fh1 (ix4 3 1 (⟨1280 + k.val, by omega⟩ : Fin 2816) j) :=
  (FfnSlots.read_under arg11.view (s := 1) (s' := 0) (by decide) _ _ _ _ _ _ _ k j).trans (out_block c fh1 1280 (by omega) _ _ k j)
theorem gate6 (k : Fin 1024) (j : Fin 256) : runA.sl.v467 (F := Ideal) c arg9 fh0 fs2 (ix3 0 k j) = fh0 (ix4 3 1 k (⟨1536 + j.val, by omega⟩ : Fin 5632)) :=
  (FfnSlots.read_under arg9.view (s := 0) (s' := 1) (by decide) _ _ _ _ _ _ _ k j).trans (in_block c fh0 1536 (by omega) _ _ k j)
theorem up6 (k : Fin 1024) (j : Fin 256) : runA.sl.v473 (F := Ideal) c arg10 fh0 fs3 (ix3 0 k j) = fh0 (ix4 3 1 k (⟨4352 + j.val, by omega⟩ : Fin 5632)) :=
  (FfnSlots.read_under arg10.view (s := 0) (s' := 1) (by decide) _ _ _ _ _ _ _ k j).trans (in_block c fh0 4352 (by omega) _ _ k j)
theorem down6 (k : Fin 256) (j : Fin 1024) : runA.sl.v479 (F := Ideal) c arg11 fh1 fs4 (ix3 0 k j) = fh1 (ix4 3 1 (⟨1536 + k.val, by omega⟩ : Fin 2816) j) :=
  (FfnSlots.read_under arg11.view (s := 0) (s' := 1) (by decide) _ _ _ _ _ _ _ k j).trans (out_block c fh1 1536 (by omega) _ _ k j)
theorem gate7 (k : Fin 1024) (j : Fin 256) : runA.sl.v532 (F := Ideal) c arg9 fh0 fs2 (ix3 0 k j) = fh0 (ix4 3 1 k (⟨1792 + j.val, by omega⟩ : Fin 5632)) :=
  (FfnSlots.read_under arg9.view (s := 1) (s' := 0) (by decide) _ _ _ _ _ _ _ k j).trans (in_block c fh0 1792 (by omega) _ _ k j)
theorem up7 (k : Fin 1024) (j : Fin 256) : runA.sl.v538 (F := Ideal) c arg10 fh0 fs3 (ix3 0 k j) = fh0 (ix4 3 1 k (⟨4608 + j.val, by omega⟩ : Fin 5632)) :=
  (FfnSlots.read_under arg10.view (s := 1) (s' := 0) (by decide) _ _ _ _ _ _ _ k j).trans (in_block c fh0 4608 (by omega) _ _ k j)
theorem down7 (k : Fin 256) (j : Fin 1024) : runA.sl.v_1 (F := Ideal) c arg11 fh1 fs4 (ix3 0 k j) = fh1 (ix4 3 1 (⟨1792 + k.val, by omega⟩ : Fin 2816) j) :=
  (FfnSlots.read_under arg11.view (s := 1) (s' := 0) (by decide) _ _ _ _ _ _ _ k j).trans (out_block c fh1 1792 (by omega) _ _ k j)
theorem gate8 (k : Fin 1024) (j : Fin 256) : runA.sl.v597 (F := Ideal) c arg9 fh0 fs2 (ix3 0 k j) = fh0 (ix4 3 1 k (⟨2048 + j.val, by omega⟩ : Fin 5632)) :=
  (FfnSlots.read_under arg9.view (s := 0) (s' := 1) (by decide) _ _ _ _ _ _ _ k j).trans (in_block c fh0 2048 (by omega) _ _ k j)
theorem up8 (k : Fin 1024) (j : Fin 256) : runA.sl.v603 (F := Ideal) c arg10 fh0 fs3 (ix3 0 k j) = fh0 (ix4 3 1 k (⟨4864 + j.val, by omega⟩ : Fin 5632)) :=
  (FfnSlots.read_under arg10.view (s := 0) (s' := 1) (by decide) _ _ _ _ _ _ _ k j).trans (in_block c fh0 4864 (by omega) _ _ k j)
theorem down8 (k : Fin 256) (j : Fin 1024) : runA.sl.v609 (F := Ideal) c arg11 fh1 fs4 (ix3 0 k j) = fh1 (ix4 3 1 (⟨2048 + k.val, by omega⟩ : Fin 2816) j) :=
  (FfnSlots.read_under arg11.view (s := 0) (s' := 1) (by decide) _ _ _ _ _ _ _ k j).trans (out_block c fh1 2048 (by omega) _ _ k j)
theorem gate9 (k : Fin 1024) (j : Fin 256) : runA.sl.v662 (F := Ideal) c arg9 fh0 fs2 (ix3 0 k j) = fh0 (ix4 3 1 k (⟨2304 + j.val, by omega⟩ : Fin 5632)) :=
  (FfnSlots.read_under arg9.view (s := 1) (s' := 0) (by decide) _ _ _ _ _ _ _ k j).trans (in_block c fh0 2304 (by omega) _ _ k j)
theorem up9 (k : Fin 1024) (j : Fin 256) : runA.sl.v668 (F := Ideal) c arg10 fh0 fs3 (ix3 0 k j) = fh0 (ix4 3 1 k (⟨5120 + j.val, by omega⟩ : Fin 5632)) :=
  (FfnSlots.read_under arg10.view (s := 1) (s' := 0) (by decide) _ _ _ _ _ _ _ k j).trans (in_block c fh0 5120 (by omega) _ _ k j)
theorem down9 (k : Fin 256) (j : Fin 1024) : runA.sl.v674 (F := Ideal) c arg11 fh1 fs4 (ix3 0 k j) = fh1 (ix4 3 1 (⟨2304 + k.val, by omega⟩ : Fin 2816) j) :=
  (FfnSlots.read_under arg11.view (s := 1) (s' := 0) (by decide) _ _ _ _ _ _ _ k j).trans (out_block c fh1 2304 (by omega) _ _ k j)
theorem gate10 (k : Fin 1024) (j : Fin 256) : runA.sl.v709 (F := Ideal) c arg9 fh0 fs2 (ix3 0 k j) = fh0 (ix4 3 1 k (⟨2560 + j.val, by omega⟩ : Fin 5632)) :=
  (FfnSlots.read_hit arg9.view 0 _ _ _ _ k j).trans (in_block c fh0 2560 (by omega) _ _ k j)
theorem up10 (k : Fin 1024) (j : Fin 256) : runA.sl.v715 (F := Ideal) c arg10 fh0 fs3 (ix3 0 k j) = fh0 (ix4 3 1 k (⟨5376 + j.val, by omega⟩ : Fin 5632)) :=
  (FfnSlots.read_hit arg10.view 0 _ _ _ _ k j).trans (in_block c fh0 5376 (by omega) _ _ k j)
theorem down10 (k : Fin 256) (j : Fin 1024) : runA.sl.v721 (F := Ideal) c arg11 fh1 fs4 (ix3 0 k j) = fh1 (ix4 3 1 (⟨2560 + k.val, by omega⟩ : Fin 2816) j) :=
  (FfnSlots.read_hit arg11.view 0 _ _ _ _ k j).trans (out_block c fh1 2560 (by omega) _ _ k j)

/-! ## The kept weights, chunk by chunk -/

theorem pay10_eq (v : Vec Ideal S1x1024x256 .f32) : k0_pay10 (F := Ideal) v = k0_pay6 v := rfl
theorem pay20_eq (v : Vec Ideal S1x1024x256 .f32) : k0_pay20 (F := Ideal) v = k0_pay6 v := rfl
theorem pay26_eq (v : Vec Ideal S1x1024x256 .f32) : k0_pay26 (F := Ideal) v = k0_pay6 v := rfl
theorem pay30_eq (v : Vec Ideal S1x1024x256 .f32) : k0_pay30 (F := Ideal) v = k0_pay6 v := rfl
theorem pay36_eq (v : Vec Ideal S1x1024x256 .f32) : k0_pay36 (F := Ideal) v = k0_pay6 v := rfl
theorem pay40_eq (v : Vec Ideal S1x1024x256 .f32) : k0_pay40 (F := Ideal) v = k0_pay6 v := rfl
theorem pay44_eq (v : Vec Ideal S1x1024x256 .f32) : k0_pay44 (F := Ideal) v = k0_pay6 v := rfl
theorem pay48_eq (v : Vec Ideal S1x1024x256 .f32) : k0_pay48 (F := Ideal) v = k0_pay6 v := rfl
theorem pay52_eq (v : Vec Ideal S1x1024x256 .f32) : k0_pay52 (F := Ideal) v = k0_pay6 v := rfl
theorem pay7_eq (v : Vec Ideal S1x1024x256 .f32) : k0_pay7 (F := Ideal) v = k0_pay6 v := rfl
theorem pay11_eq (v : Vec Ideal S1x1024x256 .f32) : k0_pay11 (F := Ideal) v = k0_pay6 v := rfl
theorem pay17_eq (v : Vec Ideal S1x1024x256 .f32) : k0_pay17 (F := Ideal) v = k0_pay6 v := rfl
theorem pay21_eq (v : Vec Ideal S1x1024x256 .f32) : k0_pay21 (F := Ideal) v = k0_pay6 v := rfl
theorem pay27_eq (v : Vec Ideal S1x1024x256 .f32) : k0_pay27 (F := Ideal) v = k0_pay6 v := rfl
theorem pay31_eq (v : Vec Ideal S1x1024x256 .f32) : k0_pay31 (F := Ideal) v = k0_pay6 v := rfl
theorem pay37_eq (v : Vec Ideal S1x1024x256 .f32) : k0_pay37 (F := Ideal) v = k0_pay6 v := rfl
theorem pay41_eq (v : Vec Ideal S1x1024x256 .f32) : k0_pay41 (F := Ideal) v = k0_pay6 v := rfl
theorem pay45_eq (v : Vec Ideal S1x1024x256 .f32) : k0_pay45 (F := Ideal) v = k0_pay6 v := rfl
theorem pay49_eq (v : Vec Ideal S1x1024x256 .f32) : k0_pay49 (F := Ideal) v = k0_pay6 v := rfl
theorem pay53_eq (v : Vec Ideal S1x1024x256 .f32) : k0_pay53 (F := Ideal) v = k0_pay6 v := rfl
theorem pay16_eq (v : Vec Ideal S1x1024x256 .f32) : k0_pay16 (F := Ideal) (k0_pay15 v) = k0_pay6 v := rfl
theorem pay12_eq (v : Vec Ideal S1x256x1024 .f32) : k0_pay12 (F := Ideal) v = k0_pay8 v := rfl
theorem pay18_eq (v : Vec Ideal S1x256x1024 .f32) : k0_pay18 (F := Ideal) v = k0_pay8 v := rfl
theorem pay22_eq (v : Vec Ideal S1x256x1024 .f32) : k0_pay22 (F := Ideal) v = k0_pay8 v := rfl
theorem pay28_eq (v : Vec Ideal S1x256x1024 .f32) : k0_pay28 (F := Ideal) v = k0_pay8 v := rfl
theorem pay38_eq (v : Vec Ideal S1x256x1024 .f32) : k0_pay38 (F := Ideal) v = k0_pay8 v := rfl
theorem pay42_eq (v : Vec Ideal S1x256x1024 .f32) : k0_pay42 (F := Ideal) v = k0_pay8 v := rfl
theorem pay46_eq (v : Vec Ideal S1x256x1024 .f32) : k0_pay46 (F := Ideal) v = k0_pay8 v := rfl
theorem pay50_eq (v : Vec Ideal S1x256x1024 .f32) : k0_pay50 (F := Ideal) v = k0_pay8 v := rfl
theorem pay54_eq (v : Vec Ideal S1x256x1024 .f32) : k0_pay54 (F := Ideal) v = k0_pay8 v := rfl
theorem pay33_eq (v : Vec Ideal S1x256x1024 .f32) : k0_pay33 (F := Ideal) (k0_pay32 v) = k0_pay8 v := rfl

theorem keptIn2 : ∀ p ∈ runA.sl.HS0_2 (F := Ideal) c arg9 arg10 fh0 fs2 fs3, ∀ x : p.1.shape.Idx, p.2 x = wIn fh0 (p.1.emb x) := by
  unfold runA.sl.HS0_2
  refine List.forall_mem_cons.2 ⟨fun x => ?_, List.forall_mem_cons.2 ⟨fun x => ?_, fun _ h => absurd h List.not_mem_nil⟩⟩
  · exact (congrFun (pay7_eq (runA.sl.v83 c arg10 fh0 fs3)) x).trans (in_piece fh0 2816 (by omega) inb_S1024x5632_S1024x256_0_2816 (runA.sl.v83 c arg10 fh0 fs3) (up0 c fh0 arg10 fs3) x)
  · exact in_piece fh0 0 (by omega) inb_S1024x5632_S1024x256_0_0 (runA.sl.v77 c arg9 fh0 fs2) (gate0 c fh0 arg9 fs2) x
theorem keptIn4 : ∀ p ∈ runA.sl.HS0_4 (F := Ideal) c arg9 arg10 fh0 fs2 fs3, ∀ x : p.1.shape.Idx, p.2 x = wIn fh0 (p.1.emb x) := by
  unfold runA.sl.HS0_4
  refine List.forall_mem_cons.2 ⟨fun x => ?_, List.forall_mem_cons.2 ⟨fun x => ?_, keptIn2 c fh0 arg9 fs2 arg10 fs3⟩⟩
  · exact (congrFun (pay11_eq (runA.sl.v148 c arg10 fh0 fs3)) x).trans (in_piece fh0 3072 (by omega) inb_S1024x5632_S1024x256_0_3072 (runA.sl.v148 c arg10 fh0 fs3) (up1 c fh0 arg10 fs3) x)
  · exact (congrFun (pay10_eq (runA.sl.v142 c arg9 fh0 fs2)) x).trans (in_piece fh0 256 (by omega) inb_S1024x5632_S1024x256_0_256 (runA.sl.v142 c arg9 fh0 fs2) (gate1 c fh0 arg9 fs2) x)
theorem keptIn6 : ∀ p ∈ runA.sl.HS0_6 (F := Ideal) c arg9 arg10 fh0 fs2 fs3, ∀ x : p.1.shape.Idx, p.2 x = wIn fh0 (p.1.emb x) := by
  unfold runA.sl.HS0_6
  refine List.forall_mem_cons.2 ⟨fun x => ?_, List.forall_mem_cons.2 ⟨fun x => ?_, keptIn4 c fh0 arg9 fs2 arg10 fs3⟩⟩
  · exact (congrFun (pay17_eq (runA.sl.v213 c arg10 fh0 fs3)) x).trans (in_piece fh0 3328 (by omega) inb_S1024x5632_S1024x256_0_3328 (runA.sl.v213 c arg10 fh0 fs3) (up2 c fh0 arg10 fs3) x)
  · exact (congrFun (pay16_eq (runA.sl.v207 c arg9 fh0 fs2)) x).trans (in_piece fh0 512 (by omega) inb_S1024x5632_S1024x256_0_512 (runA.sl.v207 c arg9 fh0 fs2) (gate2 c fh0 arg9 fs2) x)
theorem keptIn8 : ∀ p ∈ runA.sl.HS0_8 (F := Ideal) c arg9 arg10 fh0 fs2 fs3, ∀ x : p.1.shape.Idx, p.2 x = wIn fh0 (p.1.emb x) := by
  unfold runA.sl.HS0_8
  refine List.forall_mem_cons.2 ⟨fun x => ?_, List.forall_mem_cons.2 ⟨fun x => ?_, keptIn6 c fh0 arg9 fs2 arg10 fs3⟩⟩
  · exact (congrFun (pay21_eq (runA.sl.v278 c arg10 fh0 fs3)) x).trans (in_piece fh0 3584 (by omega) inb_S1024x5632_S1024x256_0_3584 (runA.sl.v278 c arg10 fh0 fs3) (up3 c fh0 arg10 fs3) x)
  · exact (congrFun (pay20_eq (runA.sl.v272 c arg9 fh0 fs2)) x).trans (in_piece fh0 768 (by omega) inb_S1024x5632_S1024x256_0_768 (runA.sl.v272 c arg9 fh0 fs2) (gate3 c fh0 arg9 fs2) x)
theorem keptIn10 : ∀ p ∈ runA.sl.HS0_10 (F := Ideal) c arg9 arg10 fh0 fs2 fs3, ∀ x : p.1.shape.Idx, p.2 x = wIn fh0 (p.1.emb x) := by
  unfold runA.sl.HS0_10
  refine List.forall_mem_cons.2 ⟨fun x => ?_, List.forall_mem_cons.2 ⟨fun x => ?_, keptIn8 c fh0 arg9 fs2 arg10 fs3⟩⟩
  · exact (congrFun (pay27_eq (runA.sl.v343 c arg10 fh0 fs3)) x).trans (in_piece fh0 3840 (by omega) inb_S1024x5632_S1024x256_0_3840 (runA.sl.v343 c arg10 fh0 fs3) (up4 c fh0 arg10 fs3) x)
  · exact (congrFun (pay26_eq (runA.sl.v c arg9 fh0 fs2)) x).trans (in_piece fh0 1024 (by omega) inb_S1024x5632_S1024x256_0_1024 (runA.sl.v c arg9 fh0 fs2) (gate4 c fh0 arg9 fs2) x)
theorem keptIn12 : ∀ p ∈ runA.sl.HS0_12 (F := Ideal) c arg9 arg10 fh0 fs2 fs3, ∀ x : p.1.shape.Idx, p.2 x = wIn fh0 (p.1.emb x) := by
  unfold runA.sl.HS0_12
  refine List.forall_mem_cons.2 ⟨fun x => ?_, List.forall_mem_cons.2 ⟨fun x => ?_, keptIn10 c fh0 arg9 fs2 arg10 fs3⟩⟩
  · exact (congrFun (pay31_eq (runA.sl.v408 c arg10 fh0 fs3)) x).trans (in_piece fh0 4096 (by omega) inb_S1024x5632_S1024x256_0_4096 (runA.sl.v408 c arg10 fh0 fs3) (up5 c fh0 arg10 fs3) x)
  · exact (congrFun (pay30_eq (runA.sl.v402 c arg9 fh0 fs2)) x).trans (in_piece fh0 1280 (by omega) inb_S1024x5632_S1024x256_0_1280 (runA.sl.v402 c arg9 fh0 fs2) (gate5 c fh0 arg9 fs2) x)
theorem keptIn14 : ∀ p ∈ runA.sl.HS0_14 (F := Ideal) c arg9 arg10 fh0 fs2 fs3, ∀ x : p.1.shape.Idx, p.2 x = wIn fh0 (p.1.emb x) := by
  unfold runA.sl.HS0_14
  refine List.forall_mem_cons.2 ⟨fun x => ?_, List.forall_mem_cons.2 ⟨fun x => ?_, keptIn12 c fh0 arg9 fs2 arg10 fs3⟩⟩
  · exact (congrFun (pay37_eq (runA.sl.v473 c arg10 fh0 fs3)) x).trans (in_piece fh0 4352 (by omega) inb_S1024x5632_S1024x256_0_4352 (runA.sl.v473 c arg10 fh0 fs3) (up6 c fh0 arg10 fs3) x)
  · exact (congrFun (pay36_eq (runA.sl.v467 c arg9 fh0 fs2)) x).trans (in_piece fh0 1536 (by omega) inb_S1024x5632_S1024x256_0_1536 (runA.sl.v467 c arg9 fh0 fs2) (gate6 c fh0 arg9 fs2) x)
theorem keptIn16 : ∀ p ∈ runA.sl.HS0_16 (F := Ideal) c arg9 arg10 fh0 fs2 fs3, ∀ x : p.1.shape.Idx, p.2 x = wIn fh0 (p.1.emb x) := by
  unfold runA.sl.HS0_16
  refine List.forall_mem_cons.2 ⟨fun x => ?_, List.forall_mem_cons.2 ⟨fun x => ?_, keptIn14 c fh0 arg9 fs2 arg10 fs3⟩⟩
  · exact (congrFun (pay41_eq (runA.sl.v538 c arg10 fh0 fs3)) x).trans (in_piece fh0 4608 (by omega) inb_S1024x5632_S1024x256_0_4608 (runA.sl.v538 c arg10 fh0 fs3) (up7 c fh0 arg10 fs3) x)
  · exact (congrFun (pay40_eq (runA.sl.v532 c arg9 fh0 fs2)) x).trans (in_piece fh0 1792 (by omega) inb_S1024x5632_S1024x256_0_1792 (runA.sl.v532 c arg9 fh0 fs2) (gate7 c fh0 arg9 fs2) x)
theorem keptIn18 : ∀ p ∈ runA.sl.HS0_18 (F := Ideal) c arg9 arg10 fh0 fs2 fs3, ∀ x : p.1.shape.Idx, p.2 x = wIn fh0 (p.1.emb x) := by
  unfold runA.sl.HS0_18
  refine List.forall_mem_cons.2 ⟨fun x => ?_, List.forall_mem_cons.2 ⟨fun x => ?_, keptIn16 c fh0 arg9 fs2 arg10 fs3⟩⟩
  · exact (congrFun (pay45_eq (runA.sl.v603 c arg10 fh0 fs3)) x).trans (in_piece fh0 4864 (by omega) inb_S1024x5632_S1024x256_0_4864 (runA.sl.v603 c arg10 fh0 fs3) (up8 c fh0 arg10 fs3) x)
  · exact (congrFun (pay44_eq (runA.sl.v597 c arg9 fh0 fs2)) x).trans (in_piece fh0 2048 (by omega) inb_S1024x5632_S1024x256_0_2048 (runA.sl.v597 c arg9 fh0 fs2) (gate8 c fh0 arg9 fs2) x)
theorem keptIn20 : ∀ p ∈ runA.sl.HS0_20 (F := Ideal) c arg9 arg10 fh0 fs2 fs3, ∀ x : p.1.shape.Idx, p.2 x = wIn fh0 (p.1.emb x) := by
  unfold runA.sl.HS0_20
  refine List.forall_mem_cons.2 ⟨fun x => ?_, List.forall_mem_cons.2 ⟨fun x => ?_, keptIn18 c fh0 arg9 fs2 arg10 fs3⟩⟩
  · exact (congrFun (pay49_eq (runA.sl.v668 c arg10 fh0 fs3)) x).trans (in_piece fh0 5120 (by omega) inb_S1024x5632_S1024x256_0_5120 (runA.sl.v668 c arg10 fh0 fs3) (up9 c fh0 arg10 fs3) x)
  · exact (congrFun (pay48_eq (runA.sl.v662 c arg9 fh0 fs2)) x).trans (in_piece fh0 2304 (by omega) inb_S1024x5632_S1024x256_0_2304 (runA.sl.v662 c arg9 fh0 fs2) (gate9 c fh0 arg9 fs2) x)
theorem keptIn22 : ∀ p ∈ runA.sl.HS0_22 (F := Ideal) c arg9 arg10 fh0 fs2 fs3, ∀ x : p.1.shape.Idx, p.2 x = wIn fh0 (p.1.emb x) := by
  unfold runA.sl.HS0_22
  refine List.forall_mem_cons.2 ⟨fun x => ?_, List.forall_mem_cons.2 ⟨fun x => ?_, keptIn20 c fh0 arg9 fs2 arg10 fs3⟩⟩
  · exact (congrFun (pay53_eq (runA.sl.v715 c arg10 fh0 fs3)) x).trans (in_piece fh0 5376 (by omega) inb_S1024x5632_S1024x256_0_5376 (runA.sl.v715 c arg10 fh0 fs3) (up10 c fh0 arg10 fs3) x)
  · exact (congrFun (pay52_eq (runA.sl.v709 c arg9 fh0 fs2)) x).trans (in_piece fh0 2560 (by omega) inb_S1024x5632_S1024x256_0_2560 (runA.sl.v709 c arg9 fh0 fs2) (gate10 c fh0 arg9 fs2) x)

theorem keptOut : ∀ p ∈ runA.sl.HS1_11 (F := Ideal) c arg11 fh1 fs4, ∀ x : p.1.shape.Idx, p.2 x = wOut fh1 (p.1.emb x) := by
  unfold runA.sl.HS1_11
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩
  · exact (congrFun (pay54_eq (runA.sl.v721 c arg11 fh1 fs4)) x).trans (out_piece fh1 2560 (by omega) inb_S2816x1024_S256x1024_2560_0 (runA.sl.v721 c arg11 fh1 fs4) (down10 c fh1 arg11 fs4) x)
  · exact (congrFun (pay50_eq (runA.sl.v674 c arg11 fh1 fs4)) x).trans (out_piece fh1 2304 (by omega) inb_S2816x1024_S256x1024_2304_0 (runA.sl.v674 c arg11 fh1 fs4) (down9 c fh1 arg11 fs4) x)
  · exact (congrFun (pay46_eq (runA.sl.v609 c arg11 fh1 fs4)) x).trans (out_piece fh1 2048 (by omega) inb_S2816x1024_S256x1024_2048_0 (runA.sl.v609 c arg11 fh1 fs4) (down8 c fh1 arg11 fs4) x)
  · exact (congrFun (pay42_eq (runA.sl.v_1 c arg11 fh1 fs4)) x).trans (out_piece fh1 1792 (by omega) inb_S2816x1024_S256x1024_1792_0 (runA.sl.v_1 c arg11 fh1 fs4) (down7 c fh1 arg11 fs4) x)
  · exact (congrFun (pay38_eq (runA.sl.v479 c arg11 fh1 fs4)) x).trans (out_piece fh1 1536 (by omega) inb_S2816x1024_S256x1024_1536_0 (runA.sl.v479 c arg11 fh1 fs4) (down6 c fh1 arg11 fs4) x)
  · exact (congrFun (pay33_eq (runA.sl.v414 c arg11 fh1 fs4)) x).trans (out_piece fh1 1280 (by omega) inb_S2816x1024_S256x1024_1280_0 (runA.sl.v414 c arg11 fh1 fs4) (down5 c fh1 arg11 fs4) x)
  · exact (congrFun (pay28_eq (runA.sl.v349 c arg11 fh1 fs4)) x).trans (out_piece fh1 1024 (by omega) inb_S2816x1024_S256x1024_1024_0 (runA.sl.v349 c arg11 fh1 fs4) (down4 c fh1 arg11 fs4) x)
  · exact (congrFun (pay22_eq (runA.sl.v284 c arg11 fh1 fs4)) x).trans (out_piece fh1 768 (by omega) inb_S2816x1024_S256x1024_768_0 (runA.sl.v284 c arg11 fh1 fs4) (down3 c fh1 arg11 fs4) x)
  · exact (congrFun (pay18_eq (runA.sl.v219 c arg11 fh1 fs4)) x).trans (out_piece fh1 512 (by omega) inb_S2816x1024_S256x1024_512_0 (runA.sl.v219 c arg11 fh1 fs4) (down2 c fh1 arg11 fs4) x)
  · exact (congrFun (pay12_eq (runA.sl.v154 c arg11 fh1 fs4)) x).trans (out_piece fh1 256 (by omega) inb_S2816x1024_S256x1024_256_0 (runA.sl.v154 c arg11 fh1 fs4) (down1 c fh1 arg11 fs4) x)
  · exact out_piece fh1 0 (by omega) inb_S2816x1024_S256x1024_0_0 (runA.sl.v89 c arg11 fh1 fs4) (down0 c fh1 arg11 fs4) x

end

end Cert.LastKernel

end
-- ==== Proof.LastKernel.lean ====
module

public import proofs.«01_k».proof.Proof.LastWeights

@[expose] public section

set_option maxRecDepth 16384

noncomputable section

open Idealize.ShloMosaic Idealize.ShloMosaic.TcCoe Cert.Rows
open Cert.LastIdeal Cert.LastIdeal.Gen

/-! # What the kernel body leaves in its output block -/

namespace Cert.LastKernel

/-- The block of rows, read back out of its buffer. -/
theorem whole_read {a b : ℕ} {e : EltTy} (M : Memref sig .tc .vmem ⟨2, ![a, b]⟩ e) (hM : M.IsWhole) (x : Vec Ideal ⟨2, ![a, b]⟩ e)
    (h : ∀ i, (![0, 0] : Fin 2 → ℕ) i + (⟨2, ![a, b]⟩ : Shape).size i ≤ (⟨2, ![a, b]⟩ : Shape).size i) :
    M.view.readAt (Elt Ideal) (Rect.unit (s := ⟨2, ![a, b]⟩) (![0, 0] : Fin 2 → ℕ) (⟨2, ![a, b]⟩ : Shape).size h).toLoadRect (hM.unread x) = x := by
  funext y
  refine (congrFun (hM.read_unread (Val := Elt Ideal) x) _).trans (congrArg x ?_)
  exact FfnKernel.emb_origin h y

/-- A rectangle of the kept weights, read out of their buffer. -/
theorem rect_read {s : Shape} {e : EltTy} (M : Memref sig .tc .vmem s e) (hM : M.IsWhole) (x : Vec Ideal s e) (r : Rect s) (y : r.shape.Idx) :
    M.view.readAt (Elt Ideal) r.toLoadRect (hM.unread x) y = x (r.emb y) :=
  congrFun (hM.read_unread (Val := Elt Ideal) x) _

section
variable (c : Dev nD) (arg1 : Memref sig .tc .vmem S1024x1024 .f32) (harg1 : arg1.IsWhole) (arg2 : Memref sig .tc .vmem S1x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x5632 .bf16) (harg7 : arg7.IsWhole) (arg8 : Memref sig .tc .vmem S2816x1024 .bf16) (harg8 : arg8.IsWhole)
  (arg9 : Memref sig .tc .vmem S2x1024x256 .f32) (harg9 : arg9.IsWhole) (arg10 : Memref sig .tc .vmem S2x1024x256 .f32) (harg10 : arg10.IsWhole) (arg11 : Memref sig .tc .vmem S2x256x1024 .f32) (harg11 : arg11.IsWhole) (arg12 : Memref sig .tc .vmem S1024x2816 .bf16) (harg12 : arg12.IsWhole)
  (x0 : Vec Ideal S1024x1024 .f32) (x1 x2 : Vec Ideal S1x1024 .f32) (fh0 : HbBuf0 (F := Ideal) c hbM0_0) (fh1 : HbBuf0 (F := Ideal) c hbM0_1)
  (fs2 : HbBuf0 (F := Ideal) c arg9) (fs3 : HbBuf0 (F := Ideal) c arg10) (fs4 : HbBuf0 (F := Ideal) c arg11)

/-! ## The first point: the weights as they were just stored -/

theorem rowsA : runA.sl.r_1 (F := Ideal) c arg1 harg1 arg2 harg2 x0 x1 = k0_pay5 x0 x1 := by
  unfold runA.sl.r_1
  exact congrArg₂ k0_pay5 (whole_read arg1 harg1 x0 _) (whole_read arg2 harg2 x1 _)

theorem rowsA' : runA.sl.r (F := Ideal) c arg1 harg1 x0 = k0_pay4 x0 := by
  unfold runA.sl.r
  exact congrArg k0_pay4 (whole_read arg1 harg1 x0 _)

theorem memGate0 : (⟨Rect.unit (s := S1024x5632) (![0, 0] : Fin 2 → ℕ) S1024x256.size inb_S1024x5632_S1024x256_0_0, k0_pay6 (runA.sl.v77 c arg9 fh0 fs2)⟩ : View.Piece (Elt Ideal) S1024x5632 .bf16) ∈ runA.sl.HS0_2 (F := Ideal) c arg9 arg10 fh0 fs2 fs3 := by
  unfold runA.sl.HS0_2
  exact List.mem_cons_of_mem _ List.mem_cons_self
theorem readGate0 (x : S1024x256.Idx) : runA.sl.v113 (F := Ideal) c arg7 arg9 arg10 fh0 fs2 fs3 x = wIn fh0 ((Rect.unit (s := S1024x5632) (![0, 0] : Fin 2 → ℕ) S1024x256.size inb_S1024x5632_S1024x256_0_0).emb x) := by
  unfold runA.sl.v113
  exact cov_piece arg7.view (wIn fh0) (runA.sl.HS0_2 c arg9 arg10 fh0 fs2 fs3) (keptIn2 c fh0 arg9 fs2 arg10 fs3) (Rect.unit (s := S1024x5632) (![0, 0] : Fin 2 → ℕ) S1024x256.size inb_S1024x5632_S1024x256_0_0) ⟨_, memGate0 c arg9 arg10 fh0 fs2 fs3⟩ x
theorem memUp0 : (⟨Rect.unit (s := S1024x5632) (![0, 2816] : Fin 2 → ℕ) S1024x256.size inb_S1024x5632_S1024x256_0_2816, k0_pay7 (runA.sl.v83 c arg10 fh0 fs3)⟩ : View.Piece (Elt Ideal) S1024x5632 .bf16) ∈ runA.sl.HS0_2 (F := Ideal) c arg9 arg10 fh0 fs2 fs3 := by
  unfold runA.sl.HS0_2
  exact List.mem_cons_self
theorem readUp0 (x : S1024x256.Idx) : runA.sl.v115 (F := Ideal) c arg7 arg9 arg10 fh0 fs2 fs3 x = wIn fh0 ((Rect.unit (s := S1024x5632) (![0, 2816] : Fin 2 → ℕ) S1024x256.size inb_S1024x5632_S1024x256_0_2816).emb x) := by
  unfold runA.sl.v115
  exact cov_piece arg7.view (wIn fh0) (runA.sl.HS0_2 c arg9 arg10 fh0 fs2 fs3) (keptIn2 c fh0 arg9 fs2 arg10 fs3) (Rect.unit (s := S1024x5632) (![0, 2816] : Fin 2 → ℕ) S1024x256.size inb_S1024x5632_S1024x256_0_2816) ⟨_, memUp0 c arg9 arg10 fh0 fs2 fs3⟩ x
theorem memGate1 : (⟨Rect.unit (s := S1024x5632) (![0, 256] : Fin 2 → ℕ) S1024x256.size inb_S1024x5632_S1024x256_0_256, k0_pay10 (runA.sl.v142 c arg9 fh0 fs2)⟩ : View.Piece (Elt Ideal) S1024x5632 .bf16) ∈ runA.sl.HS0_4 (F := Ideal) c arg9 arg10 fh0 fs2 fs3 := by
  unfold runA.sl.HS0_4
  exact List.mem_cons_of_mem _ List.mem_cons_self
theorem readGate1 (x : S1024x256.Idx) : runA.sl.v178 (F := Ideal) c arg7 arg9 arg10 fh0 fs2 fs3 x = wIn fh0 ((Rect.unit (s := S1024x5632) (![0, 256] : Fin 2 → ℕ) S1024x256.size inb_S1024x5632_S1024x256_0_256).emb x) := by
  unfold runA.sl.v178
  exact cov_piece arg7.view (wIn fh0) (runA.sl.HS0_4 c arg9 arg10 fh0 fs2 fs3) (keptIn4 c fh0 arg9 fs2 arg10 fs3) (Rect.unit (s := S1024x5632) (![0, 256] : Fin 2 → ℕ) S1024x256.size inb_S1024x5632_S1024x256_0_256) ⟨_, memGate1 c arg9 arg10 fh0 fs2 fs3⟩ x
theorem memUp1 : (⟨Rect.unit (s := S1024x5632) (![0, 3072] : Fin 2 → ℕ) S1024x256.size inb_S1024x5632_S1024x256_0_3072, k0_pay11 (runA.sl.v148 c arg10 fh0 fs3)⟩ : View.Piece (Elt Ideal) S1024x5632 .bf16) ∈ runA.sl.HS0_4 (F := Ideal) c arg9 arg10 fh0 fs2 fs3 := by
  unfold runA.sl.HS0_4
  exact List.mem_cons_self
theorem readUp1 (x : S1024x256.Idx) : runA.sl.v180 (F := Ideal) c arg7 arg9 arg10 fh0 fs2 fs3 x = wIn fh0 ((Rect.unit (s := S1024x5632) (![0, 3072] : Fin 2 → ℕ) S1024x256.size inb_S1024x5632_S1024x256_0_3072).emb x) := by
  unfold runA.sl.v180
  exact cov_piece arg7.view (wIn fh0) (runA.sl.HS0_4 c arg9 arg10 fh0 fs2 fs3) (keptIn4 c fh0 arg9 fs2 arg10 fs3) (Rect.unit (s := S1024x5632) (![0, 3072] : Fin 2 → ℕ) S1024x256.size inb_S1024x5632_S1024x256_0_3072) ⟨_, memUp1 c arg9 arg10 fh0 fs2 fs3⟩ x
theorem memGate2 : (⟨Rect.unit (s := S1024x5632) (![0, 512] : Fin 2 → ℕ) S1024x256.size inb_S1024x5632_S1024x256_0_512, k0_pay16 (runA.sl.r_3 c arg9 fh0 fs2)⟩ : View.Piece (Elt Ideal) S1024x5632 .bf16) ∈ runA.sl.HS0_6 (F := Ideal) c arg9 arg10 fh0 fs2 fs3 := by
  unfold runA.sl.HS0_6
  exact List.mem_cons_of_mem _ List.mem_cons_self
theorem readGate2 (x : S1024x256.Idx) : runA.sl.v243 (F := Ideal) c arg7 arg9 arg10 fh0 fs2 fs3 x = wIn fh0 ((Rect.unit (s := S1024x5632) (![0, 512] : Fin 2 → ℕ) S1024x256.size inb_S1024x5632_S1024x256_0_512).emb x) := by
  unfold runA.sl.v243
  exact cov_piece arg7.view (wIn fh0) (runA.sl.HS0_6 c arg9 arg10 fh0 fs2 fs3) (keptIn6 c fh0 arg9 fs2 arg10 fs3) (Rect.unit (s := S1024x5632) (![0, 512] : Fin 2 → ℕ) S1024x256.size inb_S1024x5632_S1024x256_0_512) ⟨_, memGate2 c arg9 arg10 fh0 fs2 fs3⟩ x
theorem memUp2 : (⟨Rect.unit (s := S1024x5632) (![0, 3328] : Fin 2 → ℕ) S1024x256.size inb_S1024x5632_S1024x256_0_3328, k0_pay17 (runA.sl.v213 c arg10 fh0 fs3)⟩ : View.Piece (Elt Ideal) S1024x5632 .bf16) ∈ runA.sl.HS0_6 (F := Ideal) c arg9 arg10 fh0 fs2 fs3 := by
  unfold runA.sl.HS0_6
  exact List.mem_cons_self
theorem readUp2 (x : S1024x256.Idx) : runA.sl.v245 (F := Ideal) c arg7 arg9 arg10 fh0 fs2 fs3 x = wIn fh0 ((Rect.unit (s := S1024x5632) (![0, 3328] : Fin 2 → ℕ) S1024x256.size inb_S1024x5632_S1024x256_0_3328).emb x) := by
  unfold runA.sl.v245
  exact cov_piece arg7.view (wIn fh0) (runA.sl.HS0_6 c arg9 arg10 fh0 fs2 fs3) (keptIn6 c fh0 arg9 fs2 arg10 fs3) (Rect.unit (s := S1024x5632) (![0, 3328] : Fin 2 → ℕ) S1024x256.size inb_S1024x5632_S1024x256_0_3328) ⟨_, memUp2 c arg9 arg10 fh0 fs2 fs3⟩ x
theorem memGate3 : (⟨Rect.unit (s := S1024x5632) (![0, 768] : Fin 2 → ℕ) S1024x256.size inb_S1024x5632_S1024x256_0_768, k0_pay20 (runA.sl.v272 c arg9 fh0 fs2)⟩ : View.Piece (Elt Ideal) S1024x5632 .bf16) ∈ runA.sl.HS0_8 (F := Ideal) c arg9 arg10 fh0 fs2 fs3 := by
  unfold runA.sl.HS0_8
  exact List.mem_cons_of_mem _ List.mem_cons_self
theorem readGate3 (x : S1024x256.Idx) : runA.sl.v308 (F := Ideal) c arg7 arg9 arg10 fh0 fs2 fs3 x = wIn fh0 ((Rect.unit (s := S1024x5632) (![0, 768] : Fin 2 → ℕ) S1024x256.size inb_S1024x5632_S1024x256_0_768).emb x) := by
  unfold runA.sl.v308
  exact cov_piece arg7.view (wIn fh0) (runA.sl.HS0_8 c arg9 arg10 fh0 fs2 fs3) (keptIn8 c fh0 arg9 fs2 arg10 fs3) (Rect.unit (s := S1024x5632) (![0, 768] : Fin 2 → ℕ) S1024x256.size inb_S1024x5632_S1024x256_0_768) ⟨_, memGate3 c arg9 arg10 fh0 fs2 fs3⟩ x
theorem memUp3 : (⟨Rect.unit (s := S1024x5632) (![0, 3584] : Fin 2 → ℕ) S1024x256.size inb_S1024x5632_S1024x256_0_3584, k0_pay21 (runA.sl.v278 c arg10 fh0 fs3)⟩ : View.Piece (Elt Ideal) S1024x5632 .bf16) ∈ runA.sl.HS0_8 (F := Ideal) c arg9 arg10 fh0 fs2 fs3 := by
  unfold runA.sl.HS0_8
  exact List.mem_cons_self
theorem readUp3 (x : S1024x256.Idx) : runA.sl.v310 (F := Ideal) c arg7 arg9 arg10 fh0 fs2 fs3 x = wIn fh0 ((Rect.unit (s := S1024x5632) (![0, 3584] : Fin 2 → ℕ) S1024x256.size inb_S1024x5632_S1024x256_0_3584).emb x) := by
  unfold runA.sl.v310
  exact cov_piece arg7.view (wIn fh0) (runA.sl.HS0_8 c arg9 arg10 fh0 fs2 fs3) (keptIn8 c fh0 arg9 fs2 arg10 fs3) (Rect.unit (s := S1024x5632) (![0, 3584] : Fin 2 → ℕ) S1024x256.size inb_S1024x5632_S1024x256_0_3584) ⟨_, memUp3 c arg9 arg10 fh0 fs2 fs3⟩ x
theorem memGate4 : (⟨Rect.unit (s := S1024x5632) (![0, 1024] : Fin 2 → ℕ) S1024x256.size inb_S1024x5632_S1024x256_0_1024, k0_pay26 (runA.sl.v c arg9 fh0 fs2)⟩ : View.Piece (Elt Ideal) S1024x5632 .bf16) ∈ runA.sl.HS0_10 (F := Ideal) c arg9 arg10 fh0 fs2 fs3 := by
  unfold runA.sl.HS0_10
  exact List.mem_cons_of_mem _ List.mem_cons_self
theorem readGate4 (x : S1024x256.Idx) : runA.sl.v373 (F := Ideal) c arg7 arg9 arg10 fh0 fs2 fs3 x = wIn fh0 ((Rect.unit (s := S1024x5632) (![0, 1024] : Fin 2 → ℕ) S1024x256.size inb_S1024x5632_S1024x256_0_1024).emb x) := by
  unfold runA.sl.v373
  exact cov_piece arg7.view (wIn fh0) (runA.sl.HS0_10 c arg9 arg10 fh0 fs2 fs3) (keptIn10 c fh0 arg9 fs2 arg10 fs3) (Rect.unit (s := S1024x5632) (![0, 1024] : Fin 2 → ℕ) S1024x256.size inb_S1024x5632_S1024x256_0_1024) ⟨_, memGate4 c arg9 arg10 fh0 fs2 fs3⟩ x
theorem memUp4 : (⟨Rect.unit (s := S1024x5632) (![0, 3840] : Fin 2 → ℕ) S1024x256.size inb_S1024x5632_S1024x256_0_3840, k0_pay27 (runA.sl.v343 c arg10 fh0 fs3)⟩ : View.Piece (Elt Ideal) S1024x5632 .bf16) ∈ runA.sl.HS0_10 (F := Ideal) c arg9 arg10 fh0 fs2 fs3 := by
  unfold runA.sl.HS0_10
  exact List.mem_cons_self
theorem readUp4 (x : S1024x256.Idx) : runA.sl.v375 (F := Ideal) c arg7 arg9 arg10 fh0 fs2 fs3 x = wIn fh0 ((Rect.unit (s := S1024x5632) (![0, 3840] : Fin 2 → ℕ) S1024x256.size inb_S1024x5632_S1024x256_0_3840).emb x) := by
  unfold runA.sl.v375
  exact cov_piece arg7.view (wIn fh0) (runA.sl.HS0_10 c arg9 arg10 fh0 fs2 fs3) (keptIn10 c fh0 arg9 fs2 arg10 fs3) (Rect.unit (s := S1024x5632) (![0, 3840] : Fin 2 → ℕ) S1024x256.size inb_S1024x5632_S1024x256_0_3840) ⟨_, memUp4 c arg9 arg10 fh0 fs2 fs3⟩ x
theorem memGate5 : (⟨Rect.unit (s := S1024x5632) (![0, 1280] : Fin 2 → ℕ) S1024x256.size inb_S1024x5632_S1024x256_0_1280, k0_pay30 (runA.sl.v402 c arg9 fh0 fs2)⟩ : View.Piece (Elt Ideal) S1024x5632 .bf16) ∈ runA.sl.HS0_12 (F := Ideal) c arg9 arg10 fh0 fs2 fs3 := by
  unfold runA.sl.HS0_12
  exact List.mem_cons_of_mem _ List.mem_cons_self
theorem readGate5 (x : S1024x256.Idx) : runA.sl.v438 (F := Ideal) c arg7 arg9 arg10 fh0 fs2 fs3 x = wIn fh0 ((Rect.unit (s := S1024x5632) (![0, 1280] : Fin 2 → ℕ) S1024x256.size inb_S1024x5632_S1024x256_0_1280).emb x) := by
  unfold runA.sl.v438
  exact cov_piece arg7.view (wIn fh0) (runA.sl.HS0_12 c arg9 arg10 fh0 fs2 fs3) (keptIn12 c fh0 arg9 fs2 arg10 fs3) (Rect.unit (s := S1024x5632) (![0, 1280] : Fin 2 → ℕ) S1024x256.size inb_S1024x5632_S1024x256_0_1280) ⟨_, memGate5 c arg9 arg10 fh0 fs2 fs3⟩ x
theorem memUp5 : (⟨Rect.unit (s := S1024x5632) (![0, 4096] : Fin 2 → ℕ) S1024x256.size inb_S1024x5632_S1024x256_0_4096, k0_pay31 (runA.sl.v408 c arg10 fh0 fs3)⟩ : View.Piece (Elt Ideal) S1024x5632 .bf16) ∈ runA.sl.HS0_12 (F := Ideal) c arg9 arg10 fh0 fs2 fs3 := by
  unfold runA.sl.HS0_12
  exact List.mem_cons_self
theorem readUp5 (x : S1024x256.Idx) : runA.sl.v440 (F := Ideal) c arg7 arg9 arg10 fh0 fs2 fs3 x = wIn fh0 ((Rect.unit (s := S1024x5632) (![0, 4096] : Fin 2 → ℕ) S1024x256.size inb_S1024x5632_S1024x256_0_4096).emb x) := by
  unfold runA.sl.v440
  exact cov_piece arg7.view (wIn fh0) (runA.sl.HS0_12 c arg9 arg10 fh0 fs2 fs3) (keptIn12 c fh0 arg9 fs2 arg10 fs3) (Rect.unit (s := S1024x5632) (![0, 4096] : Fin 2 → ℕ) S1024x256.size inb_S1024x5632_S1024x256_0_4096) ⟨_, memUp5 c arg9 arg10 fh0 fs2 fs3⟩ x
theorem memGate6 : (⟨Rect.unit (s := S1024x5632) (![0, 1536] : Fin 2 → ℕ) S1024x256.size inb_S1024x5632_S1024x256_0_1536, k0_pay36 (runA.sl.v467 c arg9 fh0 fs2)⟩ : View.Piece (Elt Ideal) S1024x5632 .bf16) ∈ runA.sl.HS0_14 (F := Ideal) c arg9 arg10 fh0 fs2 fs3 := by
  unfold runA.sl.HS0_14
  exact List.mem_cons_of_mem _ List.mem_cons_self
theorem readGate6 (x : S1024x256.Idx) : runA.sl.v503 (F := Ideal) c arg7 arg9 arg10 fh0 fs2 fs3 x = wIn fh0 ((Rect.unit (s := S1024x5632) (![0, 1536] : Fin 2 → ℕ) S1024x256.size inb_S1024x5632_S1024x256_0_1536).emb x) := by
  unfold runA.sl.v503
  exact cov_piece arg7.view (wIn fh0) (runA.sl.HS0_14 c arg9 arg10 fh0 fs2 fs3) (keptIn14 c fh0 arg9 fs2 arg10 fs3) (Rect.unit (s := S1024x5632) (![0, 1536] : Fin 2 → ℕ) S1024x256.size inb_S1024x5632_S1024x256_0_1536) ⟨_, memGate6 c arg9 arg10 fh0 fs2 fs3⟩ x
theorem memUp6 : (⟨Rect.unit (s := S1024x5632) (![0, 4352] : Fin 2 → ℕ) S1024x256.size inb_S1024x5632_S1024x256_0_4352, k0_pay37 (runA.sl.v473 c arg10 fh0 fs3)⟩ : View.Piece (Elt Ideal) S1024x5632 .bf16) ∈ runA.sl.HS0_14 (F := Ideal) c arg9 arg10 fh0 fs2 fs3 := by
  unfold runA.sl.HS0_14
  exact List.mem_cons_self
theorem readUp6 (x : S1024x256.Idx) : runA.sl.v505 (F := Ideal) c arg7 arg9 arg10 fh0 fs2 fs3 x = wIn fh0 ((Rect.unit (s := S1024x5632) (![0, 4352] : Fin 2 → ℕ) S1024x256.size inb_S1024x5632_S1024x256_0_4352).emb x) := by
  unfold runA.sl.v505
  exact cov_piece arg7.view (wIn fh0) (runA.sl.HS0_14 c arg9 arg10 fh0 fs2 fs3) (keptIn14 c fh0 arg9 fs2 arg10 fs3) (Rect.unit (s := S1024x5632) (![0, 4352] : Fin 2 → ℕ) S1024x256.size inb_S1024x5632_S1024x256_0_4352) ⟨_, memUp6 c arg9 arg10 fh0 fs2 fs3⟩ x
theorem memGate7 : (⟨Rect.unit (s := S1024x5632) (![0, 1792] : Fin 2 → ℕ) S1024x256.size inb_S1024x5632_S1024x256_0_1792, k0_pay40 (runA.sl.v532 c arg9 fh0 fs2)⟩ : View.Piece (Elt Ideal) S1024x5632 .bf16) ∈ runA.sl.HS0_16 (F := Ideal) c arg9 arg10 fh0 fs2 fs3 := by
  unfold runA.sl.HS0_16
  exact List.mem_cons_of_mem _ List.mem_cons_self
theorem readGate7 (x : S1024x256.Idx) : runA.sl.v568 (F := Ideal) c arg7 arg9 arg10 fh0 fs2 fs3 x = wIn fh0 ((Rect.unit (s := S1024x5632) (![0, 1792] : Fin 2 → ℕ) S1024x256.size inb_S1024x5632_S1024x256_0_1792).emb x) := by
  unfold runA.sl.v568
  exact cov_piece arg7.view (wIn fh0) (runA.sl.HS0_16 c arg9 arg10 fh0 fs2 fs3) (keptIn16 c fh0 arg9 fs2 arg10 fs3) (Rect.unit (s := S1024x5632) (![0, 1792] : Fin 2 → ℕ) S1024x256.size inb_S1024x5632_S1024x256_0_1792) ⟨_, memGate7 c arg9 arg10 fh0 fs2 fs3⟩ x
theorem memUp7 : (⟨Rect.unit (s := S1024x5632) (![0, 4608] : Fin 2 → ℕ) S1024x256.size inb_S1024x5632_S1024x256_0_4608, k0_pay41 (runA.sl.v538 c arg10 fh0 fs3)⟩ : View.Piece (Elt Ideal) S1024x5632 .bf16) ∈ runA.sl.HS0_16 (F := Ideal) c arg9 arg10 fh0 fs2 fs3 := by
  unfold runA.sl.HS0_16
  exact List.mem_cons_self
theorem readUp7 (x : S1024x256.Idx) : runA.sl.v570 (F := Ideal) c arg7 arg9 arg10 fh0 fs2 fs3 x = wIn fh0 ((Rect.unit (s := S1024x5632) (![0, 4608] : Fin 2 → ℕ) S1024x256.size inb_S1024x5632_S1024x256_0_4608).emb x) := by
  unfold runA.sl.v570
  exact cov_piece arg7.view (wIn fh0) (runA.sl.HS0_16 c arg9 arg10 fh0 fs2 fs3) (keptIn16 c fh0 arg9 fs2 arg10 fs3) (Rect.unit (s := S1024x5632) (![0, 4608] : Fin 2 → ℕ) S1024x256.size inb_S1024x5632_S1024x256_0_4608) ⟨_, memUp7 c arg9 arg10 fh0 fs2 fs3⟩ x
theorem memGate8 : (⟨Rect.unit (s := S1024x5632) (![0, 2048] : Fin 2 → ℕ) S1024x256.size inb_S1024x5632_S1024x256_0_2048, k0_pay44 (runA.sl.v597 c arg9 fh0 fs2)⟩ : View.Piece (Elt Ideal) S1024x5632 .bf16) ∈ runA.sl.HS0_18 (F := Ideal) c arg9 arg10 fh0 fs2 fs3 := by
  unfold runA.sl.HS0_18
  exact List.mem_cons_of_mem _ List.mem_cons_self
theorem readGate8 (x : S1024x256.Idx) : runA.sl.v633 (F := Ideal) c arg7 arg9 arg10 fh0 fs2 fs3 x = wIn fh0 ((Rect.unit (s := S1024x5632) (![0, 2048] : Fin 2 → ℕ) S1024x256.size inb_S1024x5632_S1024x256_0_2048).emb x) := by
  unfold runA.sl.v633
  exact cov_piece arg7.view (wIn fh0) (runA.sl.HS0_18 c arg9 arg10 fh0 fs2 fs3) (keptIn18 c fh0 arg9 fs2 arg10 fs3) (Rect.unit (s := S1024x5632) (![0, 2048] : Fin 2 → ℕ) S1024x256.size inb_S1024x5632_S1024x256_0_2048) ⟨_, memGate8 c arg9 arg10 fh0 fs2 fs3⟩ x
theorem memUp8 : (⟨Rect.unit (s := S1024x5632) (![0, 4864] : Fin 2 → ℕ) S1024x256.size inb_S1024x5632_S1024x256_0_4864, k0_pay45 (runA.sl.v603 c arg10 fh0 fs3)⟩ : View.Piece (Elt Ideal) S1024x5632 .bf16) ∈ runA.sl.HS0_18 (F := Ideal) c arg9 arg10 fh0 fs2 fs3 := by
  unfold runA.sl.HS0_18
  exact List.mem_cons_self
theorem readUp8 (x : S1024x256.Idx) : runA.sl.v635 (F := Ideal) c arg7 arg9 arg10 fh0 fs2 fs3 x = wIn fh0 ((Rect.unit (s := S1024x5632) (![0, 4864] : Fin 2 → ℕ) S1024x256.size inb_S1024x5632_S1024x256_0_4864).emb x) := by
  unfold runA.sl.v635
  exact cov_piece arg7.view (wIn fh0) (runA.sl.HS0_18 c arg9 arg10 fh0 fs2 fs3) (keptIn18 c fh0 arg9 fs2 arg10 fs3) (Rect.unit (s := S1024x5632) (![0, 4864] : Fin 2 → ℕ) S1024x256.size inb_S1024x5632_S1024x256_0_4864) ⟨_, memUp8 c arg9 arg10 fh0 fs2 fs3⟩ x
theorem memGate9 : (⟨Rect.unit (s := S1024x5632) (![0, 2304] : Fin 2 → ℕ) S1024x256.size inb_S1024x5632_S1024x256_0_2304, k0_pay48 (runA.sl.v662 c arg9 fh0 fs2)⟩ : View.Piece (Elt Ideal) S1024x5632 .bf16) ∈ runA.sl.HS0_20 (F := Ideal) c arg9 arg10 fh0 fs2 fs3 := by
  unfold runA.sl.HS0_20
  exact List.mem_cons_of_mem _ List.mem_cons_self
theorem readGate9 (x : S1024x256.Idx) : runA.sl.v680 (F := Ideal) c arg7 arg9 arg10 fh0 fs2 fs3 x = wIn fh0 ((Rect.unit (s := S1024x5632) (![0, 2304] : Fin 2 → ℕ) S1024x256.size inb_S1024x5632_S1024x256_0_2304).emb x) := by
  unfold runA.sl.v680
  exact cov_piece arg7.view (wIn fh0) (runA.sl.HS0_20 c arg9 arg10 fh0 fs2 fs3) (keptIn20 c fh0 arg9 fs2 arg10 fs3) (Rect.unit (s := S1024x5632) (![0, 2304] : Fin 2 → ℕ) S1024x256.size inb_S1024x5632_S1024x256_0_2304) ⟨_, memGate9 c arg9 arg10 fh0 fs2 fs3⟩ x
theorem memUp9 : (⟨Rect.unit (s := S1024x5632) (![0, 5120] : Fin 2 → ℕ) S1024x256.size inb_S1024x5632_S1024x256_0_5120, k0_pay49 (runA.sl.v668 c arg10 fh0 fs3)⟩ : View.Piece (Elt Ideal) S1024x5632 .bf16) ∈ runA.sl.HS0_20 (F := Ideal) c arg9 arg10 fh0 fs2 fs3 := by
  unfold runA.sl.HS0_20
  exact List.mem_cons_self
theorem readUp9 (x : S1024x256.Idx) : runA.sl.v682 (F := Ideal) c arg7 arg9 arg10 fh0 fs2 fs3 x = wIn fh0 ((Rect.unit (s := S1024x5632) (![0, 5120] : Fin 2 → ℕ) S1024x256.size inb_S1024x5632_S1024x256_0_5120).emb x) := by
  unfold runA.sl.v682
  exact cov_piece arg7.view (wIn fh0) (runA.sl.HS0_20 c arg9 arg10 fh0 fs2 fs3) (keptIn20 c fh0 arg9 fs2 arg10 fs3) (Rect.unit (s := S1024x5632) (![0, 5120] : Fin 2 → ℕ) S1024x256.size inb_S1024x5632_S1024x256_0_5120) ⟨_, memUp9 c arg9 arg10 fh0 fs2 fs3⟩ x
theorem memGate10 : (⟨Rect.unit (s := S1024x5632) (![0, 2560] : Fin 2 → ℕ) S1024x256.size inb_S1024x5632_S1024x256_0_2560, k0_pay52 (runA.sl.v709 c arg9 fh0 fs2)⟩ : View.Piece (Elt Ideal) S1024x5632 .bf16) ∈ runA.sl.HS0_22 (F := Ideal) c arg9 arg10 fh0 fs2 fs3 := by
  unfold runA.sl.HS0_22
  exact List.mem_cons_of_mem _ List.mem_cons_self
theorem readGate10 (x : S1024x256.Idx) : runA.sl.v727 (F := Ideal) c arg7 arg9 arg10 fh0 fs2 fs3 x = wIn fh0 ((Rect.unit (s := S1024x5632) (![0, 2560] : Fin 2 → ℕ) S1024x256.size inb_S1024x5632_S1024x256_0_2560).emb x) := by
  unfold runA.sl.v727
  exact cov_piece arg7.view (wIn fh0) (runA.sl.HS0_22 c arg9 arg10 fh0 fs2 fs3) (keptIn22 c fh0 arg9 fs2 arg10 fs3) (Rect.unit (s := S1024x5632) (![0, 2560] : Fin 2 → ℕ) S1024x256.size inb_S1024x5632_S1024x256_0_2560) ⟨_, memGate10 c arg9 arg10 fh0 fs2 fs3⟩ x
theorem memUp10 : (⟨Rect.unit (s := S1024x5632) (![0, 5376] : Fin 2 → ℕ) S1024x256.size inb_S1024x5632_S1024x256_0_5376, k0_pay53 (runA.sl.v715 c arg10 fh0 fs3)⟩ : View.Piece (Elt Ideal) S1024x5632 .bf16) ∈ runA.sl.HS0_22 (F := Ideal) c arg9 arg10 fh0 fs2 fs3 := by
  unfold runA.sl.HS0_22
  exact List.mem_cons_self
theorem readUp10 (x : S1024x256.Idx) : runA.sl.v729 (F := Ideal) c arg7 arg9 arg10 fh0 fs2 fs3 x = wIn fh0 ((Rect.unit (s := S1024x5632) (![0, 5376] : Fin 2 → ℕ) S1024x256.size inb_S1024x5632_S1024x256_0_5376).emb x) := by
  unfold runA.sl.v729
  exact cov_piece arg7.view (wIn fh0) (runA.sl.HS0_22 c arg9 arg10 fh0 fs2 fs3) (keptIn22 c fh0 arg9 fs2 arg10 fs3) (Rect.unit (s := S1024x5632) (![0, 5376] : Fin 2 → ℕ) S1024x256.size inb_S1024x5632_S1024x256_0_5376) ⟨_, memUp10 c arg9 arg10 fh0 fs2 fs3⟩ x

theorem chunk1_eq (n : Vec Ideal S1024x1024 .bf16) (g u : Vec Ideal S1024x256 .bf16) : k0_pay14 (k0_pay13 n g u) = k0_pay9 (F := Ideal) n g u := rfl
theorem chunk2_eq (n : Vec Ideal S1024x1024 .bf16) (g u : Vec Ideal S1024x256 .bf16) : k0_pay19 n g u = k0_pay9 (F := Ideal) n g u := rfl
theorem chunk3_eq (n : Vec Ideal S1024x1024 .bf16) (g u : Vec Ideal S1024x256 .bf16) : k0_pay25 (k0_pay23 n u) (k0_pay24 n g) = k0_pay9 (F := Ideal) n g u := rfl
theorem chunk4_eq (n : Vec Ideal S1024x1024 .bf16) (g u : Vec Ideal S1024x256 .bf16) : k0_pay29 n g u = k0_pay9 (F := Ideal) n g u := rfl
theorem chunk5_eq (n : Vec Ideal S1024x1024 .bf16) (g u : Vec Ideal S1024x256 .bf16) : k0_pay35 n (k0_pay34 n g) u = k0_pay9 (F := Ideal) n g u := rfl
theorem chunk6_eq (n : Vec Ideal S1024x1024 .bf16) (g u : Vec Ideal S1024x256 .bf16) : k0_pay39 n g u = k0_pay9 (F := Ideal) n g u := rfl
theorem chunk7_eq (n : Vec Ideal S1024x1024 .bf16) (g u : Vec Ideal S1024x256 .bf16) : k0_pay43 n g runA.sl.cst_633 u = k0_pay9 (F := Ideal) n g u := rfl
theorem chunk8_eq (n : Vec Ideal S1024x1024 .bf16) (g u : Vec Ideal S1024x256 .bf16) : k0_pay47 n g u = k0_pay9 (F := Ideal) n g u := rfl
theorem chunk9_eq (n : Vec Ideal S1024x1024 .bf16) (g u : Vec Ideal S1024x256 .bf16) : k0_pay51 n g u = k0_pay9 (F := Ideal) n g u := rfl
theorem chunk10_eq (n : Vec Ideal S1024x1024 .bf16) (g u : Vec Ideal S1024x256 .bf16) : k0_pay55 n g runA.sl.cst_633 u = k0_pay9 (F := Ideal) n g u := rfl

/-- The hidden channels of the first point's rows, chunk by chunk. -/
theorem hiddenA : ∀ p ∈ runA.sl.HS5_11 (F := Ideal) c arg1 harg1 arg2 harg2 arg7 arg9 arg10 x0 x1 fh0 fs2 fs3, ∀ x : p.1.shape.Idx, p.2 x = hid x0 x1 (wIn fh0) (p.1.emb x) := by
  unfold runA.sl.HS5_11 runA.sl.r_2 runA.sl.r_4 runA.sl.r_5 runA.sl.r_7
  simp only [rowsA]
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩
  · exact (congrFun (chunk10_eq (k0_pay5 x0 x1) (runA.sl.v727 c arg7 arg9 arg10 fh0 fs2 fs3) (runA.sl.v729 c arg7 arg9 arg10 fh0 fs2 fs3)) x).trans (hid_piece x0 x1 (wIn fh0) 2560 5376 (by omega) (by omega) inb_S1024x2816_S1024x256_0_2560 inb_S1024x5632_S1024x256_0_2560 inb_S1024x5632_S1024x256_0_5376 (runA.sl.v727 c arg7 arg9 arg10 fh0 fs2 fs3) (runA.sl.v729 c arg7 arg9 arg10 fh0 fs2 fs3) (readGate10 c arg7 arg9 arg10 fh0 fs2 fs3) (readUp10 c arg7 arg9 arg10 fh0 fs2 fs3) x)
  · exact (congrFun (chunk9_eq (k0_pay5 x0 x1) (runA.sl.v680 c arg7 arg9 arg10 fh0 fs2 fs3) (runA.sl.v682 c arg7 arg9 arg10 fh0 fs2 fs3)) x).trans (hid_piece x0 x1 (wIn fh0) 2304 5120 (by omega) (by omega) inb_S1024x2816_S1024x256_0_2304 inb_S1024x5632_S1024x256_0_2304 inb_S1024x5632_S1024x256_0_5120 (runA.sl.v680 c arg7 arg9 arg10 fh0 fs2 fs3) (runA.sl.v682 c arg7 arg9 arg10 fh0 fs2 fs3) (readGate9 c arg7 arg9 arg10 fh0 fs2 fs3) (readUp9 c arg7 arg9 arg10 fh0 fs2 fs3) x)
  · exact (congrFun (chunk8_eq (k0_pay5 x0 x1) (runA.sl.v633 c arg7 arg9 arg10 fh0 fs2 fs3) (runA.sl.v635 c arg7 arg9 arg10 fh0 fs2 fs3)) x).trans (hid_piece x0 x1 (wIn fh0) 2048 4864 (by omega) (by omega) inb_S1024x2816_S1024x256_0_2048 inb_S1024x5632_S1024x256_0_2048 inb_S1024x5632_S1024x256_0_4864 (runA.sl.v633 c arg7 arg9 arg10 fh0 fs2 fs3) (runA.sl.v635 c arg7 arg9 arg10 fh0 fs2 fs3) (readGate8 c arg7 arg9 arg10 fh0 fs2 fs3) (readUp8 c arg7 arg9 arg10 fh0 fs2 fs3) x)
  · exact (congrFun (chunk7_eq (k0_pay5 x0 x1) (runA.sl.v568 c arg7 arg9 arg10 fh0 fs2 fs3) (runA.sl.v570 c arg7 arg9 arg10 fh0 fs2 fs3)) x).trans (hid_piece x0 x1 (wIn fh0) 1792 4608 (by omega) (by omega) inb_S1024x2816_S1024x256_0_1792 inb_S1024x5632_S1024x256_0_1792 inb_S1024x5632_S1024x256_0_4608 (runA.sl.v568 c arg7 arg9 arg10 fh0 fs2 fs3) (runA.sl.v570 c arg7 arg9 arg10 fh0 fs2 fs3) (readGate7 c arg7 arg9 arg10 fh0 fs2 fs3) (readUp7 c arg7 arg9 arg10 fh0 fs2 fs3) x)
  · exact (congrFun (chunk6_eq (k0_pay5 x0 x1) (runA.sl.v503 c arg7 arg9 arg10 fh0 fs2 fs3) (runA.sl.v505 c arg7 arg9 arg10 fh0 fs2 fs3)) x).trans (hid_piece x0 x1 (wIn fh0) 1536 4352 (by omega) (by omega) inb_S1024x2816_S1024x256_0_1536 inb_S1024x5632_S1024x256_0_1536 inb_S1024x5632_S1024x256_0_4352 (runA.sl.v503 c arg7 arg9 arg10 fh0 fs2 fs3) (runA.sl.v505 c arg7 arg9 arg10 fh0 fs2 fs3) (readGate6 c arg7 arg9 arg10 fh0 fs2 fs3) (readUp6 c arg7 arg9 arg10 fh0 fs2 fs3) x)
  · exact (congrFun (chunk5_eq (k0_pay5 x0 x1) (runA.sl.v438 c arg7 arg9 arg10 fh0 fs2 fs3) (runA.sl.v440 c arg7 arg9 arg10 fh0 fs2 fs3)) x).trans (hid_piece x0 x1 (wIn fh0) 1280 4096 (by omega) (by omega) inb_S1024x2816_S1024x256_0_1280 inb_S1024x5632_S1024x256_0_1280 inb_S1024x5632_S1024x256_0_4096 (runA.sl.v438 c arg7 arg9 arg10 fh0 fs2 fs3) (runA.sl.v440 c arg7 arg9 arg10 fh0 fs2 fs3) (readGate5 c arg7 arg9 arg10 fh0 fs2 fs3) (readUp5 c arg7 arg9 arg10 fh0 fs2 fs3) x)
  · exact (congrFun (chunk4_eq (k0_pay5 x0 x1) (runA.sl.v373 c arg7 arg9 arg10 fh0 fs2 fs3) (runA.sl.v375 c arg7 arg9 arg10 fh0 fs2 fs3)) x).trans (hid_piece x0 x1 (wIn fh0) 1024 3840 (by omega) (by omega) inb_S1024x2816_S1024x256_0_1024 inb_S1024x5632_S1024x256_0_1024 inb_S1024x5632_S1024x256_0_3840 (runA.sl.v373 c arg7 arg9 arg10 fh0 fs2 fs3) (runA.sl.v375 c arg7 arg9 arg10 fh0 fs2 fs3) (readGate4 c arg7 arg9 arg10 fh0 fs2 fs3) (readUp4 c arg7 arg9 arg10 fh0 fs2 fs3) x)
  · exact (congrFun (chunk3_eq (k0_pay5 x0 x1) (runA.sl.v308 c arg7 arg9 arg10 fh0 fs2 fs3) (runA.sl.v310 c arg7 arg9 arg10 fh0 fs2 fs3)) x).trans (hid_piece x0 x1 (wIn fh0) 768 3584 (by omega) (by omega) inb_S1024x2816_S1024x256_0_768 inb_S1024x5632_S1024x256_0_768 inb_S1024x5632_S1024x256_0_3584 (runA.sl.v308 c arg7 arg9 arg10 fh0 fs2 fs3) (runA.sl.v310 c arg7 arg9 arg10 fh0 fs2 fs3) (readGate3 c arg7 arg9 arg10 fh0 fs2 fs3) (readUp3 c arg7 arg9 arg10 fh0 fs2 fs3) x)
  · exact (congrFun (chunk2_eq (k0_pay5 x0 x1) (runA.sl.v243 c arg7 arg9 arg10 fh0 fs2 fs3) (runA.sl.v245 c arg7 arg9 arg10 fh0 fs2 fs3)) x).trans (hid_piece x0 x1 (wIn fh0) 512 3328 (by omega) (by omega) inb_S1024x2816_S1024x256_0_512 inb_S1024x5632_S1024x256_0_512 inb_S1024x5632_S1024x256_0_3328 (runA.sl.v243 c arg7 arg9 arg10 fh0 fs2 fs3) (runA.sl.v245 c arg7 arg9 arg10 fh0 fs2 fs3) (readGate2 c arg7 arg9 arg10 fh0 fs2 fs3) (readUp2 c arg7 arg9 arg10 fh0 fs2 fs3) x)
  · exact (congrFun (chunk1_eq (k0_pay5 x0 x1) (runA.sl.v178 c arg7 arg9 arg10 fh0 fs2 fs3) (runA.sl.v180 c arg7 arg9 arg10 fh0 fs2 fs3)) x).trans (hid_piece x0 x1 (wIn fh0) 256 3072 (by omega) (by omega) inb_S1024x2816_S1024x256_0_256 inb_S1024x5632_S1024x256_0_256 inb_S1024x5632_S1024x256_0_3072 (runA.sl.v178 c arg7 arg9 arg10 fh0 fs2 fs3) (runA.sl.v180 c arg7 arg9 arg10 fh0 fs2 fs3) (readGate1 c arg7 arg9 arg10 fh0 fs2 fs3) (readUp1 c arg7 arg9 arg10 fh0 fs2 fs3) x)
  · exact hid_piece x0 x1 (wIn fh0) 0 2816 (by omega) (by omega) inb_S1024x2816_S1024x256_0_0 inb_S1024x5632_S1024x256_0_0 inb_S1024x5632_S1024x256_0_2816 (runA.sl.v113 c arg7 arg9 arg10 fh0 fs2 fs3) (runA.sl.v115 c arg7 arg9 arg10 fh0 fs2 fs3) (readGate0 c arg7 arg9 arg10 fh0 fs2 fs3) (readUp0 c arg7 arg9 arg10 fh0 fs2 fs3) x

theorem hiddenA_read (x : S1024x2816.Idx) : runA.sl.v738 (F := Ideal) c arg1 harg1 arg2 harg2 arg7 arg9 arg10 arg12 x0 x1 fh0 fs2 fs3 x = hid x0 x1 (wIn fh0) x :=
  (View.read_writes_apply_of_pieces arg12.view arg12.view.junk (hid x0 x1 (wIn fh0)) (runA.sl.HS5_11 (F := Ideal) c arg1 harg1 arg2 harg2 arg7 arg9 arg10 x0 x1 fh0 fs2 fs3) (hiddenA c arg1 harg1 arg2 harg2 arg7 arg9 arg10 x0 x1 fh0 fs2 fs3) _
    (View.cover_of_tiledL (runA.sl.HS5_11 (F := Ideal) c arg1 harg1 arg2 harg2 arg7 arg9 arg10 x0 x1 fh0 fs2 fs3) S1024x256.size (by sl_kernel_rfl) _)).trans (congrArg _ (FfnKernel.emb_origin inb_S1024x2816_S1024x2816_0_0 x))

theorem outA_read (x : S2816x1024.Idx) : runA.sl.v739 (F := Ideal) c arg8 arg11 fh1 fs4 x = wOut fh1 x :=
  (View.read_writes_apply_of_pieces arg8.view arg8.view.junk (wOut fh1) (runA.sl.HS1_11 (F := Ideal) c arg11 fh1 fs4) (keptOut c fh1 arg11 fs4) _
    (View.cover_of_tiledL (runA.sl.HS1_11 (F := Ideal) c arg11 fh1 fs4) S256x1024.size (by sl_kernel_rfl) _)).trans (congrArg _ (FfnKernel.emb_origin inb_S2816x1024_S2816x1024_0_0 x))

/-! ## What the first point leaves -/

/-- After the first point the first weight buffer holds the first weight matrix, -/
theorem runA_keeps0 (i : grid0.Coords) (hc0 : cond0_0 i) (hc1 : ¬cond0_1 i) (f : arg7.view.ty.Contents (Elt Ideal)) :
    arg7.view.read (Elt Ideal) (arg7.view.writes (Elt Ideal) f (runA (F := Ideal) c i arg1 harg1 arg2 harg2 arg5 harg5 arg6 harg6 arg7 harg7 arg8 harg8 arg9 harg9 arg10 harg10 arg11 harg11 arg12 harg12 hc0 hc1 x0 x1 x2 fh0 fh1 fs2 fs3 fs4).1.2.1) = wIn fh0 :=
  funext fun y => View.read_writes_apply_of_pieces arg7.view f (wIn fh0) (runA.sl.HS0_22 (F := Ideal) c arg9 arg10 fh0 fs2 fs3) (keptIn22 c fh0 arg9 fs2 arg10 fs3) y
    (View.cover_of_tiledL (runA.sl.HS0_22 (F := Ideal) c arg9 arg10 fh0 fs2 fs3) S1024x256.size (by sl_kernel_rfl) y)

/-- the second one the second, -/
theorem runA_keeps1 (i : grid0.Coords) (hc0 : cond0_0 i) (hc1 : ¬cond0_1 i) (f : arg8.view.ty.Contents (Elt Ideal)) :
    arg8.view.read (Elt Ideal) (arg8.view.writes (Elt Ideal) f (runA (F := Ideal) c i arg1 harg1 arg2 harg2 arg5 harg5 arg6 harg6 arg7 harg7 arg8 harg8 arg9 harg9 arg10 harg10 arg11 harg11 arg12 harg12 hc0 hc1 x0 x1 x2 fh0 fh1 fs2 fs3 fs4).1.2.2) = wOut fh1 :=
  funext fun y => View.read_writes_apply_of_pieces arg8.view f (wOut fh1) (runA.sl.HS1_11 (F := Ideal) c arg11 fh1 fs4) (keptOut c fh1 arg11 fs4) y
    (View.cover_of_tiledL (runA.sl.HS1_11 (F := Ideal) c arg11 fh1 fs4) S256x1024.size (by sl_kernel_rfl) y)

/-- and the output block its rows' results. -/
theorem runA_out (i : grid0.Coords) (hc0 : cond0_0 i) (hc1 : ¬cond0_1 i) (f : arg6.view.ty.Contents (Elt Ideal)) :
    arg6.view.read (Elt Ideal) (arg6.view.writes (Elt Ideal) f (runA (F := Ideal) c i arg1 harg1 arg2 harg2 arg5 harg5 arg6 harg6 arg7 harg7 arg8 harg8 arg9 harg9 arg10 harg10 arg11 harg11 arg12 harg12 hc0 hc1 x0 x1 x2 fh0 fh1 fs2 fs3 fs4).1.1) = out x0 x1 x2 (wIn fh0) (wOut fh1) := by
  funext y
  refine View.read_writes_apply_of_pieces arg6.view f (out x0 x1 x2 (wIn fh0) (wOut fh1)) [(⟨Rect.unit (s := S1024x1024) (![0, 0] : Fin 2 → ℕ) S1024x1024.size inb_S1024x1024_S1024x1024_0_0,
      k0_pay1 (k0_pay56 (runA.sl.r c arg1 harg1 x0) (runA.sl.v738 c arg1 harg1 arg2 harg2 arg7 arg9 arg10 arg12 x0 x1 fh0 fs2 fs3) (runA.sl.v739 c arg8 arg11 fh1 fs4)) (k0_pay57 (arg5.view.readAt (Elt Ideal) (Rect.unit (s := S1x1024) (![0, 0] : Fin 2 → ℕ) S1x1024.size inb_S1x1024_S1x1024_0_0).toLoadRect (harg5.unread x2)))⟩ : View.Piece (Elt Ideal) S1024x1024 .f32)] ?_ y
    ⟨_, List.mem_cons_self, FfnKernel.mem_origin inb_S1024x1024_S1024x1024_0_0 y⟩
  · refine List.forall_mem_cons.2 ⟨fun x => ?_, fun _ h => absurd h List.not_mem_nil⟩
    rw [rowsA' c arg1 harg1 x0]
    exact out_piece_last x0 x1 x2 (wIn fh0) (wOut fh1) inb_S1024x1024_S1024x1024_0_0 _ _ _ (hiddenA_read c arg1 harg1 arg2 harg2 arg7 arg9 arg10 arg12 x0 x1 fh0 fs2 fs3) (outA_read c arg8 arg11 fh1 fs4) (whole_read arg5 harg5 x2 _) x

/-! ## What a later point leaves, on kept weights `w`, `v` -/

variable (w : Vec Ideal S1024x5632 .bf16) (v : Vec Ideal S2816x1024 .bf16)

theorem rowsB : runB.sl.r_1 (F := Ideal) c arg1 harg1 arg2 harg2 x0 x1 = k0_pay5 x0 x1 := by
  unfold runB.sl.r_1
  exact congrArg₂ k0_pay5 (whole_read arg1 harg1 x0 _) (whole_read arg2 harg2 x1 _)

theorem rowsB' : runB.sl.r (F := Ideal) c arg1 harg1 x0 = k0_pay4 x0 := by
  unfold runB.sl.r
  exact congrArg k0_pay4 (whole_read arg1 harg1 x0 _)

theorem later0_eq (x : Vec Ideal S1024x1024 .f32) (g0 : Vec Ideal S1x1024 .f32) (g u : Vec Ideal S1024x256 .bf16) : k0_pay60 x g0 g u = k0_pay9 (F := Ideal) (k0_pay5 x g0) g u := rfl
theorem later1_eq (x : Vec Ideal S1024x1024 .f32) (g0 : Vec Ideal S1x1024 .f32) (g u : Vec Ideal S1024x256 .bf16) : k0_pay62 (k0_pay61 x g0 g u) = k0_pay9 (F := Ideal) (k0_pay5 x g0) g u := rfl
theorem later2_eq (n : Vec Ideal S1024x1024 .bf16) (g u : Vec Ideal S1024x256 .bf16) : k0_pay63 n g u = k0_pay9 (F := Ideal) n g u := rfl
theorem later3_eq (n : Vec Ideal S1024x1024 .bf16) (g u : Vec Ideal S1024x256 .bf16) : k0_pay64 n g u = k0_pay9 (F := Ideal) n g u := rfl
theorem later4_eq (n : Vec Ideal S1024x1024 .bf16) (g u : Vec Ideal S1024x256 .bf16) : k0_pay66 (k0_pay65 n g u) = k0_pay9 (F := Ideal) n g u := rfl
theorem later5_eq (n : Vec Ideal S1024x1024 .bf16) (g u : Vec Ideal S1024x256 .bf16) : k0_pay67 n g u = k0_pay9 (F := Ideal) n g u := rfl
theorem later6_eq (n : Vec Ideal S1024x1024 .bf16) (g u : Vec Ideal S1024x256 .bf16) : k0_pay68 n g u = k0_pay9 (F := Ideal) n g u := rfl
theorem later7_eq (n : Vec Ideal S1024x1024 .bf16) (g u : Vec Ideal S1024x256 .bf16) : k0_pay70 (k0_pay69 n g u) = k0_pay9 (F := Ideal) n g u := rfl
theorem later8_eq (n : Vec Ideal S1024x1024 .bf16) (g u : Vec Ideal S1024x256 .bf16) : k0_pay71 n g u = k0_pay9 (F := Ideal) n g u := rfl
theorem later9_eq (n : Vec Ideal S1024x1024 .bf16) (g u : Vec Ideal S1024x256 .bf16) : k0_pay72 n g u = k0_pay9 (F := Ideal) n g u := rfl
theorem later10_eq (n : Vec Ideal S1024x1024 .bf16) (g u : Vec Ideal S1024x256 .bf16) : k0_pay2 (k0_pay73 n g u) = k0_pay9 (F := Ideal) n g u := rfl

/-- The hidden channels of a later point's rows, chunk by chunk. -/
theorem hiddenB : ∀ p ∈ runB.sl.HS5_11 (F := Ideal) c arg1 harg1 arg2 harg2 arg7 harg7 x0 x1 w, ∀ x : p.1.shape.Idx, p.2 x = hid x0 x1 w (p.1.emb x) := by
  unfold runB.sl.HS5_11 runB.sl.r_2 runB.sl.r_3 runB.sl.r_4 runB.sl.r_5
  simp only [rowsB]
  refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩⟩⟩⟩⟩⟩⟩⟩
  · exact (congrFun (later10_eq (k0_pay5 x0 x1) (arg7.view.readAt (Elt Ideal) (Rect.unit (s := S1024x5632) (![0, 2560] : Fin 2 → ℕ) S1024x256.size inb_S1024x5632_S1024x256_0_2560).toLoadRect (harg7.unread w)) (arg7.view.readAt (Elt Ideal) (Rect.unit (s := S1024x5632) (![0, 5376] : Fin 2 → ℕ) S1024x256.size inb_S1024x5632_S1024x256_0_5376).toLoadRect (harg7.unread w))) x).trans (hid_piece x0 x1 w 2560 5376 (by omega) (by omega) inb_S1024x2816_S1024x256_0_2560 inb_S1024x5632_S1024x256_0_2560 inb_S1024x5632_S1024x256_0_5376 _ _ (rect_read arg7 harg7 w (Rect.unit (s := S1024x5632) (![0, 2560] : Fin 2 → ℕ) S1024x256.size inb_S1024x5632_S1024x256_0_2560)) (rect_read arg7 harg7 w (Rect.unit (s := S1024x5632) (![0, 5376] : Fin 2 → ℕ) S1024x256.size inb_S1024x5632_S1024x256_0_5376)) x)
  · exact (congrFun (later9_eq (k0_pay5 x0 x1) (arg7.view.readAt (Elt Ideal) (Rect.unit (s := S1024x5632) (![0, 2304] : Fin 2 → ℕ) S1024x256.size inb_S1024x5632_S1024x256_0_2304).toLoadRect (harg7.unread w)) (arg7.view.readAt (Elt Ideal) (Rect.unit (s := S1024x5632) (![0, 5120] : Fin 2 → ℕ) S1024x256.size inb_S1024x5632_S1024x256_0_5120).toLoadRect (harg7.unread w))) x).trans (hid_piece x0 x1 w 2304 5120 (by omega) (by omega) inb_S1024x2816_S1024x256_0_2304 inb_S1024x5632_S1024x256_0_2304 inb_S1024x5632_S1024x256_0_5120 _ _ (rect_read arg7 harg7 w (Rect.unit (s := S1024x5632) (![0, 2304] : Fin 2 → ℕ) S1024x256.size inb_S1024x5632_S1024x256_0_2304)) (rect_read arg7 harg7 w (Rect.unit (s := S1024x5632) (![0, 5120] : Fin 2 → ℕ) S1024x256.size inb_S1024x5632_S1024x256_0_5120)) x)
  · exact (congrFun (later8_eq (k0_pay5 x0 x1) (arg7.view.readAt (Elt Ideal) (Rect.unit (s := S1024x5632) (![0, 2048] : Fin 2 → ℕ) S1024x256.size inb_S1024x5632_S1024x256_0_2048).toLoadRect (harg7.unread w)) (arg7.view.readAt (Elt Ideal) (Rect.unit (s := S1024x5632) (![0, 4864] : Fin 2 → ℕ) S1024x256.size inb_S1024x5632_S1024x256_0_4864).toLoadRect (harg7.unread w))) x).trans (hid_piece x0 x1 w 2048 4864 (by omega) (by omega) inb_S1024x2816_S1024x256_0_2048 inb_S1024x5632_S1024x256_0_2048 inb_S1024x5632_S1024x256_0_4864 _ _ (rect_read arg7 harg7 w (Rect.unit (s := S1024x5632) (![0, 2048] : Fin 2 → ℕ) S1024x256.size inb_S1024x5632_S1024x256_0_2048)) (rect_read arg7 harg7 w (Rect.unit (s := S1024x5632) (![0, 4864] : Fin 2 → ℕ) S1024x256.size inb_S1024x5632_S1024x256_0_4864)) x)
  · exact (congrFun (later7_eq (k0_pay5 x0 x1) (arg7.view.readAt (Elt Ideal) (Rect.unit (s := S1024x5632) (![0, 1792] : Fin 2 → ℕ) S1024x256.size inb_S1024x5632_S1024x256_0_1792).toLoadRect (harg7.unread w)) (arg7.view.readAt (Elt Ideal) (Rect.unit (s := S1024x5632) (![0, 4608] : Fin 2 → ℕ) S1024x256.size inb_S1024x5632_S1024x256_0_4608).toLoadRect (harg7.unread w))) x).trans (hid_piece x0 x1 w 1792 4608 (by omega) (by omega) inb_S1024x2816_S1024x256_0_1792 inb_S1024x5632_S1024x256_0_1792 inb_S1024x5632_S1024x256_0_4608 _ _ (rect_read arg7 harg7 w (Rect.unit (s := S1024x5632) (![0, 1792] : Fin 2 → ℕ) S1024x256.size inb_S1024x5632_S1024x256_0_1792)) (rect_read arg7 harg7 w (Rect.unit (s := S1024x5632) (![0, 4608] : Fin 2 → ℕ) S1024x256.size inb_S1024x5632_S1024x256_0_4608)) x)
  · exact (congrFun (later6_eq (k0_pay5 x0 x1) (arg7.view.readAt (Elt Ideal) (Rect.unit (s := S1024x5632) (![0, 1536] : Fin 2 → ℕ) S1024x256.size inb_S1024x5632_S1024x256_0_1536).toLoadRect (harg7.unread w)) (arg7.view.readAt (Elt Ideal) (Rect.unit (s := S1024x5632) (![0, 4352] : Fin 2 → ℕ) S1024x256.size inb_S1024x5632_S1024x256_0_4352).toLoadRect (harg7.unread w))) x).trans (hid_piece x0 x1 w 1536 4352 (by omega) (by omega) inb_S1024x2816_S1024x256_0_1536 inb_S1024x5632_S1024x256_0_1536 inb_S1024x5632_S1024x256_0_4352 _ _ (rect_read arg7 harg7 w (Rect.unit (s := S1024x5632) (![0, 1536] : Fin 2 → ℕ) S1024x256.size inb_S1024x5632_S1024x256_0_1536)) (rect_read arg7 harg7 w (Rect.unit (s := S1024x5632) (![0, 4352] : Fin 2 → ℕ) S1024x256.size inb_S1024x5632_S1024x256_0_4352)) x)
  · exact (congrFun (later5_eq (k0_pay5 x0 x1) (arg7.view.readAt (Elt Ideal) (Rect.unit (s := S1024x5632) (![0, 1280] : Fin 2 → ℕ) S1024x256.size inb_S1024x5632_S1024x256_0_1280).toLoadRect (harg7.unread w)) (arg7.view.readAt (Elt Ideal) (Rect.unit (s := S1024x5632) (![0, 4096] : Fin 2 → ℕ) S1024x256.size inb_S1024x5632_S1024x256_0_4096).toLoadRect (harg7.unread w))) x).trans (hid_piece x0 x1 w 1280 4096 (by omega) (by omega) inb_S1024x2816_S1024x256_0_1280 inb_S1024x5632_S1024x256_0_1280 inb_S1024x5632_S1024x256_0_4096 _ _ (rect_read arg7 harg7 w (Rect.unit (s := S1024x5632) (![0, 1280] : Fin 2 → ℕ) S1024x256.size inb_S1024x5632_S1024x256_0_1280)) (rect_read arg7 harg7 w (Rect.unit (s := S1024x5632) (![0, 4096] : Fin 2 → ℕ) S1024x256.size inb_S1024x5632_S1024x256_0_4096)) x)
  · exact (congrFun (later4_eq (k0_pay5 x0 x1) (arg7.view.readAt (Elt Ideal) (Rect.unit (s := S1024x5632) (![0, 1024] : Fin 2 → ℕ) S1024x256.size inb_S1024x5632_S1024x256_0_1024).toLoadRect (harg7.unread w)) (arg7.view.readAt (Elt Ideal) (Rect.unit (s := S1024x5632) (![0, 3840] : Fin 2 → ℕ) S1024x256.size inb_S1024x5632_S1024x256_0_3840).toLoadRect (harg7.unread w))) x).trans (hid_piece x0 x1 w 1024 3840 (by omega) (by omega) inb_S1024x2816_S1024x256_0_1024 inb_S1024x5632_S1024x256_0_1024 inb_S1024x5632_S1024x256_0_3840 _ _ (rect_read arg7 harg7 w (Rect.unit (s := S1024x5632) (![0, 1024] : Fin 2 → ℕ) S1024x256.size inb_S1024x5632_S1024x256_0_1024)) (rect_read arg7 harg7 w (Rect.unit (s := S1024x5632) (![0, 3840] : Fin 2 → ℕ) S1024x256.size inb_S1024x5632_S1024x256_0_3840)) x)
  · exact (congrFun (later3_eq (k0_pay5 x0 x1) (arg7.view.readAt (Elt Ideal) (Rect.unit (s := S1024x5632) (![0, 768] : Fin 2 → ℕ) S1024x256.size inb_S1024x5632_S1024x256_0_768).toLoadRect (harg7.unread w)) (arg7.view.readAt (Elt Ideal) (Rect.unit (s := S1024x5632) (![0, 3584] : Fin 2 → ℕ) S1024x256.size inb_S1024x5632_S1024x256_0_3584).toLoadRect (harg7.unread w))) x).trans (hid_piece x0 x1 w 768 3584 (by omega) (by omega) inb_S1024x2816_S1024x256_0_768 inb_S1024x5632_S1024x256_0_768 inb_S1024x5632_S1024x256_0_3584 _ _ (rect_read arg7 harg7 w (Rect.unit (s := S1024x5632) (![0, 768] : Fin 2 → ℕ) S1024x256.size inb_S1024x5632_S1024x256_0_768)) (rect_read arg7 harg7 w (Rect.unit (s := S1024x5632) (![0, 3584] : Fin 2 → ℕ) S1024x256.size inb_S1024x5632_S1024x256_0_3584)) x)
  · exact (congrFun (later2_eq (k0_pay5 x0 x1) (arg7.view.readAt (Elt Ideal) (Rect.unit (s := S1024x5632) (![0, 512] : Fin 2 → ℕ) S1024x256.size inb_S1024x5632_S1024x256_0_512).toLoadRect (harg7.unread w)) (arg7.view.readAt (Elt Ideal) (Rect.unit (s := S1024x5632) (![0, 3328] : Fin 2 → ℕ) S1024x256.size inb_S1024x5632_S1024x256_0_3328).toLoadRect (harg7.unread w))) x).trans (hid_piece x0 x1 w 512 3328 (by omega) (by omega) inb_S1024x2816_S1024x256_0_512 inb_S1024x5632_S1024x256_0_512 inb_S1024x5632_S1024x256_0_3328 _ _ (rect_read arg7 harg7 w (Rect.unit (s := S1024x5632) (![0, 512] : Fin 2 → ℕ) S1024x256.size inb_S1024x5632_S1024x256_0_512)) (rect_read arg7 harg7 w (Rect.unit (s := S1024x5632) (![0, 3328] : Fin 2 → ℕ) S1024x256.size inb_S1024x5632_S1024x256_0_3328)) x)
  · rw [whole_read arg1 harg1 x0, whole_read arg2 harg2 x1]
    exact (congrFun (later1_eq x0 x1 (arg7.view.readAt (Elt Ideal) (Rect.unit (s := S1024x5632) (![0, 256] : Fin 2 → ℕ) S1024x256.size inb_S1024x5632_S1024x256_0_256).toLoadRect (harg7.unread w)) (arg7.view.readAt (Elt Ideal) (Rect.unit (s := S1024x5632) (![0, 3072] : Fin 2 → ℕ) S1024x256.size inb_S1024x5632_S1024x256_0_3072).toLoadRect (harg7.unread w))) x).trans (hid_piece x0 x1 w 256 3072 (by omega) (by omega) inb_S1024x2816_S1024x256_0_256 inb_S1024x5632_S1024x256_0_256 inb_S1024x5632_S1024x256_0_3072 _ _ (rect_read arg7 harg7 w (Rect.unit (s := S1024x5632) (![0, 256] : Fin 2 → ℕ) S1024x256.size inb_S1024x5632_S1024x256_0_256)) (rect_read arg7 harg7 w (Rect.unit (s := S1024x5632) (![0, 3072] : Fin 2 → ℕ) S1024x256.size inb_S1024x5632_S1024x256_0_3072)) x)
  · rw [whole_read arg1 harg1 x0, whole_read arg2 harg2 x1]
    exact (congrFun (later0_eq x0 x1 (arg7.view.readAt (Elt Ideal) (Rect.unit (s := S1024x5632) (![0, 0] : Fin 2 → ℕ) S1024x256.size inb_S1024x5632_S1024x256_0_0).toLoadRect (harg7.unread w)) (arg7.view.readAt (Elt Ideal) (Rect.unit (s := S1024x5632) (![0, 2816] : Fin 2 → ℕ) S1024x256.size inb_S1024x5632_S1024x256_0_2816).toLoadRect (harg7.unread w))) x).trans (hid_piece x0 x1 w 0 2816 (by omega) (by omega) inb_S1024x2816_S1024x256_0_0 inb_S1024x5632_S1024x256_0_0 inb_S1024x5632_S1024x256_0_2816 _ _ (rect_read arg7 harg7 w (Rect.unit (s := S1024x5632) (![0, 0] : Fin 2 → ℕ) S1024x256.size inb_S1024x5632_S1024x256_0_0)) (rect_read arg7 harg7 w (Rect.unit (s := S1024x5632) (![0, 2816] : Fin 2 → ℕ) S1024x256.size inb_S1024x5632_S1024x256_0_2816)) x)

theorem hiddenB_read (x : S1024x2816.Idx) : runB.sl.v144 (F := Ideal) c arg1 harg1 arg2 harg2 arg7 harg7 arg12 x0 x1 w x = hid x0 x1 w x :=
  (View.read_writes_apply_of_pieces arg12.view arg12.view.junk (hid x0 x1 w) (runB.sl.HS5_11 (F := Ideal) c arg1 harg1 arg2 harg2 arg7 harg7 x0 x1 w) (hiddenB c arg1 harg1 arg2 harg2 arg7 harg7 x0 x1 w) _
    (View.cover_of_tiledL (runB.sl.HS5_11 (F := Ideal) c arg1 harg1 arg2 harg2 arg7 harg7 x0 x1 w) S1024x256.size (by sl_kernel_rfl) _)).trans (congrArg _ (FfnKernel.emb_origin inb_S1024x2816_S1024x2816_0_0 x))

/-- A later point leaves its rows' results in the output block. -/
theorem runB_out (i : grid0.Coords) (hc0 : ¬cond0_0 i) (hc1 : cond0_1 i) (f : arg6.view.ty.Contents (Elt Ideal)) :
    arg6.view.read (Elt Ideal) (arg6.view.writes (Elt Ideal) f (runB (F := Ideal) c i arg1 harg1 arg2 harg2 arg5 harg5 arg6 harg6 arg7 harg7 arg8 harg8 arg9 harg9 arg10 harg10 arg11 harg11 arg12 harg12 hc0 hc1 x0 x1 x2 w v fh0 fh1).1) = out x0 x1 x2 w v := by
  funext y
  refine View.read_writes_apply_of_pieces arg6.view f (out x0 x1 x2 w v) [(⟨Rect.unit (s := S1024x1024) (![0, 0] : Fin 2 → ℕ) S1024x1024.size inb_S1024x1024_S1024x1024_0_0,
      k0_pay3 (runB.sl.r c arg1 harg1 x0) (runB.sl.v144 c arg1 harg1 arg2 harg2 arg7 harg7 arg12 x0 x1 w)
        (arg8.view.readAt (Elt Ideal) (Rect.unit (s := S2816x1024) (![0, 0] : Fin 2 → ℕ) S2816x1024.size inb_S2816x1024_S2816x1024_0_0).toLoadRect (harg8.unread v)) (arg5.view.readAt (Elt Ideal) (Rect.unit (s := S1x1024) (![0, 0] : Fin 2 → ℕ) S1x1024.size inb_S1x1024_S1x1024_0_0).toLoadRect (harg5.unread x2))⟩ : View.Piece (Elt Ideal) S1024x1024 .f32)] ?_ y
    ⟨_, List.mem_cons_self, FfnKernel.mem_origin inb_S1024x1024_S1024x1024_0_0 y⟩
  · refine List.forall_mem_cons.2 ⟨fun x => ?_, fun _ h => absurd h List.not_mem_nil⟩
    rw [rowsB' c arg1 harg1 x0]
    exact (congrFun (pay3_eq _ _ _ _) x).trans (out_piece_last x0 x1 x2 w v inb_S1024x1024_S1024x1024_0_0 _ _ _ (hiddenB_read c arg1 harg1 arg2 harg2 arg7 harg7 arg12 x0 x1 w) (fun x => congrFun (whole_read arg8 harg8 v _) x) (whole_read arg5 harg5 x2 _) x)

end

end Cert.LastKernel

end
-- ==== Proof.LastIFrame.lean ====
/- The feed-forward program at the reals: every execution leaves, in each block of the result, what the block's rows determine through the
   weights, which the first grid point rounds and keeps; the argument arrays end unchanged, every semaphore counter at zero. -/
module

public import proofs.«01_k».proof.Proof.LastKernel
public import Idealize.ShloMosaic.Lib.Claim

@[expose] public section

-- membership in a rectangle of production extents (`View.cover_of_tiled`): the elaborator's structural look
-- recurses once per coordinate of the long axes
set_option maxRecDepth 16384

noncomputable section

namespace Cert.LastIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem liveAt0_3 : ∀ t : Fin cfg0.N, cfg0.idle 3 (grid0.coords t) = false :=
  (by decide +kernel : ∀ t : Fin grid0.N, idle0 3 (grid0.coords t) = false)

/-- The first weights as the first point leaves them in the scratch, -/
def keptIn (c : Dev nD) : Vec Ideal S1024x5632 .bf16 := Cert.LastKernel.wIn (V m c main_arg3)
/-- and the second. -/
def keptOut (c : Dev nD) : Vec Ideal S2816x1024 .bf16 := Cert.LastKernel.wOut (V m c main_arg4)
/-- What the body leaves in the output block at point `t`. -/
def left (c : Dev nD) (t : Fin cfg0.N) : Vec Ideal S1024x1024 .f32 := Cert.LastKernel.out (iblk m c 0 t) (iblk m c 1 t) (iblk m c 2 t) (keptIn m c) (keptOut m c)

/-- The invariant before position `n`: at first every scratch at anything; afterwards the two weight buffers at the kept weights. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (keptIn m c) ∗ owns (c : Thread nD τ) scM0_1 fullShare (keptOut m c) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4)))

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) :
    PhiS m c n h = iprop(iprop(owns (c : Thread nD τ) scM0_0 fullShare (keptIn m c) ∗ owns (c : Thread nD τ) scM0_1 fullShare (keptOut m c) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg3) ∗ hbPt0 c hbM0_1 (V m c main_arg4))) := by
  cases n with
  | zero => exact absurd rfl hz
  | succ n => rfl

/-- The proof data on core `c`: the inputs' buffers at their blocks, the output's at what the body leaves. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ t := PhiS m c t.val (Nat.le_of_lt_succ t.isLt)
  q _ := fullShare
  owed _ := 0

/-- The proof data's arrays are what the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = left m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 6400000 in
/-- The body at any point: the first point's run or a later one's, by the point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = PhiS m c (t.val + 1) t.isLt from rfl, PhiS_pos m c (t.val + 1) t.isLt (Nat.succ_ne_zero _)]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · rw [PhiS_castSucc m c t, PhiS_zero m c _ _ hz, PhiD0_eq]
    unfold owns
    iintro ⟨⟨⟨HS0, HS1, ⟨%d8, %e8, -, HS2⟩, ⟨%d9, %e9, -, HS3⟩, ⟨%d10, %e10, -, HS4⟩, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩, ⟨%d3, H3⟩⟩
    iapply ((runA c (grid0.coords t) _ _ _ _ _ _ _ _ _ _ _ _ _ _ _ _ _ _ _ _ ((hcond0_0 t).mpr (by omega)) (fun h => absurd ((hcond0_1 t).mp h) (by omega)) (iblk m c 0 t) (iblk m c 1 t) (iblk m c 2 t) (V m c main_arg3) (V m c main_arg4) e8 e9 e10).2 W _)
    isplitl [H0]; · unfold owns; iexact H0
    isplitl [H1]; · unfold owns; iexact H1
    isplitl [H2]; · unfold owns; iexact H2
    isplitl [H3]; · unfold owns; iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, ⟨%e3, H3⟩, ⟨%es0, HS0⟩, ⟨%es1, HS1⟩, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]
        · unfold owns; iexists _; isplitr; swap; · iexact HS0
          ipureintro; exact Cert.LastKernel.runA_keeps0 _ _ _ _ _ _ _ _ _ _ _ _ _ _ _ _ _ _ _ _ _ _ _ _ _ _ _ _ _ _ _ _ _
        isplitl [HS1]
        · unfold owns; iexists _; isplitr; swap; · iexact HS1
          ipureintro; exact Cert.LastKernel.runA_keeps1 _ _ _ _ _ _ _ _ _ _ _ _ _ _ _ _ _ _ _ _ _ _ _ _ _ _ _ _ _ _ _ _ _
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · unfold owns; iexact H0
    isplitl [H1]; · unfold owns; iexact H1
    isplitl [H2]; · unfold owns; iexact H2
    unfold owns; iexists _; isplitr; swap; · iexact H3
    ipureintro; exact Cert.LastKernel.runA_out _ _ _ _ _ _ _ _ _ _ _ _ _ _ _ _ _ _ _ _ _ _ _ _ _ _ _ _ _ _ _ _ _
  · rw [PhiS_castSucc m c t, PhiS_pos m c _ _ hz]
    iintro ⟨⟨⟨HS0, HS1, HS2, HS3, HS4, HS5⟩, Hg, ⟨Hq0, Hq1, Hq2, Hq3, Hq4, Hq5⟩, ⟨Hh0, Hh1⟩⟩, ⟨%W, -, HW⟩, ⟨%d0, H0⟩, ⟨%d1, H1⟩, ⟨%d2, H2⟩, ⟨%d3, H3⟩⟩
    iapply ((runB c (grid0.coords t) _ _ _ _ _ _ _ _ _ _ _ _ _ _ _ _ _ _ _ _ (fun h => absurd ((hcond0_0 t).mp h) (by omega)) ((hcond0_1 t).mpr (by omega)) (iblk m c 0 t) (iblk m c 1 t) (iblk m c 2 t) _ _ (V m c main_arg3) (V m c main_arg4)).2 W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, ⟨%e3, H3⟩, HS0, HS1, HS2, HS3, HS4, HS5, Hq0, Hq1, Hq2, Hq3, Hq4, Hq5, Hh0, Hh1, ⟨%W', HW'⟩⟩
    isplitl [HS0 HS1 HS2 HS3 HS4 HS5 Hg Hq0 Hq1 Hq2 Hq3 Hq4 Hq5 Hh0 Hh1]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    unfold owns; iexists _; isplitr; swap; · iexact H3
    ipureintro; exact Cert.LastKernel.runB_out _ _ _ _ _ _ _ _ _ _ _ _ _ _ _ _ _ _ _ _ _ _ _ _ _ _ _ _ _ _ _ _

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body at every point, as the launch asks for it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch hands over the invariant before the first point, -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]

/-- and takes back the one after the last, the kept weights forgotten. -/
theorem hout (c : Dev nD) : (dats m 0 c).Φ (Fin.last cfg0.N) ⊢ Pipeline.ΦD osem0 spec0 H0 (V m) c := by
  have hN : cfg0.N ≠ 0 := by have : cfg0.N = 16 := N_0; omega
  rw [show (dats m 0 c).Φ (Fin.last cfg0.N) = PhiS m c cfg0.N (le_refl _) from rfl, PhiS_pos m c _ _ hN, PhiD0_eq]
  iintro ⟨⟨HS0, HS1, HS2, HS3, HS4, HS5⟩, Hg, Hq, Hh⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexact HS5
  isplitl [Hg]; · iexact Hg
  isplitl [Hq]; · iexact Hq
  iexact Hh

-- (implicit arguments are found by unifying the conclusion with this one)
set_option backward.isDefEq.respectTransparency.types false in
/-- The launch: every array of the pipeline ends at what the proof data says, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result array after the run, and the arguments unchanged. -/
theorem run_result : θ_run defs (onTc (τ := τ) (main (F := Ideal))) ⟨m, fun _ => 0, ρ⟩ fun r => ∀ c : Dev nD,
      r.2.mem ((c : Thread nD τ).loc main_v5) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h' c => have h := h'.1; ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main_quiescent m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run_result m ρ)) ((θ_run defs _ _).mono (fun _ h => h.2) (run_main_quiescent m ρ))

end Cert.LastIdeal.Gen

end
-- ==== Proof.LastValue.lean ====
/- The result array of the closing feed-forward kernel. -/
module

public import proofs.«01_k».proof.Proof.LastIFrame
public import Idealize.ShloMosaic.Lib.StableHlo.Run
public import Idealize.ShloMosaic.Lib.StableHlo.ReadAt

@[expose] public section

set_option maxRecDepth 16384

noncomputable section

open Idealize.ShloMosaic Idealize.ShloMosaic.TcCoe Idealize.SL.Sem Cert.Rows
open Cert.LastIdeal Cert.LastIdeal.Gen
open Idealize.ShloMosaic.Pipeline (Dat)

/-! # The closing feed-forward kernel's result array -/

namespace Cert.LastValue

variable (m : (ℓ : Loc nD τ sig) → Buf (Elt Ideal) ℓ)

/-- Row `r` of the tokens, all sequences one after the other. -/
abbrev X (c : Dev nD) (r : Fin 16384) : Fin 1024 → EReal := fun k =>
  (m ((c : Thread nD τ).loc main_arg0) : S2x8192x1024.Idx → EReal) (ix3 ⟨r.val / 8192, by omega⟩ ⟨r.val % 8192, by omega⟩ k)
/-- The gain of the block's norm. -/
abbrev g (c : Dev nD) : Fin 1024 → EReal := fun k => (m ((c : Thread nD τ).loc main_arg1) : S4x3x1024.Idx → EReal) (ix3 3 2 k)
/-- The gain of the closing norm. -/
abbrev g' (c : Dev nD) : Fin 1024 → EReal := fun k => (m ((c : Thread nD τ).loc main_arg2) : S1024.Idx → EReal) (ix1 k)
/-- The first projection's weights. -/
abbrev w (c : Dev nD) : Fin 1024 → Fin 5632 → EReal := fun k j => (m ((c : Thread nD τ).loc main_arg3) : S4x2x1024x5632.Idx → EReal) (ix4 3 1 k j)
/-- The second projection's weights. -/
abbrev o (c : Dev nD) : Fin 2816 → Fin 1024 → EReal := fun f j => (m ((c : Thread nD τ).loc main_arg4) : S4x2x2816x1024.Idx → EReal) (ix4 3 1 f j)

/-- The tokens the kernel's window stages. -/
theorem token_apply (c : Dev nD) (r : Fin 16384) (k : Fin 1024) :
    (V m c main_v0 : S16384x1024.Idx → EReal) (ix2 r k) = X m c r k := by
  have e : (V m c main_v0 : S16384x1024.Idx → EReal) (ix2 r k)
      = shapeCast S16384x1024 (m ((c : Thread nD τ).loc main_arg0) : S2x8192x1024.Idx → EReal) shapeCasts_S2x8192x1024_S16384x1024 (ix2 r k) := by
    unfold V hostOps0
    after_reads_at
  rw [e]
  refine shapeCast_apply _ shapeCasts_S2x8192x1024_S16384x1024 (ix2 r k) (ix3 ⟨r.val / 8192, by omega⟩ ⟨r.val % 8192, by omega⟩ k) ?_
  rewrite [Shape.rowMajor_val_three, Shape.rowMajor_val_two]
  show (r.val / 8192 * 8192 + r.val % 8192) * 1024 + k.val = r.val * 1024 + k.val
  omega

/-- The gain the kernel's window stages. -/
theorem gain_apply (c : Dev nD) (k : Fin 1024) : (V m c main_v4 : S1x1024.Idx → EReal) (ix2 0 k) = g m c k := by
  unfold V hostOps0
  after_reads_at

/-- The closing norm's gain the kernel's window stages. -/
theorem closing_apply (c : Dev nD) (k : Fin 1024) : (V m c main_v3 : S1x1024.Idx → EReal) (ix2 0 k) = g' m c k := by
  unfold V hostOps0
  after_reads_at

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)

theorem lt_points (t : Fin cfg0.N) : t.val < 16 := lt_of_lt_of_eq t.isLt (show cfg0.N = 16 from N_0)

/-- Point `t` stages rows `1024 t …` of the tokens, -/
theorem blk0 (c : Dev nD) (t : Fin cfg0.N) (r k : Fin 1024) (l : Fin 16384) (hl : l.val = 1024 * t.val + r.val) :
    (iblk m c 0 t : Vec Ideal S1024x1024 .f32) (ix2 r k) = X m c l k := by
  obtain ⟨h0, h1⟩ := index0 t
  unfold iblk
  rw [View.read_apply]
  refine Eq.trans ?_ (token_apply m c l k)
  refine congrArg (V m c main_v0) (funext fun a => Fin.ext ?_)
  match a with
  | ⟨0, _⟩ => show win0_0.index t 0 * 1024 + 1 * r.val = l.val; omega
  | ⟨1, _⟩ => show win0_0.index t 1 * 1024 + 1 * k.val = k.val; omega

/-- and the gain. -/
theorem blk1 (c : Dev nD) (t : Fin cfg0.N) (k : Fin 1024) : (iblk m c 1 t : Vec Ideal S1x1024 .f32) (ix2 0 k) = g m c k := by
  obtain ⟨h0, h1⟩ := index1 t
  unfold iblk
  rw [View.read_apply]
  refine Eq.trans ?_ (gain_apply m c k)
  refine congrArg (V m c main_v4) (funext fun a => Fin.ext ?_)
  match a with
  | ⟨0, _⟩ => show win0_1.index t 0 * 1 + 1 * 0 = 0; omega
  | ⟨1, _⟩ => show win0_1.index t 1 * 1024 + 1 * k.val = k.val; omega

/-- and the closing gain. -/
theorem blk2 (c : Dev nD) (t : Fin cfg0.N) (k : Fin 1024) : (iblk m c 2 t : Vec Ideal S1x1024 .f32) (ix2 0 k) = g' m c k := by
  obtain ⟨h0, h1⟩ := index2 t
  unfold iblk
  rw [View.read_apply]
  refine Eq.trans ?_ (closing_apply m c k)
  refine congrArg (V m c main_v3) (funext fun a => Fin.ext ?_)
  match a with
  | ⟨0, _⟩ => show win0_2.index t 0 * 1 + 1 * 0 = 0; omega
  | ⟨1, _⟩ => show win0_2.index t 1 * 1024 + 1 * k.val = k.val; omega

/-- The kept weights are the arguments'. -/
theorem kept_in (c : Dev nD) (k : Fin 1024) (j : Fin 5632) : keptIn m c (ix2 k j) = w m c k j := by
  show (V m c main_arg3 : S4x2x1024x5632.Idx → EReal) (ix4 3 1 k j) = _
  rw [V_main_arg3]
theorem kept_out (c : Dev nD) (f : Fin 2816) (j : Fin 1024) : keptOut m c (ix2 f j) = o m c f j := by
  show (V m c main_arg4 : S4x2x2816x1024.Idx → EReal) (ix4 3 1 f j) = _
  rw [V_main_arg4]

/-- The result: every token's row is the block's, normed. -/
def result (c : Dev nD) : Buf (Elt Ideal) ((c : Thread nD τ).loc main_v5) := fun (y : S16384x1024.Idx) =>
  rowNorm (FfnRow.row (X m c (y 0)) (g m c) (w m c) (o m c)) (g' m c) (y 1)

/-- What point `t` writes back is its block of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  obtain ⟨h0, h1⟩ := index3 t
  have ht := lt_points t
  funext y
  obtain ⟨r, j, rfl⟩ : ∃ (r j : Fin 1024), y = (ix2 r j : S1024x1024.Idx) := ⟨y 0, y 1, eq_ix2 (n0 := 1024) (n1 := 1024) y⟩
  rw [View.read_apply]
  have e : ((cfg0.win 3).blk t).view.emb (ix2 r j : S1024x1024.Idx) = (ix2 ⟨1024 * t.val + r.val, by omega⟩ j : S16384x1024.Idx) := by
    refine funext fun a => Fin.ext ?_
    match a with
    | ⟨0, _⟩ => show win0_3.index t 0 * 1024 + 1 * r.val = 1024 * t.val + r.val; omega
    | ⟨1, _⟩ => show win0_3.index t 1 * 1024 + 1 * j.val = j.val; omega
  rw [e]
  show rowNorm (FfnRow.row (fun k => (iblk m c 0 t : Vec Ideal S1024x1024 .f32) (ix2 r k)) (fun k => (iblk m c 1 t : Vec Ideal S1x1024 .f32) (ix2 0 k))
    (fun k j => keptIn m c (ix2 k j)) (fun f j => keptOut m c (ix2 f j))) (fun k => (iblk m c 2 t : Vec Ideal S1x1024 .f32) (ix2 0 k)) j
    = rowNorm (FfnRow.row (X m c ⟨1024 * t.val + r.val, by omega⟩) (g m c) (w m c) (o m c)) (g' m c) j
  rw [show (fun k => (iblk m c 0 t : Vec Ideal S1024x1024 .f32) (ix2 r k)) = X m c ⟨1024 * t.val + r.val, by omega⟩ from funext fun k => blk0 m c t r k _ rfl,
    show (fun k => (iblk m c 1 t : Vec Ideal S1x1024 .f32) (ix2 0 k)) = g m c from funext (blk1 m c t),
    show (fun k => (iblk m c 2 t : Vec Ideal S1x1024 .f32) (ix2 0 k)) = g' m c from funext (blk2 m c t),
    show (fun k j => keptIn m c (ix2 k j)) = w m c from funext fun k => funext (kept_in m c k),
    show (fun f j => keptOut m c (ix2 f j)) = o m c from funext fun f => funext (kept_out m c f)]

/-- The kernel's result array is the block's. -/
theorem arr (c : Dev nD) : (dats m 0 c).arrAt 3 cfg0.N = result m c := by
  refine (dats m 0 c).arrAt_eq_of_cover 3 (result m c) (fun t _ => flushed_eq m c t) fun (y : S16384x1024.Idx) => ?_
  have h : ∀ i : Fin 16, ∃ t : Fin grid0.N, win0_3.flush t = true ∧ t.val = i.val := by decide +kernel
  have hy : (y 0).val < 16384 := (y 0).isLt
  obtain ⟨t, hf, hi⟩ := h ⟨(y 0).val / 1024, by omega⟩
  obtain ⟨h0, h1⟩ := index3 t
  refine ⟨t, hf, ?_⟩
  show y ∈ ((View.whole main_v5).slice (win0_3.rect t)).set
  rw [View.set_slice_whole, Rect.mem_set_unit]
  have hi' : t.val = (y 0).val / 1024 := hi
  intro a
  match a with
  | ⟨0, _⟩ => show win0_3.index t 0 * 1024 ≤ (y 0).val ∧ (y 0).val < win0_3.index t 0 * 1024 + 1024; omega
  | ⟨1, _⟩ =>
    have : (y 1).val < 1024 := (y 1).isLt
    show win0_3.index t 1 * 1024 ≤ (y 1).val ∧ (y 1).val < win0_3.index t 1 * 1024 + 1024; omega

end Cert.LastValue

end
-- ==== Proof.LastRef.lean ====
/- What the closing feed-forward reference leaves. -/
module

public import proofs.«01_k».proof.Proof.Gen.LastRefIdeal.Read
public import proofs.«01_k».proof.Proof.FfnRow

@[expose] public section

set_option maxRecDepth 16384

noncomputable section

open Idealize.ShloMosaic Idealize.ShloMosaic.TcCoe Idealize.SL.Sem Cert.Rows
open Cert.LastRefIdeal Cert.LastRefIdeal.Gen Cert.LastRefIdeal.Read

/-! # What the closing feed-forward reference's result holds, element by element -/

namespace Cert.LastRef

/-- Row `r` of the tokens, all sequences one after the other. -/
abbrev token (x0 : (⟨S2x8192x1024, .f32⟩ : BufTy).Contents (Elt Ideal)) (r : Fin 16384) : Fin 1024 → EReal :=
  fun k => x0 (ix3 ⟨r.val / 8192, by omega⟩ ⟨r.val % 8192, by omega⟩ k)

theorem token_apply (x0 : (⟨S2x8192x1024, .f32⟩ : BufTy).Contents (Elt Ideal)) (r : Fin 16384) (k : Fin 1024) :
    val_main_v0 (F := Ideal) x0 (ix2 r k) = token x0 r k := by
  rw [val_main_v0_apply]
  refine congrArg x0 (funext fun a => Fin.ext ?_)
  match a with
  | ⟨0, _⟩ => show (r.val * 1024 + k.val) / 8388608 = r.val / 8192; omega
  | ⟨1, _⟩ => show (r.val * 1024 + k.val) / 1024 % 8192 = r.val % 8192; omega
  | ⟨2, _⟩ => show (r.val * 1024 + k.val) % 1024 = k.val; omega

/-- The reference's normed rows. -/
theorem normed (x0 : (⟨S2x8192x1024, .f32⟩ : BufTy).Contents (Elt Ideal)) (x1 : (⟨S4x3x1024, .f32⟩ : BufTy).Contents (Elt Ideal))
    (r : Fin 16384) (j : Fin 1024) :
    val_main_v15 (F := Ideal) x0 x1 (ix2 r j) = rowNorm (token x0 r) (fun k => x1 (ix3 3 2 k)) j := by
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  simp only [token_apply]
  rfl

/-- The reference's first projection. -/
theorem projected (x0 : (⟨S2x8192x1024, .f32⟩ : BufTy).Contents (Elt Ideal)) (x1 : (⟨S4x3x1024, .f32⟩ : BufTy).Contents (Elt Ideal))
    (x3 : (⟨S4x2x1024x5632, .f32⟩ : BufTy).Contents (Elt Ideal)) (r : Fin 16384) (j : Fin 5632) :
    val_main_v20 (F := Ideal) x0 x1 x3 (ix2 r j)
      = FfnRow.proj (token x0 r) (fun k => x1 (ix3 3 2 k)) (fun k j => x3 (ix4 3 1 k j)) j := by
  pointwise [val_main_v20, val_main_v17, val_main_v16]
  simp only [normed]
  rfl

/-- The reference's hidden channels. -/
theorem hidden_apply (x0 : (⟨S2x8192x1024, .f32⟩ : BufTy).Contents (Elt Ideal)) (x1 : (⟨S4x3x1024, .f32⟩ : BufTy).Contents (Elt Ideal))
    (x3 : (⟨S4x2x1024x5632, .f32⟩ : BufTy).Contents (Elt Ideal)) (r : Fin 16384) (f : Fin 2816) :
    val_main_v24 (F := Ideal) x0 x1 x3 (ix2 r f)
      = FfnRow.hidden (token x0 r) (fun k => x1 (ix3 3 2 k)) (fun k j => x3 (ix4 3 1 k j)) f := by
  pointwise [val_main_v24, val_main_v23, val_main_v22, val_main_v21, val_main_call0_v5, val_main_call0_v4, val_main_call0_v3, val_main_call0_v2, val_main_call0_v1, val_main_call0_v0, val_main_call0_cst, val_main_call0_cst_0]
  simp only [projected]
  unfold FfnRow.hidden
  rfl

/-- Before the closing norm, each element is its row's. -/
theorem block_apply (x0 : (⟨S2x8192x1024, .f32⟩ : BufTy).Contents (Elt Ideal)) (x1 : (⟨S4x3x1024, .f32⟩ : BufTy).Contents (Elt Ideal))
    (x3 : (⟨S4x2x1024x5632, .f32⟩ : BufTy).Contents (Elt Ideal)) (x4 : (⟨S4x2x2816x1024, .f32⟩ : BufTy).Contents (Elt Ideal))
    (r : Fin 16384) (j : Fin 1024) :
    val_main_v28 (F := Ideal) x0 x1 x3 x4 (ix2 r j)
      = FfnRow.row (token x0 r) (fun k => x1 (ix3 3 2 k)) (fun k j => x3 (ix4 3 1 k j)) (fun f j => x4 (ix4 3 1 f j)) j := by
  pointwise [val_main_v28, val_main_v27, val_main_v26, val_main_v25, val_main_v19, val_main_v18, val_main_cst_2]
  simp only [hidden_apply, token_apply]
  rfl

/-- Each element of the reference's result is its row's, normed. -/
theorem result_apply (x0 : (⟨S2x8192x1024, .f32⟩ : BufTy).Contents (Elt Ideal)) (x1 : (⟨S4x3x1024, .f32⟩ : BufTy).Contents (Elt Ideal))
    (x2 : (⟨S1024, .f32⟩ : BufTy).Contents (Elt Ideal)) (x3 : (⟨S4x2x1024x5632, .f32⟩ : BufTy).Contents (Elt Ideal)) (x4 : (⟨S4x2x2816x1024, .f32⟩ : BufTy).Contents (Elt Ideal))
    (r : Fin 16384) (j : Fin 1024) :
    val_main_v41 (F := Ideal) x0 x1 x2 x3 x4 (ix2 r j)
      = rowNorm (FfnRow.row (token x0 r) (fun k => x1 (ix3 3 2 k)) (fun k j => x3 (ix4 3 1 k j)) (fun f j => x4 (ix4 3 1 f j))) (fun k => x2 (ix1 k)) j := by
  pointwise [val_main_v41, val_main_v40, val_main_v39, val_main_v38, val_main_v37, val_main_v36, val_main_v35, val_main_v34, val_main_cst_5, val_main_v33, val_main_v32, val_main_cst_4, val_main_v31, val_main_v30, val_main_cst_3, val_main_v29]
  simp only [block_apply]
  rfl

end Cert.LastRef

end
-- ==== Proof.LastAlgebra.lean ====
/- The closing feed-forward kernel and its reference leave the same result. -/
module

public import proofs.«01_k».proof.Defs
public import proofs.«01_k».proof.Proof.Gen.LastIdeal
public import proofs.«01_k».proof.Proof.Gen.LastRefIdeal.Run
public import proofs.«01_k».proof.Proof.LastValue
public import proofs.«01_k».proof.Proof.LastRef

@[expose] public section

noncomputable section

namespace Cert.LastAlgebra

open Idealize.ShloMosaic Idealize.SL.Sem

/-- The kernel's result is the reference's function of the arguments. -/
theorem result_eq (m : (ℓ : Loc Cert.LastIdeal.nD Cert.LastIdeal.τ Cert.LastIdeal.sig) → Buf (Elt Ideal) ℓ) (c : Dev Cert.LastIdeal.nD) :
    LastValue.result m c = Cert.LastRefIdeal.Read.val_main_v41 (F := Ideal)
      (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2))
      (m ((c.tc : Thread Cert.LastIdeal.nD Cert.LastIdeal.τ).loc Cert.LastIdeal.main_arg3)) (m ((c.tc : Thread Cert.LastIdeal.nD Cert.LastIdeal.τ).loc Cert.LastIdeal.main_arg4)) := by
  funext (y : Cert.LastIdeal.S16384x1024.Idx)
  rw [eq_ix2 (n0 := 16384) (n1 := 1024) y]
  exact (LastRef.result_apply _ _ _ _ _ (y 0) (y 1)).symm

/-- The reference keeps its arguments and touches no semaphore. -/
theorem frame_ref : Cert.quiescent_LastRefIdeal (hLastRefIdeal := Cert.LastRefIdeal.Gen.facts) := fun m ρ _ =>
  (θ_run Cert.LastRefIdeal.defs _ _).mono (fun r h => ⟨fun c => (h c).2, sem_eq_zero_of_no_sems (by decide) r.2⟩)
    (Cert.LastRefIdeal.Value.run (F := Ideal) m ρ)

/-- From memories that agree on the arguments, kernel and reference both end with the block's result. -/
theorem algebraic : Cert.algebraic_LastIdeal_LastRefIdeal (hLastIdeal := Cert.LastIdeal.Gen.facts) (hLastRefIdeal := Cert.LastRefIdeal.Gen.facts) := by
  intro m ρ m' ρ' _ hm
  refine ⟨fun c => LastValue.result m c, ?_, ?_⟩
  · refine (θ_run _ _ _).mono (fun _ hr c => ⟨(hr c).1.trans (LastValue.arr m c), (hr c).2⟩) (Cert.LastIdeal.Gen.run_result m ρ)
  · refine (θ_run _ _ _).mono (fun _ hr c => ⟨(hr c).1.trans ?_, (hr c).2⟩) (Cert.LastRefIdeal.Value.run (F := Ideal) m' ρ')
    obtain ⟨h0, h1, h2, h3, h4⟩ := hm c
    refine (Cert.LastRefIdeal.Read.val_main_v41_eq m' c).trans (Eq.trans ?_ (result_eq m c).symm)
    exact congr (congr (congr (congr (congrArg _ h0) h1) h2) h3) h4

end Cert.LastAlgebra

end
-- ==== Proof.lean ====
/- The proof of the certificate's claims. -/
module

public import proofs.«01_k».proof.Defs
public import proofs.«01_k».proof.Proof.Gen.Sc.Frame
public import proofs.«01_k».proof.Proof.Gen.ScIdeal.Frame
public import proofs.«01_k».proof.Proof.Gen.ScRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastRefIdeal
public import proofs.«01_k».proof.Proof.Gen.LastRefIdeal.Run
public import proofs.«01_k».proof.Proof.Gen.LastRefIdeal.Read
public import proofs.«01_k».proof.Proof.ScAlgebra
public import proofs.«01_k».proof.Proof.FfnBFrame
public import proofs.«01_k».proof.Proof.FfnAlgebra
public import proofs.«01_k».proof.Proof.LastBFrame
public import proofs.«01_k».proof.Proof.LastAlgebra
public import Idealize.ShloMosaic.Adequacy
public import Idealize.ShloMosaic.Init

@[expose] public section

noncomputable section

namespace Cert.Proof

open Idealize.ShloMosaic Idealize.SL.Sem Cert.Sc

/-- Every claim of the certificate. -/
theorem claim : Cert.Claim := ⟨Cert.Sc.Gen.facts, Cert.ScIdeal.Gen.facts, Cert.ScRefIdeal.Gen.facts,
  Cert.Ffn.Gen.facts, Cert.FfnIdeal.Gen.facts, Cert.FfnRefIdeal.Gen.facts,
  Cert.Last.Gen.facts, Cert.LastIdeal.Gen.facts, Cert.LastRefIdeal.Gen.facts,
  fun m ρ _ => Cert.Sc.Gen.frame m ρ, fun m ρ _ => Cert.ScIdeal.Gen.frame m ρ, ScAlgebra.frame_ref,
  fun m ρ _ => Cert.Ffn.Gen.frame m ρ, fun m ρ _ => Cert.FfnIdeal.Gen.frame m ρ, FfnAlgebra.frame_ref,
  fun m ρ _ => Cert.Last.Gen.frame m ρ, fun m ρ _ => Cert.LastIdeal.Gen.frame m ρ, LastAlgebra.frame_ref,
  trivial, ScAlgebra.algebraic, trivial, FfnAlgebra.algebraic, trivial, LastAlgebra.algebraic⟩

end Cert.Proof

end
